-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "two_inv_sd" .f32 0x3DD105EC#32 ((2 * (Real.sqrt 384)⁻¹ : ℝ) : EReal)
  ∧ IdealRules.named_const.Statement Cert.KernelIdeal.κ "sd" .f32 0x419CC471#32 ((Real.sqrt 384 : ℝ) : EReal)
  ∧ IdealRules.named_const.Statement Cert.KernelIdeal.κ "eps_inv_sdm1" .f32 0x3DC6D4BF#32 (((19 / 10) * (Real.sqrt 383)⁻¹ : ℝ) : EReal)
  ∧ IdealRules.named_const.Statement Cert.KernelIdeal.κ "inv15" .f32 0x3D888889#32 ((1 / 15 : ℝ) : EReal)
  ∧ IdealRules.named_const.Statement Cert.KernelIdeal.κ "inv_sd" .f32 0x3D5105EC#32 (((Real.sqrt 384)⁻¹ : ℝ) : EReal)

def algebraic_KernelIdeal_ReferenceIdeal_on_covered_pre_well_posed [hKernelIdeal : Cert.KernelIdeal.Facts] [hReferenceIdeal : Cert.ReferenceIdeal.Facts] [hPre_well_posed : Cert.Pre_well_posed.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![3000, 20480]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v4_0) i = v0 c i)
          ∧ (∀ i : (⟨2, ![3000, 20480]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v4_1) i = v1 c i)
          ∧ (∀ i : (⟨2, ![3000, 20480]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v4_2) i = v2 c i)
          ∧ (∀ i : (⟨3, ![3000, 32, 384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v4_3) i = v3 c i)
          ∧ (∀ i : (⟨2, ![3000, 32]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v4_4) i = v4 c i)
          ∧ (∀ i : (⟨2, ![3000, 32]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.KernelIdeal.nD Cert.KernelIdeal.τ).loc Cert.KernelIdeal.main_v4_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![3000, 20480]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v119) i = v0 c i)
          ∧ (∀ i : (⟨2, ![3000, 20480]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v120) i = v1 c i)
          ∧ (∀ i : (⟨2, ![3000, 20480]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v121) i = v2 c i)
          ∧ (∀ i : (⟨3, ![3000, 32, 384]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v31) i = v3 c i)
          ∧ (∀ i : (⟨2, ![3000, 32]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v18) i = v4 c i)
          ∧ (∀ i : (⟨2, ![3000, 32]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.ReferenceIdeal.nD Cert.ReferenceIdeal.τ).loc Cert.ReferenceIdeal.main_v14) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_well_posed : Cert.Pre_well_posed.Facts) (hOn_covered : Cert.On_covered.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_on_covered_pre_well_posed (hKernelIdeal := hKernelIdeal) (hReferenceIdeal := hReferenceIdeal) (hPre_well_posed := hPre_well_posed) (hOn_covered := hOn_covered)
-- ==== On_covered.lean ====
abbrev S3000x384 : Shape := ⟨2, ![3000, 384]⟩
abbrev S32x384 : Shape := ⟨2, ![32, 384]⟩
abbrev S384x384 : Shape := ⟨2, ![384, 384]⟩
abbrev S20480x12 : Shape := ⟨2, ![20480, 12]⟩
abbrev S20480 : Shape := ⟨1, ![20480]⟩
abbrev S_ : Shape := ⟨0, ![]⟩
abbrev S3000x20480 : Shape := ⟨2, ![3000, 20480]⟩
abbrev S3000x32 : Shape := ⟨2, ![3000, 32]⟩
abbrev S3000x32x384 : Shape := ⟨3, ![3000, 32, 384]⟩

class Facts : Prop where
  bcast_S_S3000x20480 : S_.BroadcastsInDim S3000x20480 (![] : Fin 0 → Fin S3000x20480.rank)
  bcast_S_S3000x32 : S_.BroadcastsInDim S3000x32 (![] : Fin 0 → Fin S3000x32.rank)
  bcast_S_S3000x32x384 : S_.BroadcastsInDim S3000x32x384 (![] : Fin 0 → Fin S3000x32x384.rank)

variable [Facts]

def fn {F : FTy → Type} [FloatOps F] (main_arg0 : FVec F S3000x384 .f32) (main_arg1 : FVec F S32x384 .f32) (main_arg2 : FVec F S384x384 .f32) (main_arg3 : FVec F S3000x384 .f32) (main_arg4 : IVec S20480x12 32) (main_arg5 : FVec F S20480 .f32) (main_arg6 : FVec F S20480 .f32) : IVec S3000x20480 1 × IVec S3000x20480 1 × IVec S3000x20480 1 × IVec S3000x32x384 1 × IVec S3000x32 1 × IVec S3000x32 1 :=
  let main_c : IVec S_ 1 := constantI S_ 1 1#1
  let main_v0 : IVec S3000x20480 1 := broadcastInDim S3000x20480 ![] bcast_S_S3000x20480 main_c
  let main_c_0 : IVec S_ 1 := constantI S_ 1 1#1
  let main_v1 : IVec S3000x32 1 := broadcastInDim S3000x32 ![] bcast_S_S3000x32 main_c_0
  let main_c_1 : IVec S_ 1 := constantI S_ 1 0#1
  let main_v2 : IVec S3000x32x384 1 := broadcastInDim S3000x32x384 ![] bcast_S_S3000x32x384 main_c_1
  (main_v0, main_v0, main_v0, main_v2, main_v1, main_v1)
-- ==== Pre_well_posed.lean ====
abbrev S3000x384 : Shape := ⟨2, ![3000, 384]⟩
abbrev S32x384 : Shape := ⟨2, ![32, 384]⟩
abbrev S384x384 : Shape := ⟨2, ![384, 384]⟩
abbrev S20480x12 : Shape := ⟨2, ![20480, 12]⟩
abbrev S20480 : Shape := ⟨1, ![20480]⟩
abbrev S3000x1x384 : Shape := ⟨3, ![3000, 1, 384]⟩
abbrev S1x32x384 : Shape := ⟨3, ![1, 32, 384]⟩
abbrev S3000x32x384 : Shape := ⟨3, ![3000, 32, 384]⟩
abbrev S_ : Shape := ⟨0, ![]⟩
abbrev S3000x32 : Shape := ⟨2, ![3000, 32]⟩

class Facts : Prop where
  bcast_S3000x384_S3000x1x384_0_2 : S3000x384.BroadcastsInDim S3000x1x384 (![0, 2] : Fin 2 → Fin S3000x1x384.rank)
  bcast_S32x384_S1x32x384_1_2 : S32x384.BroadcastsInDim S1x32x384 (![1, 2] : Fin 2 → Fin S1x32x384.rank)
  bcast_S3000x1x384_S3000x32x384_0_1_2 : S3000x1x384.BroadcastsInDim S3000x32x384 (![0, 1, 2] : Fin 3 → Fin S3000x32x384.rank)
  bcast_S1x32x384_S3000x32x384_0_1_2 : S1x32x384.BroadcastsInDim S3000x32x384 (![0, 1, 2] : Fin 3 → Fin S3000x32x384.rank)
  bcast_S_S3000x384 : S_.BroadcastsInDim S3000x384 (![] : Fin 0 → Fin S3000x384.rank)
  bcast_S_S32x384 : S_.BroadcastsInDim S32x384 (![] : Fin 0 → Fin S32x384.rank)
  bcast_S_S384x384 : S_.BroadcastsInDim S384x384 (![] : Fin 0 → Fin S384x384.rank)
  reducesTo_S3000x32x384_S3000x32_d2 : S3000x32x384.ReducesTo [2] S3000x32
  h_S_ : 0 < S_.numel
  bcast_S_S3000x32 : S_.BroadcastsInDim S3000x32 (![] : Fin 0 → Fin S3000x32.rank)
  bcast_S_S20480 : S_.BroadcastsInDim S20480 (![] : Fin 0 → Fin S20480.rank)

variable [Facts]

def fn_part1 {F : FTy → Type} [FloatOps F] (main_arg3 : FVec F S3000x384 .f32) (main_arg6 : FVec F S20480 .f32) (main_v7 : IVec S3000x384 1) (main_v10 : IVec S32x384 1) (main_v13 : IVec S384x384 1) (main_v17 : IVec S3000x32 1) (main_cst_4 : FVec F S_ .f32) : IVec S3000x384 1 × IVec S32x384 1 × IVec S384x384 1 × IVec S3000x32 1 × IVec S3000x384 1 × IVec S20480 1 :=
  let main_v18 : FVec F S3000x384 .f32 := broadcastInDim S3000x384 ![] bcast_S_S3000x384 main_cst_4
  let main_v19 : IVec S3000x384 1 := cmpf .olt main_arg3 main_v18
  let main_cst_5 : FVec F S_ .f32 := constant S_ .f32 0x00000000#32
  let main_v20 : FVec F S20480 .f32 := broadcastInDim S20480 ![] bcast_S_S20480 main_cst_5
  let main_v21 : IVec S20480 1 := cmpf .une main_arg6 main_v20
  (main_v7, main_v10, main_v13, main_v17, main_v19, main_v21)

def fn {F : FTy → Type} [FloatOps F] (main_arg0 : FVec F S3000x384 .f32) (main_arg1 : FVec F S32x384 .f32) (main_arg2 : FVec F S384x384 .f32) (main_arg3 : FVec F S3000x384 .f32) (main_arg4 : IVec S20480x12 32) (main_arg5 : FVec F S20480 .f32) (main_arg6 : FVec F S20480 .f32) : IVec S3000x384 1 × IVec S32x384 1 × IVec S384x384 1 × IVec S3000x32 1 × IVec S3000x384 1 × IVec S20480 1 :=
  let main_v0 : FVec F S3000x1x384 .f32 := broadcastInDim S3000x1x384 ![0, 2] bcast_S3000x384_S3000x1x384_0_2 main_arg0
  let main_v1 : FVec F S1x32x384 .f32 := broadcastInDim S1x32x384 ![1, 2] bcast_S32x384_S1x32x384_1_2 main_arg1
  let main_v2 : FVec F S3000x32x384 .f32 := broadcastInDim S3000x32x384 ![0, 1, 2] bcast_S3000x1x384_S3000x32x384_0_1_2 main_v0
  let main_v3 : FVec F S3000x32x384 .f32 := broadcastInDim S3000x32x384 ![0, 1, 2] bcast_S1x32x384_S3000x32x384_0_1_2 main_v1
  let main_v4 : FVec F S3000x32x384 .f32 := subf main_v2 main_v3
  let main_v5 : FVec F S3000x384 .f32 := Host.absf main_arg0
  let main_cst : FVec F S_ .f32 := constant S_ .f32 0x7F800000#32
  let main_v6 : FVec F S3000x384 .f32 := broadcastInDim S3000x384 ![] bcast_S_S3000x384 main_cst
  let main_v7 : IVec S3000x384 1 := cmpf .olt main_v5 main_v6
  let main_v8 : FVec F S32x384 .f32 := Host.absf main_arg1
  let main_cst_0 : FVec F S_ .f32 := constant S_ .f32 0x7F800000#32
  let main_v9 : FVec F S32x384 .f32 := broadcastInDim S32x384 ![] bcast_S_S32x384 main_cst_0
  let main_v10 : IVec S32x384 1 := cmpf .olt main_v8 main_v9
  let main_v11 : FVec F S384x384 .f32 := Host.absf main_arg2
  let main_cst_1 : FVec F S_ .f32 := constant S_ .f32 0x7F800000#32
  let main_v12 : FVec F S384x384 .f32 := broadcastInDim S384x384 ![] bcast_S_S384x384 main_cst_1
  let main_v13 : IVec S384x384 1 := cmpf .olt main_v11 main_v12
  let main_v14 : FVec F S3000x32x384 .f32 := mulf main_v4 main_v4
  let main_cst_2 : FVec F S_ .f32 := constant S_ .f32 0x00000000#32
  let main_v15 : FVec F S3000x32 .f32 := (fun x v => Host.reduceAdd x v reducesTo_S3000x32x384_S3000x32_d2 h_S_) main_v14 main_cst_2
  let main_cst_3 : FVec F S_ .f32 := constant S_ .f32 0x00000000#32
  let main_v16 : FVec F S3000x32 .f32 := broadcastInDim S3000x32 ![] bcast_S_S3000x32 main_cst_3
  let main_v17 : IVec S3000x32 1 := cmpf .ogt main_v15 main_v16
  let main_cst_4 : FVec F S_ .f32 := constant S_ .f32 0x3F800000#32
  fn_part1 (F := F) main_arg3 main_arg6 main_v7 main_v10 main_v13 main_v17 main_cst_4
-- ==== Kernel.lean ====
abbrev S3000x384 : Shape := ⟨2, ![3000, 384]⟩
abbrev S32x384 : Shape := ⟨2, ![32, 384]⟩
abbrev S384x384 : Shape := ⟨2, ![384, 384]⟩
abbrev S20480x12 : Shape := ⟨2, ![20480, 12]⟩
abbrev S20480 : Shape := ⟨1, ![20480]⟩
abbrev S12x20480 : Shape := ⟨2, ![12, 20480]⟩
abbrev S32x640 : Shape := ⟨2, ![32, 640]⟩
abbrev S3000x20480 : Shape := ⟨2, ![3000, 20480]⟩
abbrev S3000x32x384 : Shape := ⟨3, ![3000, 32, 384]⟩
abbrev S3000x32 : Shape := ⟨2, ![3000, 32]⟩
abbrev S200x384 : Shape := ⟨2, ![200, 384]⟩
abbrev S12x2560 : Shape := ⟨2, ![12, 2560]⟩
abbrev S200x2560 : Shape := ⟨2, ![200, 2560]⟩
abbrev S200x32x384 : Shape := ⟨3, ![200, 32, 384]⟩
abbrev S200x32 : Shape := ⟨2, ![200, 32]⟩
abbrev S32x384x640 : Shape := ⟨3, ![32, 384, 640]⟩
abbrev S32x8x640 : Shape := ⟨3, ![32, 8, 640]⟩
abbrev S4x200x384 : Shape := ⟨3, ![4, 200, 384]⟩
abbrev S4x4x200x128 : Shape := ⟨4, ![4, 4, 200, 128]⟩
abbrev S3x1600x128 : Shape := ⟨3, ![3, 1600, 128]⟩
abbrev S12x640 : Shape := ⟨2, ![12, 640]⟩
abbrev S1x640 : Shape := ⟨2, ![1, 640]⟩
abbrev S1x32x640 : Shape := ⟨3, ![1, 32, 640]⟩
abbrev S640 : Shape := ⟨1, ![640]⟩
abbrev S1x1x640 : Shape := ⟨3, ![1, 1, 640]⟩
abbrev S1x384 : Shape := ⟨2, ![1, 384]⟩
abbrev S200 : Shape := ⟨1, ![200]⟩
abbrev S200x1 : Shape := ⟨2, ![200, 1]⟩
abbrev S1x200x384 : Shape := ⟨3, ![1, 200, 384]⟩
abbrev S200x128 : Shape := ⟨2, ![200, 128]⟩
abbrev S1x1x200x128 : Shape := ⟨4, ![1, 1, 200, 128]⟩
abbrev S1x1600x128 : Shape := ⟨3, ![1, 1600, 128]⟩
abbrev S1600x128 : Shape := ⟨2, ![1600, 128]⟩
abbrev S1x384x256 : Shape := ⟨3, ![1, 384, 256]⟩
abbrev S384x256 : Shape := ⟨2, ![384, 256]⟩
abbrev S200x256 : Shape := ⟨2, ![200, 256]⟩
abbrev S1x1x128 : Shape := ⟨3, ![1, 1, 128]⟩
abbrev S1x128 : Shape := ⟨2, ![1, 128]⟩
abbrev S1x384x128 : Shape := ⟨3, ![1, 384, 128]⟩
abbrev S384x128 : Shape := ⟨2, ![384, 128]⟩
abbrev S6400x128 : Shape := ⟨2, ![6400, 128]⟩
abbrev S200x32x128 : Shape := ⟨3, ![200, 32, 128]⟩

abbrev nBuf : Space → Nat
  | .hbm => 17
  | .vmem => 29
  | .smem => 0
  | _ => 0

abbrev bufTy : (tb : Table) → Fin (tcTables nBuf tb) → BufTy
  | .hbm, ⟨0, _⟩ => ⟨S3000x384, .f32⟩
  | .hbm, ⟨1, _⟩ => ⟨S32x384, .f32⟩
  | .hbm, ⟨2, _⟩ => ⟨S384x384, .f32⟩
  | .hbm, ⟨3, _⟩ => ⟨S3000x384, .f32⟩
  | .hbm, ⟨4, _⟩ => ⟨S20480x12, .i32⟩
  | .hbm, ⟨5, _⟩ => ⟨S20480, .f32⟩
  | .hbm, ⟨6, _⟩ => ⟨S20480, .f32⟩
  | .hbm, ⟨7, _⟩ => ⟨S20480x12, .i32⟩
  | .hbm, ⟨8, _⟩ => ⟨S12x20480, .i32⟩
  | .hbm, ⟨9, _⟩ => ⟨S32x640, .f32⟩
  | .hbm, ⟨10, _⟩ => ⟨S32x640, .f32⟩
  | .hbm, ⟨11, _⟩ => ⟨S3000x20480, .f32⟩
  | .hbm, ⟨12, _⟩ => ⟨S3000x20480, .f32⟩
  | .hbm, ⟨13, _⟩ => ⟨S3000x20480, .f32⟩
  | .hbm, ⟨14, _⟩ => ⟨S3000x32x384, .i8⟩
  | .hbm, ⟨15, _⟩ => ⟨S3000x32, .f32⟩
  | .hbm, ⟨16, _⟩ => ⟨S3000x32, .f32⟩
  | .local _ .vmem, ⟨0, _⟩ => ⟨S200x384, .f32⟩
  | .local _ .vmem, ⟨1, _⟩ => ⟨S200x384, .f32⟩
  | .local _ .vmem, ⟨2, _⟩ => ⟨S200x384, .f32⟩
  | .local _ .vmem, ⟨3, _⟩ => ⟨S200x384, .f32⟩
  | .local _ .vmem, ⟨4, _⟩ => ⟨S32x384, .f32⟩
  | .local _ .vmem, ⟨5, _⟩ => ⟨S384x384, .f32⟩
  | .local _ .vmem, ⟨6, _⟩ => ⟨S12x2560, .i32⟩
  | .local _ .vmem, ⟨7, _⟩ => ⟨S12x2560, .i32⟩
  | .local _ .vmem, ⟨8, _⟩ => ⟨S32x640, .f32⟩
  | .local _ .vmem, ⟨9, _⟩ => ⟨S32x640, .f32⟩
  | .local _ .vmem, ⟨10, _⟩ => ⟨S200x2560, .f32⟩
  | .local _ .vmem, ⟨11, _⟩ => ⟨S200x2560, .f32⟩
  | .local _ .vmem, ⟨12, _⟩ => ⟨S200x2560, .f32⟩
  | .local _ .vmem, ⟨13, _⟩ => ⟨S200x2560, .f32⟩
  | .local _ .vmem, ⟨14, _⟩ => ⟨S200x2560, .f32⟩
  | .local _ .vmem, ⟨15, _⟩ => ⟨S200x2560, .f32⟩
  | .local _ .vmem, ⟨16, _⟩ => ⟨S200x32x384, .i8⟩
  | .local _ .vmem, ⟨17, _⟩ => ⟨S200x32x384, .i8⟩
  | .local _ .vmem, ⟨18, _⟩ => ⟨S200x32, .f32⟩
  | .local _ .vmem, ⟨19, _⟩ => ⟨S200x32, .f32⟩
  | .local _ .vmem, ⟨20, _⟩ => ⟨S200x32, .f32⟩
  | .local _ .vmem, ⟨21, _⟩ => ⟨S200x32, .f32⟩
  | .local _ .vmem, ⟨22, _⟩ => ⟨S32x384x640, .bf16⟩
  | .local _ .vmem, ⟨23, _⟩ => ⟨S32x8x640, .f32⟩
  | .local _ .vmem, ⟨24, _⟩ => ⟨S32x384, .f32⟩
  | .local _ .vmem, ⟨25, _⟩ => ⟨S200x384, .f32⟩
  | .local _ .vmem, ⟨26, _⟩ => ⟨S4x200x384, .bf16⟩
  | .local _ .vmem, ⟨27, _⟩ => ⟨S4x4x200x128, .f32⟩
  | .local _ .vmem, ⟨28, _⟩ => ⟨S3x1600x128, .i32⟩
  | _, _ => ⟨S3000x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![15, 8], ![false, false]⟩

def k0_cond3 (i : grid0.Coords) : BitVec 1 :=
  let arg0 : BitVec 32 := BitVec.ofNat 32 (i 0).val
  let c0_i32_4 : BitVec 32 := 0#32
  let v8 : BitVec 1 := Scalar.cmpi .eq arg0 c0_i32_4
  let v9 : BitVec 32 := Scalar.extui v8
  let c0_i32_5 : BitVec 32 := 0#32
  let v10 : BitVec 1 := Scalar.cmpi .ne v9 c0_i32_5
  v10

def k0_off1 (i : grid0.Coords) (c0_i32_857 : BitVec 32) : Fin 2 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1267 : Index := Scalar.indexCast v1264
  let c0_860 : Index := 0#32
  ![v1267.toNat, 0]
def k0_off2 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1287 : Index := Scalar.indexCast v1264
  let c0_863 : Index := 0#32
  let c0_864 : Index := 0#32
  ![v1287.toNat, 0, 0]
def k0_off3 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1302 : Index := Scalar.indexCast v1264
  let c32 : Index := 32#32
  let c0_868 : Index := 0#32
  ![v1302.toNat, 32, 0]
def k0_off4 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1317 : Index := Scalar.indexCast v1264
  let c64 : Index := 64#32
  let c0_872 : Index := 0#32
  ![v1317.toNat, 64, 0]
def k0_off5 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1332 : Index := Scalar.indexCast v1264
  let c96 : Index := 96#32
  let c0_876 : Index := 0#32
  ![v1332.toNat, 96, 0]
def k0_off6 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1347 : Index := Scalar.indexCast v1264
  let c128_880 : Index := 128#32
  let c0_881 : Index := 0#32
  ![v1347.toNat, 128, 0]
def k0_off7 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1362 : Index := Scalar.indexCast v1264
  let c160 : Index := 160#32
  let c0_885 : Index := 0#32
  ![v1362.toNat, 160, 0]
def k0_off8 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1377 : Index := Scalar.indexCast v1264
  let c192 : Index := 192#32
  let c0_889 : Index := 0#32
  ![v1377.toNat, 192, 0]
def k0_off9 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1392 : Index := Scalar.indexCast v1264
  let c224 : Index := 224#32
  let c0_893 : Index := 0#32
  ![v1392.toNat, 224, 0]
def k0_off10 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1407 : Index := Scalar.indexCast v1264
  let c256_897 : Index := 256#32
  let c0_898 : Index := 0#32
  ![v1407.toNat, 256, 0]
def k0_off11 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1422 : Index := Scalar.indexCast v1264
  let c288 : Index := 288#32
  let c0_902 : Index := 0#32
  ![v1422.toNat, 288, 0]
def k0_off12 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1437 : Index := Scalar.indexCast v1264
  let c320 : Index := 320#32
  let c0_906 : Index := 0#32
  ![v1437.toNat, 320, 0]
def k0_off13 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1452 : Index := Scalar.indexCast v1264
  let c352 : Index := 352#32
  let c0_910 : Index := 0#32
  ![v1452.toNat, 352, 0]
def k0_off14 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1462 : Index := Scalar.indexCast v1264
  let c0_913 : Index := 0#32
  let c0_914 : Index := 0#32
  ![v1462.toNat, 0, 0]
def k0_off15 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1470 : Index := Scalar.indexCast v1264
  let c1_917 : Index := 1#32
  let c0_918 : Index := 0#32
  ![v1470.toNat, 1, 0]
def k0_off16 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1476 : Index := Scalar.indexCast v1264
  let c2_920 : Index := 2#32
  let c0_921 : Index := 0#32
  ![v1476.toNat, 2, 0]
def k0_off17 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1481 : Index := Scalar.indexCast v1264
  let c3_922 : Index := 3#32
  let c0_923 : Index := 0#32
  ![v1481.toNat, 3, 0]
def k0_off18 (i : grid0.Coords) (c0_i32_857 : BitVec 32) : Fin 3 → Nat :=
  let arg1 : BitVec 32 := BitVec.ofNat 32 (i 1).val
  let c4_i32_856 : BitVec 32 := 4#32
  let v1263 : BitVec 32 := Scalar.muli arg1 c4_i32_856
  let v1264 : BitVec 32 := Scalar.addi v1263 c0_i32_857
  let v1492 : Index := Scalar.indexCast v1264
  let c4_926 : Index := 4#32
  let c0_927 : Index := 0#32
  ![v1492.toNat, 4, 0]
def k0_off19 (i : grid0.Coords) (c0_i32_15 : BitVec 32) : Fin 2 → Nat :=
  let arg1 : BitVec 32 := BitVec.ofNat 32 (i 1).val
  let c4_i32 : BitVec 32 := 4#32
  let v19 : BitVec 32 := Scalar.muli arg1 c4_i32
  let v20 : BitVec 32 := Scalar.addi v19 c0_i32_15
  let v21 : Index := Scalar.indexCast v20
  let c0_16 : Index := 0#32
  ![v21.toNat, 0]
def k0_off20 (i : grid0.Coords) : Fin 2 → Nat :=
  let c0_i32_140 : BitVec 32 := 0#32
  let arg1 : BitVec 32 := BitVec.ofNat 32 (i 1).val
  let v341 : BitVec 32 := Scalar.addi c0_i32_140 arg1
  let v344 : Index := Scalar.indexCast v341
  let c0_144 : Index := 0#32
  ![v344.toNat, 0]
def k0_off21 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v368 : Index := Scalar.indexCast v365
  let c0_160 : Index := 0#32
  let c0_161 : Index := 0#32
  ![v368.toNat, 0, 0]
def k0_off22 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v372 : Index := Scalar.indexCast v365
  let c0_163 : Index := 0#32
  let c0_164 : Index := 0#32
  ![v372.toNat, 0, 0]
def k0_off23 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v375 : Index := Scalar.indexCast v365
  let c1_165 : Index := 1#32
  let c0_166 : Index := 0#32
  ![v375.toNat, 1, 0]
def k0_off24 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v378 : Index := Scalar.indexCast v365
  let c2_167 : Index := 2#32
  let c0_168 : Index := 0#32
  ![v378.toNat, 2, 0]
def k0_off25 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v381 : Index := Scalar.indexCast v365
  let c3_169 : Index := 3#32
  let c0_170 : Index := 0#32
  ![v381.toNat, 3, 0]
def k0_off26 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v384 : Index := Scalar.indexCast v365
  let c4 : Index := 4#32
  let c0_171 : Index := 0#32
  ![v384.toNat, 4, 0]
def k0_off27 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v413 : Index := Scalar.indexCast v365
  let c0_194 : Index := 0#32
  let c128 : Index := 128#32
  ![v413.toNat, 0, 128]
def k0_off28 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v416 : Index := Scalar.indexCast v365
  let c1_195 : Index := 1#32
  let c128_196 : Index := 128#32
  ![v416.toNat, 1, 128]
def k0_off29 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v419 : Index := Scalar.indexCast v365
  let c2_197 : Index := 2#32
  let c128_198 : Index := 128#32
  ![v419.toNat, 2, 128]
def k0_off30 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v422 : Index := Scalar.indexCast v365
  let c3_199 : Index := 3#32
  let c128_200 : Index := 128#32
  ![v422.toNat, 3, 128]
def k0_off31 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v425 : Index := Scalar.indexCast v365
  let c4_201 : Index := 4#32
  let c128_202 : Index := 128#32
  ![v425.toNat, 4, 128]
def k0_off32 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v456 : Index := Scalar.indexCast v365
  let c0_228 : Index := 0#32
  let c256 : Index := 256#32
  ![v456.toNat, 0, 256]
def k0_off33 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v460 : Index := Scalar.indexCast v365
  let c0_230 : Index := 0#32
  let c256_231 : Index := 256#32
  ![v460.toNat, 0, 256]
def k0_off34 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v463 : Index := Scalar.indexCast v365
  let c1_232 : Index := 1#32
  let c256_233 : Index := 256#32
  ![v463.toNat, 1, 256]
def k0_off35 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v466 : Index := Scalar.indexCast v365
  let c2_234 : Index := 2#32
  let c256_235 : Index := 256#32
  ![v466.toNat, 2, 256]
def k0_off36 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v469 : Index := Scalar.indexCast v365
  let c3_236 : Index := 3#32
  let c256_237 : Index := 256#32
  ![v469.toNat, 3, 256]
def k0_off37 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v472 : Index := Scalar.indexCast v365
  let c4_238 : Index := 4#32
  let c256_239 : Index := 256#32
  ![v472.toNat, 4, 256]
def k0_off38 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v501 : Index := Scalar.indexCast v365
  let c0_262 : Index := 0#32
  let c384 : Index := 384#32
  ![v501.toNat, 0, 384]
def k0_off39 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v504 : Index := Scalar.indexCast v365
  let c1_263 : Index := 1#32
  let c384_264 : Index := 384#32
  ![v504.toNat, 1, 384]
def k0_off40 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v507 : Index := Scalar.indexCast v365
  let c2_265 : Index := 2#32
  let c384_266 : Index := 384#32
  ![v507.toNat, 2, 384]
def k0_off41 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v510 : Index := Scalar.indexCast v365
  let c3_267 : Index := 3#32
  let c384_268 : Index := 384#32
  ![v510.toNat, 3, 384]
def k0_off42 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v513 : Index := Scalar.indexCast v365
  let c4_269 : Index := 4#32
  let c384_270 : Index := 384#32
  ![v513.toNat, 4, 384]
def k0_off43 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v544 : Index := Scalar.indexCast v365
  let c0_296 : Index := 0#32
  let c512 : Index := 512#32
  ![v544.toNat, 0, 512]
def k0_off44 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v548 : Index := Scalar.indexCast v365
  let c0_298 : Index := 0#32
  let c512_299 : Index := 512#32
  ![v548.toNat, 0, 512]
def k0_off45 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v551 : Index := Scalar.indexCast v365
  let c1_300 : Index := 1#32
  let c512_301 : Index := 512#32
  ![v551.toNat, 1, 512]
def k0_off46 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v554 : Index := Scalar.indexCast v365
  let c2_302 : Index := 2#32
  let c512_303 : Index := 512#32
  ![v554.toNat, 2, 512]
def k0_off47 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v557 : Index := Scalar.indexCast v365
  let c3_304 : Index := 3#32
  let c512_305 : Index := 512#32
  ![v557.toNat, 3, 512]
def k0_off48 (i : grid0.Coords) (c0_i32_156 : BitVec 32) : Fin 3 → Nat :=
  let arg1 : BitVec 32 := BitVec.ofNat 32 (i 1).val
  let c4_i32_155 : BitVec 32 := 4#32
  let v364 : BitVec 32 := Scalar.muli arg1 c4_i32_155
  let v365 : BitVec 32 := Scalar.addi v364 c0_i32_156
  let v560 : Index := Scalar.indexCast v365
  let c4_306 : Index := 4#32
  let c512_307 : Index := 512#32
  ![v560.toNat, 4, 512]
def k0_cond4 (i : grid0.Coords) : BitVec 1 :=
  let arg1 : BitVec 32 := BitVec.ofNat 32 (i 1).val
  let c7_i32 : BitVec 32 := 7#32
  let v1260 : BitVec 1 := Scalar.cmpi .eq arg1 c7_i32
  let v1261 : BitVec 32 := Scalar.extui v1260
  let c0_i32_855 : BitVec 32 := 0#32
  let v1262 : BitVec 1 := Scalar.cmpi .ne v1261 c0_i32_855
  v1262

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S200x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S200x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S12x2560 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S32x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S200x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S200x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S200x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S200x32x384 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S200x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S200x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== KernelIdeal.lean ====
variable {F : FTy → Type} [FloatOps F] [Named F]
def κ : String → Option EReal := fun
  | "eps_inv_sdm1" => some (((19 / 10) * (Real.sqrt 383)⁻¹ : ℝ) : EReal)
  | "inv15" => some ((1 / 15 : ℝ) : EReal)
  | "inv_sd" => some (((Real.sqrt 384)⁻¹ : ℝ) : EReal)
  | "sd" => some ((Real.sqrt 384 : ℝ) : EReal)
  | "two_inv_sd" => some ((2 * (Real.sqrt 384)⁻¹ : ℝ) : EReal)
  | _ => none
-- ==== ReferenceIdeal.lean ====
abbrev S3000x384 : Shape := ⟨2, ![3000, 384]⟩
abbrev S32x384 : Shape := ⟨2, ![32, 384]⟩
abbrev S384x384 : Shape := ⟨2, ![384, 384]⟩
abbrev S20480x12 : Shape := ⟨2, ![20480, 12]⟩
abbrev S20480 : Shape := ⟨1, ![20480]⟩
abbrev S_ : Shape := ⟨0, ![]⟩
abbrev S3000x1x384 : Shape := ⟨3, ![3000, 1, 384]⟩
abbrev S1x32x384 : Shape := ⟨3, ![1, 32, 384]⟩
abbrev S3000x32x384 : Shape := ⟨3, ![3000, 32, 384]⟩
abbrev S3000x32 : Shape := ⟨2, ![3000, 32]⟩
abbrev S3000x32x1 : Shape := ⟨3, ![3000, 32, 1]⟩
abbrev S20480x12x1 : Shape := ⟨3, ![20480, 12, 1]⟩
abbrev S32 : Shape := ⟨1, ![32]⟩
abbrev S1x1x32 : Shape := ⟨3, ![1, 1, 32]⟩
abbrev S20480x12x32 : Shape := ⟨3, ![20480, 12, 32]⟩
abbrev S20480x384 : Shape := ⟨2, ![20480, 384]⟩
abbrev S32x640x384 : Shape := ⟨3, ![32, 640, 384]⟩
abbrev S32x640x3000 : Shape := ⟨3, ![32, 640, 3000]⟩
abbrev S3000x32x640 : Shape := ⟨3, ![3000, 32, 640]⟩
abbrev S32x640 : Shape := ⟨2, ![32, 640]⟩
abbrev S1x32x640 : Shape := ⟨3, ![1, 32, 640]⟩
abbrev S3000x20480 : Shape := ⟨2, ![3000, 20480]⟩

abbrev nBuf : Space → Nat
  | .hbm => 152
  | .vmem => 0
  | .smem => 0
  | _ => 0

abbrev hbmTy0_0 (i : Nat) : BufTy := match i % 128 with
  | 0 => ⟨S3000x384, .f32⟩
  | 1 => ⟨S32x384, .f32⟩
  | 2 => ⟨S384x384, .f32⟩
  | 3 => ⟨S3000x384, .f32⟩
  | 4 => ⟨S20480x12, .i32⟩
  | 5 => ⟨S20480, .f32⟩
  | 6 => ⟨S20480, .f32⟩
  | 7 => ⟨S_, .f32⟩
  | 8 => ⟨S_, .f32⟩
  | 9 => ⟨S_, .f32⟩
  | 10 => ⟨S_, .f32⟩
  | 11 => ⟨S3000x1x384, .f32⟩
  | 12 => ⟨S1x32x384, .f32⟩
  | 13 => ⟨S3000x32x384, .f32⟩
  | 14 => ⟨S3000x32x384, .f32⟩
  | 15 => ⟨S3000x32x384, .f32⟩
  | 16 => ⟨S3000x32x384, .f32⟩
  | 17 => ⟨S_, .f32⟩
  | 18 => ⟨S3000x32, .f32⟩
  | 19 => ⟨S3000x32, .f32⟩
  | 20 => ⟨S3000x32x1, .f32⟩
  | 21 => ⟨S3000x32x384, .f32⟩
  | 22 => ⟨S3000x32x384, .f32⟩
  | 23 => ⟨S3000x32x384, .f32⟩
  | 24 => ⟨S_, .f32⟩
  | 25 => ⟨S3000x32, .f32⟩
  | 26 => ⟨S_, .f32⟩
  | 27 => ⟨S3000x32, .f32⟩
  | 28 => ⟨S3000x32, .f32⟩
  | 29 => ⟨S_, .f32⟩
  | 30 => ⟨S3000x32, .f32⟩
  | 31 => ⟨S3000x32, .f32⟩
  | 32 => ⟨S3000x32x1, .f32⟩
  | 33 => ⟨S3000x32x384, .f32⟩
  | 34 => ⟨S3000x32x384, .f32⟩
  | 35 => ⟨S3000x32x1, .f32⟩
  | 36 => ⟨S3000x32x384, .f32⟩
  | 37 => ⟨S3000x32x384, .f32⟩
  | 38 => ⟨S3000x1x384, .f32⟩
  | 39 => ⟨S3000x32x384, .f32⟩
  | 40 => ⟨S3000x32x384, .f32⟩
  | 41 => ⟨S3000x32x384, .f32⟩
  | 42 => ⟨S_, .f32⟩
  | 43 => ⟨S_, .f32⟩
  | 44 => ⟨S_, .f32⟩
  | 45 => ⟨S3000x32x384, .f32⟩
  | 46 => ⟨S3000x32x384, .f32⟩
  | 47 => ⟨S_, .f32⟩
  | 48 => ⟨S3000x32x384, .f32⟩
  | 49 => ⟨S3000x32x384, .f32⟩
  | 50 => ⟨S3000x32x384, .i32⟩
  | 51 => ⟨S3000x32x384, .i8⟩
  | 52 => ⟨S20480x12x1, .i32⟩
  | 53 => ⟨S32, .i32⟩
  | 54 => ⟨S1x1x32, .i32⟩
  | 55 => ⟨S20480x12x32, .i32⟩
  | 56 => ⟨S20480x12x32, .i32⟩
  | 57 => ⟨S20480x12x32, .i32⟩
  | 58 => ⟨S_, .i32⟩
  | 59 => ⟨S20480x12x32, .i32⟩
  | 60 => ⟨S20480x12x32, .i32⟩
  | 61 => ⟨S20480x384, .i32⟩
  | 62 => ⟨S20480x384, .bf16⟩
  | 63 => ⟨S32x640x384, .bf16⟩
  | 64 => ⟨S3000x32x384, .f32⟩
  | 65 => ⟨S3000x32x384, .bf16⟩
  | 66 => ⟨S32x640x3000, .f32⟩
  | 67 => ⟨S3000x32x640, .f32⟩
  | 68 => ⟨S20480x12, .i32⟩
  | 69 => ⟨S20480x12, .i32⟩
  | 70 => ⟨S_, .i32⟩
  | 71 => ⟨S20480, .i32⟩
  | 72 => ⟨S20480, .f32⟩
  | 73 => ⟨S32x640, .f32⟩
  | 74 => ⟨S_, .i32⟩
  | 75 => ⟨S3000x32, .i32⟩
  | 76 => ⟨S3000x32, .f32⟩
  | 77 => ⟨S_, .f32⟩
  | 78 => ⟨S3000x32, .f32⟩
  | 79 => ⟨S3000x32, .f32⟩
  | 80 => ⟨S3000x32, .f32⟩
  | 81 => ⟨S3000x32, .f32⟩
  | 82 => ⟨S3000x32x1, .f32⟩
  | 83 => ⟨S3000x32x640, .f32⟩
  | 84 => ⟨S3000x32x640, .f32⟩
  | 85 => ⟨S_, .f32⟩
  | 86 => ⟨S3000x32, .f32⟩
  | 87 => ⟨S3000x32, .f32⟩
  | 88 => ⟨S3000x32, .f32⟩
  | 89 => ⟨S3000x32, .f32⟩
  | 90 => ⟨S3000x32x1, .f32⟩
  | 91 => ⟨S1x32x640, .f32⟩
  | 92 => ⟨S3000x32x640, .f32⟩
  | 93 => ⟨S3000x32x640, .f32⟩
  | 94 => ⟨S3000x32x640, .f32⟩
  | 95 => ⟨S3000x32x640, .f32⟩
  | 96 => ⟨S3000x32, .f32⟩
  | 97 => ⟨S3000x32, .f32⟩
  | 98 => ⟨S3000x32, .f32⟩
  | 99 => ⟨S3000x32x1, .f32⟩
  | 100 => ⟨S3000x32x640, .f32⟩
  | 101 => ⟨S3000x32x640, .f32⟩
  | 102 => ⟨S3000x32, .f32⟩
  | 103 => ⟨S3000x32, .f32⟩
  | 104 => ⟨S3000x32x1, .f32⟩
  | 105 => ⟨S3000x32x640, .f32⟩
  | 106 => ⟨S3000x32x640, .f32⟩
  | 107 => ⟨S32x640, .f32⟩
  | 108 => ⟨S1x32x640, .f32⟩
  | 109 => ⟨S32x640, .f32⟩
  | 110 => ⟨S1x32x640, .f32⟩
  | 111 => ⟨S3000x32x1, .f32⟩
  | 112 => ⟨S3000x32x640, .f32⟩
  | 113 => ⟨S3000x32x640, .f32⟩
  | 114 => ⟨S1x32x640, .f32⟩
  | 115 => ⟨S3000x32x1, .f32⟩
  | 116 => ⟨S3000x32x640, .f32⟩
  | 117 => ⟨S3000x32x640, .f32⟩
  | 118 => ⟨S3000x32x640, .f32⟩
  | 119 => ⟨S_, .f32⟩
  | 120 => ⟨S1x32x640, .f32⟩
  | 121 => ⟨S1x32x640, .f32⟩
  | 122 => ⟨S3000x32x640, .f32⟩
  | 123 => ⟨S3000x32x640, .f32⟩
  | 124 => ⟨S3000x32x640, .f32⟩
  | 125 => ⟨S3000x32x640, .f32⟩
  | 126 => ⟨S3000x32x640, .f32⟩
  | 127 => ⟨S_, .f32⟩
  | _ => ⟨S3000x384, .f32⟩

abbrev hbmTy0_1 (i : Nat) : BufTy := match i % 128 with
  | 0 => ⟨S1x32x640, .f32⟩
  | 1 => ⟨S1x32x640, .f32⟩
  | 2 => ⟨S3000x32x640, .f32⟩
  | 3 => ⟨S3000x32x640, .f32⟩
  | 4 => ⟨S3000x32x640, .f32⟩
  | 5 => ⟨S1x32x640, .f32⟩
  | 6 => ⟨S_, .f32⟩
  | 7 => ⟨S1x32x640, .f32⟩
  | 8 => ⟨S1x32x640, .f32⟩
  | 9 => ⟨S1x32x640, .f32⟩
  | 10 => ⟨S3000x32x640, .f32⟩
  | 11 => ⟨S3000x32x640, .f32⟩
  | 12 => ⟨S3000x32x640, .f32⟩
  | 13 => ⟨S3000x32x640, .f32⟩
  | 14 => ⟨S_, .f32⟩
  | 15 => ⟨S_, .f32⟩
  | 16 => ⟨S_, .f32⟩
  | 17 => ⟨S3000x32x640, .f32⟩
  | 18 => ⟨S3000x32x640, .f32⟩
  | 19 => ⟨S3000x32x640, .f32⟩
  | 20 => ⟨S3000x32x640, .f32⟩
  | 21 => ⟨S3000x20480, .f32⟩
  | 22 => ⟨S3000x20480, .f32⟩
  | 23 => ⟨S3000x20480, .f32⟩
  | _ => ⟨S3000x384, .f32⟩

abbrev hbmTy (i : Nat) : BufTy := match i / 128 with
  | 0 => hbmTy0_0 i
  | 1 => hbmTy0_1 i
  | _ => ⟨S3000x384, .f32⟩

abbrev bufTy : (tb : Table) → Fin (tcTables nBuf tb) → BufTy
  | .hbm, ⟨i, _⟩ => hbmTy i
  | _, _ => ⟨S3000x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_8 : Ref sig .tc := ⟨.hbm, 74, rfl⟩
abbrev main_v52 : Ref sig .tc := ⟨.hbm, 75, rfl⟩
abbrev main_v53 : Ref sig .tc := ⟨.hbm, 76, rfl⟩
abbrev main_cst_9 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_cst_11 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_cst_12 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_13 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_14 : Ref sig .tc := ⟨.hbm, 142, rfl⟩
abbrev main_cst_15 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩

abbrev nD : Nat := 1
abbrev τ : Topo := Topo.v7x

variable {F : FTy → Type} [FloatOps F]
-- ==== Proof.KernelRun.lean ====
/- The frame of `Kernel`: its body run once at any grid point, from any contents of the outputs and the scratch
   buffers. The body's first part (the three conditionals that prepare the rotated rows and the unpacked codes)
   is run by itself, for any way its conditionals go; the rest follows it. Nothing is stated of what is computed. -/
module

public import proofs.«01_k».proof.Proof.Gen.Kernel.Skeleton
public import proofs.«01_k».proof.Proof.Gen.Kernel.Launch
public import proofs.«01_k».proof.Proof.Gen.Kernel.Points
public import proofs.«01_k».proof.Proof.Gen.Kernel.Frame

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The buffers the body is handed: the inputs' at their contents, every other at some contents. -/
abbrev Held (c : Dev nD) (arg2 : Memref sig .tc .vmem S200x384 .f32) (arg3 : Memref sig .tc .vmem S200x384 .f32) (arg4 : Memref sig .tc .vmem S32x384 .f32) (arg5 : Memref sig .tc .vmem S384x384 .f32) (arg6 : Memref sig .tc .vmem S12x2560 .i32) (arg7 : Memref sig .tc .vmem S32x640 .f32) (arg8 : Memref sig .tc .vmem S32x640 .f32) (arg9 : Memref sig .tc .vmem S200x2560 .f32) (arg10 : Memref sig .tc .vmem S200x2560 .f32) (arg11 : Memref sig .tc .vmem S200x2560 .f32) (arg12 : Memref sig .tc .vmem S200x32x384 .i8) (arg13 : Memref sig .tc .vmem S200x32 .f32) (arg14 : Memref sig .tc .vmem S200x32 .f32) (arg15 : Memref sig .tc .vmem S32x384x640 .bf16) (arg16 : Memref sig .tc .vmem S32x8x640 .f32) (arg17 : Memref sig .tc .vmem S32x384 .f32) (arg18 : Memref sig .tc .vmem S200x384 .f32) (arg19 : Memref sig .tc .vmem S4x200x384 .bf16) (arg20 : Memref sig .tc .vmem S4x4x200x128 .f32) (arg21 : Memref sig .tc .vmem S3x1600x128 .i32) (x0 : Vec F S200x384 .f32) (x1 : Vec F S200x384 .f32) (x2 : Vec F S32x384 .f32) (x3 : Vec F S384x384 .f32) (x4 : Vec F S12x2560 .i32) (x5 : Vec F S32x640 .f32) (x6 : Vec F S32x640 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))

set_option maxHeartbeats 8000000 in
/-- The body's first part, from any contents, whichever way its three conditionals go. -/
theorem part23_run (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec F S200x384 .f32) (x1 : Vec F S200x384 .f32) (x2 : Vec F S32x384 .f32) (x3 : Vec F S384x384 .f32) (x4 : Vec F S12x2560 .i32) (x5 : Vec F S32x640 .f32) (x6 : Vec F S32x640 .f32)
    (E : Set ℕ) (K : _ → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
      ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K r))
    ⊢ wp frame (wpE (defs₀ (F := F)) Variants.none c none) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [k0_part23_eq_skeleton]; unfold k0_part23_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  set_option sl_exec.squeezeSlice true in sl_exec
  all_goals sl_step
  all_goals iapply Hk
  all_goals
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

set_option maxHeartbeats 8000000 in
/-- The whole body, from any contents, at any grid point. -/
theorem body_run (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec F S200x384 .f32) (x1 : Vec F S200x384 .f32) (x2 : Vec F S32x384 .f32) (x3 : Vec F S384x384 .f32) (x4 : Vec F S12x2560 .i32) (x5 : Vec F S32x640 .f32) (x6 : Vec F S32x640 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
    ⊢ wp frame (wpE (defs₀ (F := F)) Variants.none c none) E (cc0_rabitq_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_rabitq_fused_eq_skeleton]; unfold cc0_rabitq_fused_skel
  simp only [k0_part60_eq_skeleton]; unfold k0_part60_skel
  rw [wp_bind, wp_bind]
  iintro ⟨H0, H1, H2, H3, H4, H5, H6, H7, H8, H9, H10, H11, H12, H13, H14, H15, H16, H17, H18, H19, Hk⟩
  iapply (part23_run c i _ _ _ _ _ _ _ _ _ _ _ _ _ _ _ _ _ _ _ _ _ _ _ _ _ _ _ _ _ _ _ _ _ _ _ _ _ _ _ _ x0 x1 x2 x3 x4 x5 x6 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro %r
  obtain ⟨r1, r2, r3, r4, r5, r6, r7, r8, r9, r10⟩ := r
  dsimp only
  simp only [k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  set_option sl_exec.squeezeSlice true in sl_exec
  all_goals sl_step
  all_goals iapply Hk
  all_goals
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

end Cert.Kernel.Run

end
-- ==== Proof.KernelFrame.lean ====
/- The launch of `Kernel` and its frame: the names of the staging and scratch buffers, the invariant of the region
   with the scratch buffers owned at some contents, and the frame claim from the body's run. -/
module

public import proofs.«01_k».proof.Proof.KernelRun
public import Idealize.ShloMosaic.Lib.Claim

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME from a frame run: for any relational proof data whose arrays are the region-entry contents (`hA`), a run to
    Lib/Pipeline/Frame.lean's `RDat.FramePost` read at the argument arrays — a staged input by the library's
    `RDat.FramePost.arr_in`, an array no window stages by the post's second clause, each then by `V_…` — is the frame
    claim's post at any `F`. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 1 rfl).trans ((hA c 1).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

/-- Each window's current staging memref at point `t`, spelled as the pipeline passes it (`bodyAt0`), and its wholeness. -/
abbrev ms0_0 (t : Fin cfg0.N) : Memref sig .tc .vmem S200x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S384x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x2560 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x640 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x2560 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x2560 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x2560 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S200x32x384 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S200x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S200x32 .f32 := win0_12.stage (cfg0.slots t 12)
abbrev hs0_12 (t : Fin cfg0.N) : (ms0_12 t).IsWhole := hstage0_12 ((cfg0.slots t 12).cast nbuf0_12)
/-- The scratch operands: whole buffers of the kernel's own, passed beside the windows. -/
abbrev scM0_0 : Memref sig .tc .vmem S32x384x640 .bf16 := Memref.whole cc0_scratch0
abbrev scM0_1 : Memref sig .tc .vmem S32x8x640 .f32 := Memref.whole cc0_scratch1
abbrev scM0_2 : Memref sig .tc .vmem S32x384 .f32 := Memref.whole cc0_scratch2
abbrev scM0_3 : Memref sig .tc .vmem S200x384 .f32 := Memref.whole cc0_scratch3
abbrev scM0_4 : Memref sig .tc .vmem S4x200x384 .bf16 := Memref.whole cc0_scratch4
abbrev scM0_5 : Memref sig .tc .vmem S4x4x200x128 .f32 := Memref.whole cc0_scratch5
abbrev scM0_6 : Memref sig .tc .vmem S3x1600x128 .i32 := Memref.whole cc0_scratch6

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The output windows nothing is stated of. -/
def forgets0 : Fin 13 → Bool := fun w => 7 ≤ w.val

/-- The proof data of the one pipeline on core `c`: every input's buffer at its block after the body, the outputs
    at anything, the region's plain invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 8000000 in
/-- The body at any point, from its staging and scratch buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution terminates without a fault, the inputs unchanged, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of_rel m ρ (fun c => (dats m 0 c).toRForget forgets0) (A_eq m)
    ((θ_run defs _ _).mono (fun _ h => h.1) (run_main_quiescent m ρ))) ((θ_run defs _ _).mono (fun _ h => h.2) (run_main_quiescent m ρ))

end Cert.Kernel.Run

end
-- ==== Proof.KernelIdealRun.lean ====
/- The frame of `KernelIdeal`: its body run once at any grid point, from any contents of the outputs and the scratch
   buffers. The body's first part (the three conditionals that prepare the rotated rows and the unpacked codes)
   is run by itself, for any way its conditionals go; the rest follows it. Nothing is stated of what is computed. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The buffers the body is handed: the inputs' at their contents, every other at some contents. -/
abbrev Held (c : Dev nD) (arg2 : Memref sig .tc .vmem S200x384 .f32) (arg3 : Memref sig .tc .vmem S200x384 .f32) (arg4 : Memref sig .tc .vmem S32x384 .f32) (arg5 : Memref sig .tc .vmem S384x384 .f32) (arg6 : Memref sig .tc .vmem S12x2560 .i32) (arg7 : Memref sig .tc .vmem S32x640 .f32) (arg8 : Memref sig .tc .vmem S32x640 .f32) (arg9 : Memref sig .tc .vmem S200x2560 .f32) (arg10 : Memref sig .tc .vmem S200x2560 .f32) (arg11 : Memref sig .tc .vmem S200x2560 .f32) (arg12 : Memref sig .tc .vmem S200x32x384 .i8) (arg13 : Memref sig .tc .vmem S200x32 .f32) (arg14 : Memref sig .tc .vmem S200x32 .f32) (arg15 : Memref sig .tc .vmem S32x384x640 .bf16) (arg16 : Memref sig .tc .vmem S32x8x640 .f32) (arg17 : Memref sig .tc .vmem S32x384 .f32) (arg18 : Memref sig .tc .vmem S200x384 .f32) (arg19 : Memref sig .tc .vmem S4x200x384 .bf16) (arg20 : Memref sig .tc .vmem S4x4x200x128 .f32) (arg21 : Memref sig .tc .vmem S3x1600x128 .i32) (x0 : Vec F S200x384 .f32) (x1 : Vec F S200x384 .f32) (x2 : Vec F S32x384 .f32) (x3 : Vec F S384x384 .f32) (x4 : Vec F S12x2560 .i32) (x5 : Vec F S32x640 .f32) (x6 : Vec F S32x640 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d))

set_option maxHeartbeats 8000000 in
/-- The body's first part, from any contents, whichever way its three conditionals go. -/
theorem part23_run (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec F S200x384 .f32) (x1 : Vec F S200x384 .f32) (x2 : Vec F S32x384 .f32) (x3 : Vec F S384x384 .f32) (x4 : Vec F S12x2560 .i32) (x5 : Vec F S32x640 .f32) (x6 : Vec F S32x640 .f32)
    (E : Set ℕ) (K : _ → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
      ∗ (∀ r, iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K r))
    ⊢ wp frame (wpE (defs₀ (F := F)) Variants.none c none) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [k0_part23_eq_skeleton]; unfold k0_part23_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  set_option sl_exec.squeezeSlice true in sl_exec
  all_goals sl_step
  all_goals iapply Hk
  all_goals
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

set_option maxHeartbeats 8000000 in
/-- The whole body, from any contents, at any grid point. -/
theorem body_run (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec F S200x384 .f32) (x1 : Vec F S200x384 .f32) (x2 : Vec F S32x384 .f32) (x3 : Vec F S384x384 .f32) (x4 : Vec F S12x2560 .i32) (x5 : Vec F S32x640 .f32) (x6 : Vec F S32x640 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
    ⊢ wp frame (wpE (defs₀ (F := F)) Variants.none c none) E (cc0_rabitq_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_rabitq_fused_eq_skeleton]; unfold cc0_rabitq_fused_skel
  simp only [k0_part60_eq_skeleton]; unfold k0_part60_skel
  rw [wp_bind, wp_bind]
  iintro ⟨H0, H1, H2, H3, H4, H5, H6, H7, H8, H9, H10, H11, H12, H13, H14, H15, H16, H17, H18, H19, Hk⟩
  iapply (part23_run c i _ _ _ _ _ _ _ _ _ _ _ _ _ _ _ _ _ _ _ _ _ _ _ _ _ _ _ _ _ _ _ _ _ _ _ _ _ _ _ _ x0 x1 x2 x3 x4 x5 x6 E _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro %r
  obtain ⟨r1, r2, r3, r4, r5, r6, r7, r8, r9, r10⟩ := r
  dsimp only
  simp only [k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  set_option sl_exec.squeezeSlice true in sl_exec
  all_goals sl_step
  all_goals iapply Hk
  all_goals
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    iexists _, _; isplitr; swap; · iexact H19
    ipureintro; rfl

end Cert.KernelIdeal.Run

end
-- ==== Proof.KernelIdealFrame.lean ====
/- The launch of `KernelIdeal` and its frame: the names of the staging and scratch buffers, the invariant of the region
   with the scratch buffers owned at some contents, and the frame claim from the body's run. -/
module

public import proofs.«01_k».proof.Proof.KernelIdealRun
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- THE FRAME from a frame run: for any relational proof data whose arrays are the region-entry contents (`hA`), a run to
    Lib/Pipeline/Frame.lean's `RDat.FramePost` read at the argument arrays — a staged input by the library's
    `RDat.FramePost.arr_in`, an array no window stages by the post's second clause, each then by `V_…` — is the frame
    claim's post at any `F`. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 0 rfl).trans ((hA c 0).trans (V_main_arg0 m c)),
      (Pipeline.RDat.FramePost.arr_in h c 2 rfl).trans ((hA c 2).trans (V_main_arg1 m c)),
      (Pipeline.RDat.FramePost.arr_in h c 3 rfl).trans ((hA c 3).trans (V_main_arg2 m c)),
      (Pipeline.RDat.FramePost.arr_in h c 1 rfl).trans ((hA c 1).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl

/-- Each window's current staging memref at point `t`, spelled as the pipeline passes it (`bodyAt0`), and its wholeness. -/
abbrev ms0_0 (t : Fin cfg0.N) : Memref sig .tc .vmem S200x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S384x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x2560 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x640 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x2560 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x2560 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S200x2560 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S200x32x384 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S200x32 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S200x32 .f32 := win0_12.stage (cfg0.slots t 12)
abbrev hs0_12 (t : Fin cfg0.N) : (ms0_12 t).IsWhole := hstage0_12 ((cfg0.slots t 12).cast nbuf0_12)
/-- The scratch operands: whole buffers of the kernel's own, passed beside the windows. -/
abbrev scM0_0 : Memref sig .tc .vmem S32x384x640 .bf16 := Memref.whole cc0_scratch0
abbrev scM0_1 : Memref sig .tc .vmem S32x8x640 .f32 := Memref.whole cc0_scratch1
abbrev scM0_2 : Memref sig .tc .vmem S32x384 .f32 := Memref.whole cc0_scratch2
abbrev scM0_3 : Memref sig .tc .vmem S200x384 .f32 := Memref.whole cc0_scratch3
abbrev scM0_4 : Memref sig .tc .vmem S4x200x384 .bf16 := Memref.whole cc0_scratch4
abbrev scM0_5 : Memref sig .tc .vmem S4x4x200x128 .f32 := Memref.whole cc0_scratch5
abbrev scM0_6 : Memref sig .tc .vmem S3x1600x128 .i32 := Memref.whole cc0_scratch6

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The output windows nothing is stated of. -/
def forgets0 : Fin 13 → Bool := fun w => 7 ≤ w.val

/-- The proof data of the one pipeline on core `c`: every input's buffer at its block after the body, the outputs
    at anything, the region's plain invariant, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 8000000 in
/-- The body at any point, from its staging and scratch buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: every execution terminates without a fault, the inputs unchanged, every semaphore counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of_rel m ρ (fun c => (dats m 0 c).toRForget forgets0) (A_eq m)
    ((θ_run defs _ _).mono (fun _ h => h.1) (run_main_quiescent m ρ))) ((θ_run defs _ _).mono (fun _ h => h.2) (run_main_quiescent m ρ))

end Cert.KernelIdeal.Run

end
-- ==== Proof.ValPrep.lean ====
/- The first part of the body of `KernelIdeal` run once: what it leaves in the four scratch buffers that prepare the
   work, and what it hands on, as values. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the body's first part leaves: the unpacked codes, the constant rows, the rotated centroids and the rotated
    rows; and the values it hands on to the rest of the body. -/
structure PrepOut (F : FTy → Type) where
  b : Vec F S32x384x640 .bf16
  k : Vec F S32x8x640 .f32
  c : Vec F S32x384 .f32
  r : Vec F S200x384 .f32
  v11 : Vec F S200x384 .f32
  v12 : Vec F S200x384 .f32
  v13 : Vec F S200x384 .f32
  v14 : IVec S200x32 32
  v16 : FVec F S200x32 .f32
  v18 : FVec F S200x32 .f32
  v20 : BitVec 32
  v28 : FVec F S200x384 .f32
  v32 : FVec F S200x1 .f32

set_option maxHeartbeats 8000000 in
/-- The body's first part run from any contents, whichever way its three conditionals go. -/
def prepRun (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec F S200x384 .f32) (x1 : Vec F S200x384 .f32) (x2 : Vec F S32x384 .f32) (x3 : Vec F S384x384 .f32) (x4 : Vec F S12x2560 .i32) (x5 : Vec F S32x640 .f32) (x6 : Vec F S32x640 .f32) (y9 : Vec F S200x2560 .f32) (y10 : Vec F S200x2560 .f32) (y11 : Vec F S200x2560 .f32) (y12 : Vec F S200x32x384 .i8) (y13 : Vec F S200x32 .f32) (y14 : Vec F S200x32 .f32) (xb : Vec F S32x384x640 .bf16) (xk : Vec F S32x8x640 .f32) (xc : Vec F S32x384 .f32) (xr : Vec F S200x384 .f32) (xq : Vec F S4x200x384 .bf16) (xst : Vec F S4x4x200x128 .f32) (xs : Vec F S3x1600x128 .i32) :
    { A : PrepOut F // ∀ (E : Set ℕ) (K : _ → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare xb ∗ owns (c : Thread nD τ) arg16 fullShare xk ∗ owns (c : Thread nD τ) arg17 fullShare xc ∗ owns (c : Thread nD τ) arg18 fullShare xr ∗ owns (c : Thread nD τ) arg19 fullShare xq ∗ owns (c : Thread nD τ) arg20 fullShare xst ∗ owns (c : Thread nD τ) arg21 fullShare xs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare A.b ∗ owns (c : Thread nD τ) arg16 fullShare A.k ∗ owns (c : Thread nD τ) arg17 fullShare A.c ∗ owns (c : Thread nD τ) arg18 fullShare A.r ∗ owns (c : Thread nD τ) arg19 fullShare xq ∗ owns (c : Thread nD τ) arg20 fullShare xst ∗ owns (c : Thread nD τ) arg21 fullShare xs) -∗ K (PSigma.mk (BitVec.ofNat 32 (i 1).val) ⟨A.v11, A.v12, A.v13, A.v14, A.v16, A.v18, A.v20, A.v28, A.v32⟩)))
    ⊢ wp frame (wpE (defs₀ (F := F)) Variants.none c none) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨⟨?_, ?_, ?_, ?_, ?_, ?_, ?_, ?_, ?_, ?_, ?_, ?_, ?_⟩, fun E K => ?run⟩
  case run =>
    simp only [k0_part23_eq_skeleton]; unfold k0_part23_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    set_option sl_exec.squeezeSlice true in sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; swap; · iexact H13
      ipureintro; rfl
    isplitl [H14]
    · iexists _; isplitr; swap; · iexact H14
      ipureintro; rfl
    isplitl [H15]
    · iexists _; isplitr; swap; · iexact H15
      ipureintro; rfl
    isplitl [H16]
    · iexists _; isplitr; swap; · iexact H16
      ipureintro; rfl
    isplitl [H17]
    · iexists _; isplitr; · ipureintro; exact harg19.read_unread _
      iexact H17
    isplitl [H18]
    · iexists _; isplitr; · ipureintro; exact harg20.read_unread _
      iexact H18
    iexists _; isplitr; · ipureintro; exact harg21.read_unread _
    iexact H19

end Cert.KernelIdeal.Val

end
-- ==== Proof.ValBody.lean ====
/- The body of `KernelIdeal` run once, after its first part: what it leaves in every buffer, as values. -/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

public import proofs.«01_k».proof.Proof.ValPrep

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What the rest of the body leaves: the six blocks of results, the codes, the row statistics and the packed words. -/
structure BodyOut (F : FTy → Type) where
  d : Vec F S200x2560 .f32
  bo : Vec F S200x2560 .f32
  ip : Vec F S200x2560 .f32
  co : Vec F S200x32x384 .i8
  de : Vec F S200x32 .f32
  vl : Vec F S200x32 .f32
  cq : Vec F S4x200x384 .bf16
  st : Vec F S4x4x200x128 .f32
  sl : Vec F S3x1600x128 .i32

set_option maxHeartbeats 8000000 in
/-- The body run from any contents, given its first part's run. -/
def bodyRun (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec F S200x384 .f32) (x1 : Vec F S200x384 .f32) (x2 : Vec F S32x384 .f32) (x3 : Vec F S384x384 .f32) (x4 : Vec F S12x2560 .i32) (x5 : Vec F S32x640 .f32) (x6 : Vec F S32x640 .f32) (y9 : Vec F S200x2560 .f32) (y10 : Vec F S200x2560 .f32) (y11 : Vec F S200x2560 .f32) (y12 : Vec F S200x32x384 .i8) (y13 : Vec F S200x32 .f32) (y14 : Vec F S200x32 .f32) (xb : Vec F S32x384x640 .bf16) (xk : Vec F S32x8x640 .f32) (xc : Vec F S32x384 .f32) (xr : Vec F S200x384 .f32) (xq : Vec F S4x200x384 .bf16) (xst : Vec F S4x4x200x128 .f32) (xs : Vec F S3x1600x128 .i32) (v11 : Vec F S200x384 .f32) (v12 : Vec F S200x384 .f32) (v13 : Vec F S200x384 .f32) (v14 : IVec S200x32 32) (v16 : FVec F S200x32 .f32) (v18 : FVec F S200x32 .f32) (v20 : BitVec 32) (v28 : FVec F S200x384 .f32) (v32 : FVec F S200x1 .f32) :
    { A : BodyOut F // ∀ (zb : Vec F S32x384x640 .bf16) (zk : Vec F S32x8x640 .f32) (zc : Vec F S32x384 .f32) (zr : Vec F S200x384 .f32) (E : Set ℕ) (K : PUnit → sProp 𝕄)
      (hp : ∀ (E : Set ℕ) (K : _ → sProp 𝕄), iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare zb ∗ owns (c : Thread nD τ) arg16 fullShare zk ∗ owns (c : Thread nD τ) arg17 fullShare zc ∗ owns (c : Thread nD τ) arg18 fullShare zr ∗ owns (c : Thread nD τ) arg19 fullShare xq ∗ owns (c : Thread nD τ) arg20 fullShare xst ∗ owns (c : Thread nD τ) arg21 fullShare xs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare xb ∗ owns (c : Thread nD τ) arg16 fullShare xk ∗ owns (c : Thread nD τ) arg17 fullShare xc ∗ owns (c : Thread nD τ) arg18 fullShare xr ∗ owns (c : Thread nD τ) arg19 fullShare xq ∗ owns (c : Thread nD τ) arg20 fullShare xst ∗ owns (c : Thread nD τ) arg21 fullShare xs) -∗ K (PSigma.mk (BitVec.ofNat 32 (i 1).val) ⟨v11, v12, v13, v14, v16, v18, v20, v28, v32⟩)))
    ⊢ wp frame (wpE (defs₀ (F := F)) Variants.none c none) E (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare zb ∗ owns (c : Thread nD τ) arg16 fullShare zk ∗ owns (c : Thread nD τ) arg17 fullShare zc ∗ owns (c : Thread nD τ) arg18 fullShare zr ∗ owns (c : Thread nD τ) arg19 fullShare xq ∗ owns (c : Thread nD τ) arg20 fullShare xst ∗ owns (c : Thread nD τ) arg21 fullShare xs
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare A.d ∗ owns (c : Thread nD τ) arg10 fullShare A.bo ∗ owns (c : Thread nD τ) arg11 fullShare A.ip ∗ owns (c : Thread nD τ) arg12 fullShare A.co ∗ owns (c : Thread nD τ) arg13 fullShare A.de ∗ owns (c : Thread nD τ) arg14 fullShare A.vl ∗ owns (c : Thread nD τ) arg15 fullShare xb ∗ owns (c : Thread nD τ) arg16 fullShare xk ∗ owns (c : Thread nD τ) arg17 fullShare xc ∗ owns (c : Thread nD τ) arg18 fullShare xr ∗ owns (c : Thread nD τ) arg19 fullShare A.cq ∗ owns (c : Thread nD τ) arg20 fullShare A.st ∗ owns (c : Thread nD τ) arg21 fullShare A.sl) -∗ K PUnit.unit))
    ⊢ wp frame (wpE (defs₀ (F := F)) Variants.none c none) E (cc0_rabitq_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨⟨?_, ?_, ?_, ?_, ?_, ?_, ?_, ?_, ?_⟩, fun zb zk zc zr E K hp => ?run⟩
  case run =>
    simp only [cc0_rabitq_fused_eq_skeleton]; unfold cc0_rabitq_fused_skel
    simp only [k0_part60_eq_skeleton]; unfold k0_part60_skel
    rw [wp_bind, wp_bind]
    iintro ⟨H0, H1, H2, H3, H4, H5, H6, H7, H8, H9, H10, H11, H12, H13, H14, H15, H16, H17, H18, H19, Hk⟩
    iapply (hp E _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H0, H1, H2, H3, H4, H5, H6, H7, H8, H9, H10, H11, H12, H13, H14, H15, H16, H17, H18, H19⟩
    dsimp only
    simp only [k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton]
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H5 with ⟨%f5, %hf5, H5⟩
    icases H6 with ⟨%f6, %hf6, H6⟩
    icases H7 with ⟨%f7, %hf7, H7⟩
    icases H8 with ⟨%f8, %hf8, H8⟩
    icases H9 with ⟨%f9, %hf9, H9⟩
    icases H10 with ⟨%f10, %hf10, H10⟩
    icases H11 with ⟨%f11, %hf11, H11⟩
    icases H12 with ⟨%f12, %hf12, H12⟩
    icases H13 with ⟨%f13, %hf13, H13⟩
    icases H14 with ⟨%f14, %hf14, H14⟩
    icases H15 with ⟨%f15, %hf15, H15⟩
    icases H16 with ⟨%f16, %hf16, H16⟩
    icases H17 with ⟨%f17, %hf17, H17⟩
    icases H18 with ⟨%f18, %hf18, H18⟩
    icases H19 with ⟨%f19, %hf19, H19⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    set_option sl_exec.squeezeSlice true in sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; swap; · iexact H17
      ipureintro; rfl
    isplitl [H18]
    · iexists _; isplitr; swap; · iexact H18
      ipureintro; rfl
    iexists _; isplitr; swap; · iexact H19
    ipureintro; rfl

end Cert.KernelIdeal.Val

end
-- ==== Proof.ValSpec.lean ====
module
public import proofs.«01_k».proof.Proof.ValBody
public import Idealize.ShloMosaic.Lib.Pointwise
public import Idealize.ShloMosaic.Lib.WholeRead
public import Idealize.ShloMosaic.Lib.VecWindow
@[expose] public section
noncomputable section
namespace Cert.KernelIdeal.Val
open Idealize.ShloMosaic Idealize.ShloMosaic.TcCoe Idealize.ShloMosaic.Tactic
open Cert.KernelIdeal.Gen

/-- The cluster that the body treats `c`-th at a point. -/
def kk (i : grid0.Coords) (c : Fin 4) : Fin 32 := ⟨4 * (i 1).val + c.val, by have := (i 1).isLt; have h : grid0.bound 1 = 8 := rfl; omega⟩

/-- One row of a 32×384 array. -/
def row1 (X : Vec Ideal S32x384 .f32) (k : Fin 32) : Vec Ideal S1x384 .f32 := fun x => X (ix2 k (x 1))

theorem cond_g : ∀ n : Fin 8, (Scalar.cmpi .ne (Scalar.extui (Scalar.cmpi .eq (BitVec.ofNat 32 n.val) 0#32)) 0#32 = 1#1) ↔ n.val = 0 := by decide

theorem cond_gi : ∀ (n : Fin 8) (m : Fin 15), (Scalar.cmpi .ne (Scalar.extui (Scalar.andi (Scalar.cmpi .eq (BitVec.ofNat 32 n.val) 0#32) (Scalar.cmpi .eq (BitVec.ofNat 32 m.val) 0#32))) 0#32 = 1#1) ↔ n.val = 0 ∧ m.val = 0 := by decide

theorem cond3 (i : grid0.Coords) : k0_cond3 i = 1#1 ↔ (i 0).val = 0 := by
  have h : ∀ m : Fin 15, (Scalar.cmpi .ne (Scalar.extui (Scalar.cmpi .eq (BitVec.ofNat 32 m.val) 0#32)) 0#32 = 1#1) ↔ m.val = 0 := by decide
  exact h (i 0)

theorem cond4 (i : grid0.Coords) : k0_cond4 i = 1#1 ↔ (i 1).val = 7 := by
  have h : ∀ m : Fin 8, (Scalar.cmpi .ne (Scalar.extui (Scalar.cmpi .eq (BitVec.ofNat 32 m.val) 7#32)) 0#32 = 1#1) ↔ m.val = 7 := by decide
  exact h (i 1)

theorem off19_eq (i : grid0.Coords) (c : Fin 4) : k0_off19 i (BitVec.ofNat 32 c.val) = ![4 * (i 1).val + c.val, 0] := by
  have h : ∀ (n : Fin 8) (c : Fin 4), (Scalar.indexCast (Scalar.addi (Scalar.muli (BitVec.ofNat 32 n.val) 4#32) (BitVec.ofNat 32 c.val))).toNat = 4 * n.val + c.val := by decide
  unfold k0_off19
  exact congrArg (fun n => ![n, 0]) (h (i 1) c)

/-- The difference of a row's rotation and a rotated centroid. -/
def Dv (xr : Vec Ideal S200x384 .f32) (xc : Vec Ideal S32x384 .f32) (k : Fin 32) : FVec Ideal S200x384 .f32 := k0_pay114 xr (row1 xc k)
/-- The norm of the difference of a row and a centroid. -/
def Nv (x0 : Vec Ideal S200x384 .f32) (x2 : Vec Ideal S32x384 .f32) (k : Fin 32) : FVec Ideal S200x1 .f32 := k0_pay115 x0 (row1 x2 k)

/-- A load at a unit-stride rectangle reads the elements under it. -/
theorem ldf {s : Shape} {e : EltTy} (v : View sig .tc .vmem s e) (f : v.ty.Contents (Elt Ideal)) {off o size : Fin s.rank → ℕ}
    (inb : ∀ a, off a + size a ≤ s.size a) (e : off = o) (x : (Rect.unit off size inb).toLoadRect.shape.Idx) (y : s.Idx) (hy : ∀ a, (y a).val = o a + (x a).val) :
    View.readAt (Elt Ideal) v (Rect.unit (s := s) off size inb).toLoadRect f x = View.read (Elt Ideal) v f y := by
  subst e
  rw [View.readAt_apply]
  congr 1
  funext a
  apply Fin.ext
  rw [hy a]
  show off a + 1 * (x a).val = _
  omega

/-- The same, of a whole buffer at named contents. -/
theorem ld {s : Shape} {e : EltTy} (m : Memref sig .tc .vmem s e) (h : m.IsWhole) (X : Vec Ideal s e) {off o size : Fin s.rank → ℕ}
    (inb : ∀ a, off a + size a ≤ s.size a) (e : off = o) (x : (Rect.unit off size inb).toLoadRect.shape.Idx) (y : s.Idx) (hy : ∀ a, (y a).val = o a + (x a).val) :
    View.readAt (Elt Ideal) m.view (Rect.unit (s := s) off size inb).toLoadRect (h.unread X) x = X y := by
  rw [ldf m.view _ inb e x y hy, Memref.IsWhole.read_unread]

/-- A load of one row of a 32×384 buffer. -/
theorem load_rowf (v : View sig .tc .vmem S32x384 .f32) (f : v.ty.Contents (Elt Ideal)) (i : grid0.Coords) (c : Fin 4)
    (inb : ∀ a, k0_off19 i (BitVec.ofNat 32 c.val) a + S1x384.size a ≤ S32x384.size a) :
    View.readAt (Elt Ideal) v (Rect.unit (s := S32x384) (k0_off19 i (BitVec.ofNat 32 c.val)) S1x384.size inb).toLoadRect f = row1 (View.read (Elt Ideal) v f) (kk i c) := by
  funext x
  refine ldf v f inb (off19_eq i c) x _ fun a => ?_
  have h0 : (x 0).val < 1 := (x 0).isLt
  match a with
  | 0 => show 4 * (i 1).val + c.val = 4 * (i 1).val + c.val + (x 0).val; omega
  | 1 => show (x 1).val = 0 + (x 1).val; omega

theorem load_row (m : Memref sig .tc .vmem S32x384 .f32) (h : m.IsWhole) (X : Vec Ideal S32x384 .f32) (i : grid0.Coords) (c : Fin 4)
    (inb : ∀ a, k0_off19 i (BitVec.ofNat 32 c.val) a + S1x384.size a ≤ S32x384.size a) :
    View.readAt (Elt Ideal) m.view (Rect.unit (s := S32x384) (k0_off19 i (BitVec.ofNat 32 c.val)) S1x384.size inb).toLoadRect (h.unread X) = row1 X (kk i c) := by
  rw [load_rowf, Memref.IsWhole.read_unread]

/-- The lane of each element of a 200×32 block. -/
def lanes : IVec S200x32 32 := iota .tc S200x32 32 [1]

theorem kk_word (i : grid0.Coords) (c : Fin 4) : Scalar.addi (Scalar.muli (BitVec.ofNat 32 (i 1).val) 4#32) (BitVec.ofNat 32 c.val) = BitVec.ofNat 32 (kk i c).val := by
  have h : ∀ (n : Fin 8) (c : Fin 4), Scalar.addi (Scalar.muli (BitVec.ofNat 32 n.val) 4#32) (BitVec.ofNat 32 c.val) = BitVec.ofNat 32 (4 * n.val + c.val) := by decide
  exact h (i 1) c

theorem inb19 (i : grid0.Coords) (c : Fin 4) : ∀ a, k0_off19 i (BitVec.ofNat 32 c.val) a + S1x384.size a ≤ S32x384.size a := by
  intro a
  have e := congrFun (off19_eq i c) a
  have h1 : (i 1).val < 8 := (i 1).isLt
  have h2 := c.isLt
  match a with
  | 0 =>
    have e : k0_off19 i (BitVec.ofNat 32 c.val) 0 = 4 * (i 1).val + c.val := e
    show k0_off19 i (BitVec.ofNat 32 c.val) 0 + 1 ≤ 32; omega
  | 1 =>
    have e : k0_off19 i (BitVec.ofNat 32 c.val) 1 = 0 := e
    show k0_off19 i (BitVec.ofNat 32 c.val) 1 + 384 ≤ 384; omega

/-- `Dv` of a loaded row. -/
def Dl (m : Memref sig .tc .vmem S32x384 .f32) (h : m.IsWhole) (i : grid0.Coords) (xr : Vec Ideal S200x384 .f32) (xc : Vec Ideal S32x384 .f32) (c : Fin 4) : FVec Ideal S200x384 .f32 :=
  k0_pay114 xr (View.readAt (Elt Ideal) m.view (Rect.unit (s := S32x384) (k0_off19 i (BitVec.ofNat 32 c.val)) S1x384.size (inb19 i c)).toLoadRect (h.unread xc))

/-- `Nv` of a loaded row. -/
def Nl (m : Memref sig .tc .vmem S32x384 .f32) (h : m.IsWhole) (i : grid0.Coords) (x0 : Vec Ideal S200x384 .f32) (x2 : Vec Ideal S32x384 .f32) (c : Fin 4) : FVec Ideal S200x1 .f32 :=
  k0_pay115 x0 (View.readAt (Elt Ideal) m.view (Rect.unit (s := S32x384) (k0_off19 i (BitVec.ofNat 32 c.val)) S1x384.size (inb19 i c)).toLoadRect (h.unread x2))

theorem Dl_eq (m : Memref sig .tc .vmem S32x384 .f32) (h : m.IsWhole) (i : grid0.Coords) (xr : Vec Ideal S200x384 .f32) (xc : Vec Ideal S32x384 .f32) (c : Fin 4) :
    Dl m h i xr xc c = Dv xr xc (kk i c) := congrArg (k0_pay114 xr) (load_row m h xc i c _)

theorem Nl_eq (m : Memref sig .tc .vmem S32x384 .f32) (h : m.IsWhole) (i : grid0.Coords) (x0 : Vec Ideal S200x384 .f32) (x2 : Vec Ideal S32x384 .f32) (c : Fin 4) :
    Nl m h i x0 x2 c = Nv x0 x2 (kk i c) := congrArg (k0_pay115 x0) (load_row m h x2 i c _)

/-- Four columns of a block replaced. -/
def cols (v14 : IVec S200x32 32) (v16 : FVec Ideal S200x32 .f32) (w : Fin 4 → BitVec 32) (D : Fin 4 → FVec Ideal S200x384 .f32) (N : Fin 4 → FVec Ideal S200x1 .f32) : FVec Ideal S200x32 .f32 :=
  k0_pay122 v14 (k0_pay122 v14 (k0_pay122 v14 (k0_pay122 v14 v16 (w 0) (D 0) (N 0)) (w 1) (D 1) (N 1)) (w 2) (D 2) (N 2)) (w 3) (D 3) (N 3)

def colsv (v14 : IVec S200x32 32) (v16 : FVec Ideal S200x32 .f32) (w : Fin 4 → BitVec 32) (D : Fin 4 → FVec Ideal S200x384 .f32) (N : Fin 4 → FVec Ideal S200x1 .f32) : FVec Ideal S200x32 .f32 :=
  k0_pay123 v14 (k0_pay123 v14 (k0_pay123 v14 (k0_pay123 v14 v16 (w 0) (D 0) (N 0)) (w 1) (D 1) (N 1)) (w 2) (D 2) (N 2)) (w 3) (D 3) (N 3)

end Cert.KernelIdeal.Val
end
-- ==== Proof.ValPoint.lean ====
/- The values of a row against a centroid, as formulas over the extended reals, and the block values of the
   body's payloads at an index. -/
module
public import proofs.«01_k».proof.Proof.ValSpec
@[expose] public section
noncomputable section
namespace Cert.KernelIdeal.Val
open Idealize.ShloMosaic Idealize.ShloMosaic.TcCoe Idealize.ShloMosaic.Tactic
open Cert.KernelIdeal.Gen

/-- A vector rotated: one column of its product with the rotation. -/
def rotS (R : Vec Ideal S384x384 .f32) (p : Fin 384 → EReal) (d : Fin 384) : EReal := ∑ k, p k * R (ix2 k d)
/-- The difference of a rotated query and a rotated centroid. -/
def dS (R : Vec Ideal S384x384 .f32) (p q : Fin 384 → EReal) (d : Fin 384) : EReal := rotS R p d - rotS R q d
/-- The distance of a query to a centroid. -/
def nS (p q : Fin 384 → EReal) : EReal := Ideal.sqrt (∑ d, (p d - q d) * (p d - q d))
/-- The least coordinate of the normalised difference. -/
def vlS (R : Vec Ideal S384x384 .f32) (p q : Fin 384 → EReal) : EReal :=
  Finset.fold min (Ideal.ofBits FTy.f32 2139095040#32) (dS R p q) Finset.univ * Ideal.div 1 (nS p q)
/-- The greatest coordinate of the normalised difference. -/
def vrS (R : Vec Ideal S384x384 .f32) (p q : Fin 384 → EReal) : EReal :=
  Finset.fold max (Ideal.ofBits FTy.f32 4286578688#32) (dS R p q) Finset.univ * Ideal.div 1 (nS p q)
/-- The step of the quantiser. -/
def dlS (R : Vec Ideal S384x384 .f32) (p q : Fin 384 → EReal) : EReal :=
  (vrS R p q - vlS R p q) * (Named.named κ "inv15" 1032358025#32 : Ideal .f32)

theorem pay118_at (D : FVec Ideal S200x384 .f32) (N : FVec Ideal S200x1 .f32) (x : S200x1.Idx) :
    k0_pay118 D N x = (Finset.fold max (Ideal.ofBits FTy.f32 4286578688#32) (fun d => D (ix2 (x 0) d)) Finset.univ * Ideal.div 1 (N x) -
        Finset.fold min (Ideal.ofBits FTy.f32 2139095040#32) (fun d => D (ix2 (x 0) d)) Finset.univ * Ideal.div 1 (N x)) * (Named.named κ "inv15" 1032358025#32 : Ideal .f32) := by
  unfold k0_pay118 k0_pay117 k0_pay116
  pointwise

theorem pay117_at (D : FVec Ideal S200x384 .f32) (N : FVec Ideal S200x1 .f32) (x : S200x1.Idx) :
    k0_pay117 D N x = Finset.fold min (Ideal.ofBits FTy.f32 2139095040#32) (fun d => D (ix2 (x 0) d)) Finset.univ * Ideal.div 1 (N x) := by
  unfold k0_pay117 k0_pay116
  pointwise

theorem pay122_at (l : IVec S200x32 32) (v : FVec Ideal S200x32 .f32) (w : BitVec 32) (D : FVec Ideal S200x384 .f32) (N : FVec Ideal S200x1 .f32) (x : S200x32.Idx) :
    k0_pay122 l v w D N x = Scalar.select (IntOp.cmpi CmpIPredicate.eq (l x) w) (k0_pay118 D N (ix2 (x 0) 0)) (v x) := by
  unfold k0_pay122
  pointwise

theorem pay123_at (l : IVec S200x32 32) (v : FVec Ideal S200x32 .f32) (w : BitVec 32) (D : FVec Ideal S200x384 .f32) (N : FVec Ideal S200x1 .f32) (x : S200x32.Idx) :
    k0_pay123 l v w D N x = Scalar.select (IntOp.cmpi CmpIPredicate.eq (l x) w) (k0_pay117 D N (ix2 (x 0) 0)) (v x) := by
  unfold k0_pay123
  pointwise

theorem lanes_at (x : S200x32.Idx) : lanes x = BitVec.ofNat 32 (x 1).val := by
  unfold lanes
  pointwise

theorem Dv_at (xr : Vec Ideal S200x384 .f32) (xc : Vec Ideal S32x384 .f32) (k : Fin 32) (x : S200x384.Idx) :
    Dv xr xc k x = xr x - xc (ix2 k (x 1)) := by
  unfold Dv k0_pay114 row1
  pointwise

theorem Nv_at (x0 : Vec Ideal S200x384 .f32) (x2 : Vec Ideal S32x384 .f32) (k : Fin 32) (x : S200x1.Idx) :
    Nv x0 x2 k x = nS (fun d => x0 (ix2 (x 0) d)) (fun d => x2 (ix2 k d)) := by
  unfold Nv k0_pay115 row1 nS
  pointwise

theorem pay109_at (x : Vec Ideal S200x384 .f32) (R : Vec Ideal S384x384 .f32) (r : Fin 200) (d : Fin 384) :
    k0_pay109 x R (ix2 r d) = rotS R (fun k => x (ix2 r k)) d := by
  unfold k0_pay109 rotS
  pointwise

theorem pay110_at (x : Vec Ideal S32x384 .f32) (R : Vec Ideal S384x384 .f32) (r : Fin 32) (d : Fin 384) :
    k0_pay110 x R (ix2 r d) = rotS R (fun k => x (ix2 r k)) d := by
  unfold k0_pay110 rotS
  pointwise

/-- Selecting on a lane test. -/
theorem sel_lane {α : Type} (a k : Fin 32) (u v : α) :
    Scalar.select (IntOp.cmpi CmpIPredicate.eq (BitVec.ofNat 32 a.val) (BitVec.ofNat 32 k.val)) u v = if a = k then u else v := by
  have h : ∀ a k : Fin 32, (IntOp.cmpi CmpIPredicate.eq (BitVec.ofNat 32 a.val) (BitVec.ofNat 32 k.val) = 1#1) ↔ a = k := by decide
  by_cases e : a = k
  · rw [if_pos e]; unfold Scalar.select; exact if_pos ((h a k).2 e)
  · rw [if_neg e]; unfold Scalar.select; exact if_neg fun q => e ((h a k).1 q)

/-- Four selects in a row pick the cluster of the group that the column names, or the old value. -/
theorem sel4 {α : Type} (i : grid0.Coords) (a : Fin 32) (f : Fin 32 → α) (v : α) :
    (if a = kk i 3 then f (kk i 3) else if a = kk i 2 then f (kk i 2) else if a = kk i 1 then f (kk i 1) else if a = kk i 0 then f (kk i 0) else v)
      = if a.val / 4 = (i 1).val then f a else v := by
  have e : ∀ c : Fin 4, (kk i c).val = 4 * (i 1).val + c.val := fun _ => rfl
  split_ifs with h3 h h2 h h1 h h0 h h
  all_goals first | rfl | (subst h3; rfl) | (subst h2; rfl) | (subst h1; rfl) | (subst h0; rfl) | skip
  · exact absurd (by rw [h3, e]; show (4 * (i 1).val + 3) / 4 = _; omega) h
  · exact absurd (by rw [h2, e]; show (4 * (i 1).val + 2) / 4 = _; omega) h
  · exact absurd (by rw [h1, e]; show (4 * (i 1).val + 1) / 4 = _; omega) h
  · exact absurd (by rw [h0, e]; show (4 * (i 1).val + 0) / 4 = _; omega) h
  · exfalso
    have q3 : ¬ a.val = 4 * (i 1).val + 3 := fun q => h3 (Fin.ext q)
    have q2 : ¬ a.val = 4 * (i 1).val + 2 := fun q => h2 (Fin.ext q)
    have q1 : ¬ a.val = 4 * (i 1).val + 1 := fun q => h1 (Fin.ext q)
    have q0 : ¬ a.val = 4 * (i 1).val + 0 := fun q => h0 (Fin.ext q)
    omega

variable (i : grid0.Coords) (x0 xr : Vec Ideal S200x384 .f32) (x2 xc : Vec Ideal S32x384 .f32) (R : Vec Ideal S384x384 .f32)

/-- The difference block is the formula when the scratch buffers hold the rotations. -/
theorem Dv_row (r : Fin 200) (k : Fin 32) (hr : ∀ d, xr (ix2 r d) = rotS R (fun j => x0 (ix2 r j)) d)
    (hc : ∀ d, xc (ix2 k d) = rotS R (fun j => x2 (ix2 k j)) d) (d : Fin 384) :
    Dv xr xc k (ix2 r d) = dS R (fun j => x0 (ix2 r j)) (fun j => x2 (ix2 k j)) d := by
  rw [Dv_at]; exact congrArg₂ (· - ·) (hr d) (hc d)

theorem cols_at (y : Vec Ideal S200x32 .f32) (r : Fin 200) (k : Fin 32) (hr : ∀ d, xr (ix2 r d) = rotS R (fun j => x0 (ix2 r j)) d)
    (hc : ∀ k d, xc (ix2 k d) = rotS R (fun j => x2 (ix2 k j)) d) :
    cols lanes y (fun c => BitVec.ofNat 32 (kk i c).val) (fun c => Dv xr xc (kk i c)) (fun c => Nv x0 x2 (kk i c)) (ix2 r k)
      = if k.val / 4 = (i 1).val then dlS R (fun j => x0 (ix2 r j)) (fun j => x2 (ix2 k j)) else y (ix2 r k) := by
  have hp : ∀ k, k0_pay118 (Dv xr xc k) (Nv x0 x2 k) (ix2 r 0) = dlS R (fun j => x0 (ix2 r j)) (fun j => x2 (ix2 k j)) := fun k => by
    rw [pay118_at, Nv_at]
    have e : (fun d => Dv xr xc k (ix2 r d)) = dS R (fun j => x0 (ix2 r j)) (fun j => x2 (ix2 k j)) := funext fun d => Dv_row x0 xr x2 xc R r k hr (hc k) d
    unfold dlS vrS vlS
    rw [← e]; rfl
  unfold cols
  rw [pay122_at, pay122_at, pay122_at, pay122_at, lanes_at]
  simp only [show ((ix2 r k : S200x32.Idx) 1) = k from rfl, show ((ix2 r k : S200x32.Idx) 0) = r from rfl]
  simp only [sel_lane, hp]
  exact sel4 i k (fun k => dlS R (fun j => x0 (ix2 r j)) (fun j => x2 (ix2 k j))) _

theorem colsv_at (y : Vec Ideal S200x32 .f32) (r : Fin 200) (k : Fin 32) (hr : ∀ d, xr (ix2 r d) = rotS R (fun j => x0 (ix2 r j)) d)
    (hc : ∀ k d, xc (ix2 k d) = rotS R (fun j => x2 (ix2 k j)) d) :
    colsv lanes y (fun c => BitVec.ofNat 32 (kk i c).val) (fun c => Dv xr xc (kk i c)) (fun c => Nv x0 x2 (kk i c)) (ix2 r k)
      = if k.val / 4 = (i 1).val then vlS R (fun j => x0 (ix2 r j)) (fun j => x2 (ix2 k j)) else y (ix2 r k) := by
  have hp : ∀ k, k0_pay117 (Dv xr xc k) (Nv x0 x2 k) (ix2 r 0) = vlS R (fun j => x0 (ix2 r j)) (fun j => x2 (ix2 k j)) := fun k => by
    rw [pay117_at, Nv_at]
    have e : (fun d => Dv xr xc k (ix2 r d)) = dS R (fun j => x0 (ix2 r j)) (fun j => x2 (ix2 k j)) := funext fun d => Dv_row x0 xr x2 xc R r k hr (hc k) d
    unfold vlS
    rw [← e]; rfl
  unfold colsv
  rw [pay123_at, pay123_at, pay123_at, pay123_at, lanes_at]
  simp only [show ((ix2 r k : S200x32.Idx) 1) = k from rfl, show ((ix2 r k : S200x32.Idx) 0) = r from rfl]
  simp only [sel_lane, hp]
  exact sel4 i k (fun k => vlS R (fun j => x0 (ix2 r j)) (fun j => x2 (ix2 k j))) _

end Cert.KernelIdeal.Val
end
-- ==== Proof.ValBlk.lean ====
/- The windows' blocks at coordinates: which elements of the arrays a grid point works on. -/
module
public import proofs.«01_k».proof.Proof.ValPoint
public import proofs.«01_k».proof.Proof.Gen.KernelIdeal.Frame
public import Idealize.ShloMosaic.Lib.Pipeline.ValueKit
@[expose] public section
noncomputable section
namespace Cert.KernelIdeal.Val
open Idealize.ShloMosaic Idealize.ShloMosaic.TcCoe Idealize.ShloMosaic.Tactic
open Cert.KernelIdeal.Gen

variable (m : (ℓ : Loc nD τ sig) → Buf (Elt Ideal) ℓ)

/-- The query that row `r` of a block is, at a point. -/
def rowI (t : Fin cfg0.N) (r : Fin 200) : Fin 3000 := ⟨200 * (t.val / 8) + r.val, by have h : t.val < 120 := t.isLt; have := r.isLt; omega⟩

theorem crd0 (t : Fin cfg0.N) : (grid0.coords t 0).val = t.val / 8 := by
  have h : t.val < 120 := t.isLt
  have e : (grid0.coords t 0).val = t.val / 8 % 15 := Pipeline.Grid.coords_val t 0 (by decide) rfl
  rw [e]; omega
theorem crd1 (t : Fin cfg0.N) : (grid0.coords t 1).val = t.val % 8 := by
  have e : (grid0.coords t 1).val = t.val / 1 % 8 := Pipeline.Grid.coords_val t 1 (by decide) rfl
  rw [e]; omega

theorem widx0 : ∀ t : Fin cfg0.N, win0_0.index t = ![t.val / 8, 0] := (by decide +kernel : ∀ t : Fin grid0.N, _)
theorem widx1 : ∀ t : Fin cfg0.N, win0_1.index t = ![t.val / 8, 0] := (by decide +kernel : ∀ t : Fin grid0.N, _)
theorem widx2 : ∀ t : Fin cfg0.N, win0_2.index t = ![0, 0] := (by decide +kernel : ∀ t : Fin grid0.N, _)
theorem widx3 : ∀ t : Fin cfg0.N, win0_3.index t = ![0, 0] := (by decide +kernel : ∀ t : Fin grid0.N, _)
theorem widx4 : ∀ t : Fin cfg0.N, win0_4.index t = ![0, if t.val < 8 then t.val else 7] := (by decide +kernel : ∀ t : Fin grid0.N, _)
theorem widx5 : ∀ t : Fin cfg0.N, win0_5.index t = ![0, 0] := (by decide +kernel : ∀ t : Fin grid0.N, _)
theorem widx6 : ∀ t : Fin cfg0.N, win0_6.index t = ![0, 0] := (by decide +kernel : ∀ t : Fin grid0.N, _)
theorem widx7 : ∀ t : Fin cfg0.N, win0_7.index t = ![t.val / 8, t.val % 8] := (by decide +kernel : ∀ t : Fin grid0.N, _)
theorem widx8 : ∀ t : Fin cfg0.N, win0_8.index t = ![t.val / 8, t.val % 8] := (by decide +kernel : ∀ t : Fin grid0.N, _)
theorem widx9 : ∀ t : Fin cfg0.N, win0_9.index t = ![t.val / 8, t.val % 8] := (by decide +kernel : ∀ t : Fin grid0.N, _)
theorem widx10 : ∀ t : Fin cfg0.N, win0_10.index t = ![t.val / 8, 0, 0] := (by decide +kernel : ∀ t : Fin grid0.N, _)
theorem widx11 : ∀ t : Fin cfg0.N, win0_11.index t = ![t.val / 8, 0] := (by decide +kernel : ∀ t : Fin grid0.N, _)
theorem widx12 : ∀ t : Fin cfg0.N, win0_12.index t = ![t.val / 8, 0] := (by decide +kernel : ∀ t : Fin grid0.N, _)

theorem iblk0_at (c : Dev nD) (t : Fin cfg0.N) (r : Fin 200) (d : Fin 384) :
    (iblk m c 0 t : Vec Ideal S200x384 .f32) (ix2 r d) = (V m c main_arg0 : Vec Ideal S3000x384 .f32) (ix2 (rowI t r) d) := by
  blk_simp [iblk]
  congr 1
  blk_ext [widx0, rowI]

theorem iblk1_at (c : Dev nD) (t : Fin cfg0.N) (r : Fin 200) (d : Fin 384) :
    (iblk m c 1 t : Vec Ideal S200x384 .f32) (ix2 r d) = (V m c main_arg3 : Vec Ideal S3000x384 .f32) (ix2 (rowI t r) d) := by
  blk_simp [iblk]
  congr 1
  blk_ext [widx1, rowI]

theorem iblk2_eq (c : Dev nD) (t : Fin cfg0.N) : (iblk m c 2 t : Vec Ideal S32x384 .f32) = (V m c main_arg1 : Vec Ideal S32x384 .f32) := by
  funext x
  blk_simp [iblk]
  congr 1
  blk_ext [widx2]

theorem iblk3_eq (c : Dev nD) (t : Fin cfg0.N) : (iblk m c 3 t : Vec Ideal S384x384 .f32) = (V m c main_arg2 : Vec Ideal S384x384 .f32) := by
  funext x
  blk_simp [iblk]
  congr 1
  blk_ext [widx3]

end Cert.KernelIdeal.Val
end
-- ==== Proof.ValTile.lean ====
/- One tile of a result: the block of 200 rows and 128 columns that one cluster's codes give. -/
module
public import proofs.«01_k».proof.Proof.ValSpec
@[expose] public section
noncomputable section
namespace Cert.KernelIdeal.Val
open Idealize.ShloMosaic Idealize.ShloMosaic.TcCoe Idealize.ShloMosaic.Tactic
open Cert.KernelIdeal.Gen

/-- An offset along a cluster's axis, in plain numbers. -/
theorem hoff (i : grid0.Coords) (c : Fin 4) (a b : ℕ) :
    (![(Scalar.indexCast (Scalar.addi (Scalar.muli (BitVec.ofNat 32 (i 1).val) 4#32) (BitVec.ofNat 32 c.val))).toNat, a, b] : Fin 3 → ℕ) = ![4 * (i 1).val + c.val, a, b] := by
  have h : ∀ (n : Fin 8) (c : Fin 4), (Scalar.indexCast (Scalar.addi (Scalar.muli (BitVec.ofNat 32 n.val) 4#32) (BitVec.ofNat 32 c.val))).toNat = 4 * n.val + c.val := by decide
  exact congrArg (fun n => ![n, a, b]) (h (i 1) c)

/-- The estimate of the inner product, of a row's codes and its step and low bound, and of the cluster's bits and constants. -/
def ipS (xb : Vec Ideal S32x384x640 .bf16) (xk : Vec Ideal S32x8x640 .f32) (k : Fin 32) (Q : Fin 384 → EReal) (A B : EReal) (n : Fin 640) : EReal :=
  (A * ∑ d : Fin 384, Q d * xb (ix3 k d n) + B * xk (ix3 k 1 n)) * xk (ix3 k 0 n)
/-- Twice the product of the two norms. -/
def hS (xk : Vec Ideal S32x8x640 .f32) (k : Fin 32) (N : EReal) (n : Fin 640) : EReal := xk (ix3 k 2 n) * N
/-- The error bound. -/
def boS (xk : Vec Ideal S32x8x640 .f32) (k : Fin 32) (N : EReal) (n : Fin 640) : EReal := hS xk k N n * xk (ix3 k 4 n)
/-- The estimated squared distance. -/
def diS (xk : Vec Ideal S32x8x640 .f32) (k : Fin 32) (N N2 I : EReal) (n : Fin 640) : EReal := xk (ix3 k 3 n) + N2 - hS xk k N n * I

theorem t0 (q : Vec Ideal S1x200x384 .bf16) (b : Vec Ideal S1x384x256 .bf16) (w p : Vec Ideal S1x1x128 .f32) (al vl : Vec Ideal S1x1x200x128 .f32) (r : Fin 200) (l : Fin 128) :
    k0_pay183 (k0_pay178 q b) (k0_pay179 w) (k0_pay180 p) al vl (ix2 r l) = (al (ix4 0 0 r l) * ∑ d : Fin 384, q (ix3 0 r d) * b (ix3 0 d ⟨l.val, by have : l.val < 128 := l.isLt; omega⟩) + vl (ix4 0 0 r l) * p (ix3 0 0 l)) * w (ix3 0 0 l) := by
  unfold k0_pay183 k0_pay178 k0_pay179 k0_pay180
  pointwise
theorem t1 (q : Vec Ideal S1x200x384 .bf16) (b : Vec Ideal S1x384x256 .bf16) (w p : Vec Ideal S1x1x128 .f32) (al vl : Vec Ideal S1x1x200x128 .f32) (r : Fin 200) (l : Fin 128) :
    k0_pay190 (k0_pay178 q b) (k0_pay187 w) p al vl (ix2 r l) = (al (ix4 0 0 r l) * ∑ d : Fin 384, q (ix3 0 r d) * b (ix3 0 d ⟨128 + l.val, by have : l.val < 128 := l.isLt; omega⟩) + vl (ix4 0 0 r l) * p (ix3 0 0 l)) * w (ix3 0 0 l) := by
  unfold k0_pay190 k0_pay178 k0_pay187
  pointwise
theorem t2 (q : Vec Ideal S1x200x384 .bf16) (b : Vec Ideal S1x384x128 .bf16) (w p : Vec Ideal S1x1x128 .f32) (al vl : Vec Ideal S1x1x200x128 .f32) (r : Fin 200) (l : Fin 128) :
    k0_pay222 (k0_pay220 (k0_pay214 q) b p al vl) (k0_pay221 w) (ix2 r l) = (al (ix4 0 0 r l) * ∑ d : Fin 384, q (ix3 0 r d) * b (ix3 0 d l) + vl (ix4 0 0 r l) * p (ix3 0 0 l)) * w (ix3 0 0 l) := by
  unfold k0_pay222 k0_pay220 k0_pay221 k0_pay214
  pointwise
theorem tb (h2 h4 : Vec Ideal S1x1x128 .f32) (nq : Vec Ideal S1x1x200x128 .f32) (r : Fin 200) (l : Fin 128) :
    k0_pay185 (k0_pay181 h2) h4 nq (ix2 r l) = h2 (ix3 0 0 l) * nq (ix4 0 0 r l) * h4 (ix3 0 0 l) := by
  unfold k0_pay185 k0_pay184 k0_pay181
  pointwise
/-- A tile of distances, of a tile of estimates. -/
def tileD (T : FVec Ideal S200x128 .f32) (h2 h3 : Vec Ideal S1x1x128 .f32) (nq n2 : Vec Ideal S1x1x200x128 .f32) : FVec Ideal S200x128 .f32 :=
  k0_pay193 (k0_pay188 h3) (k0_pay189 n2) T (k0_pay191 h2 nq)
theorem td (T : FVec Ideal S200x128 .f32) (h2 h3 : Vec Ideal S1x1x128 .f32) (nq n2 : Vec Ideal S1x1x200x128 .f32) (r : Fin 200) (l : Fin 128) :
    tileD T h2 h3 nq n2 (ix2 r l) = h3 (ix3 0 0 l) + n2 (ix4 0 0 r l) - h2 (ix3 0 0 l) * nq (ix4 0 0 r l) * T (ix2 r l) := by
  unfold tileD k0_pay193 k0_pay188 k0_pay189 k0_pay191
  pointwise

/-- A load of one row of a cluster's constants. -/
theorem ldk (m16 : Memref sig .tc .vmem S32x8x640 .f32) (h16 : m16.IsWhole) (xk : Vec Ideal S32x8x640 .f32) (i : grid0.Coords) (c : Fin 4) (w : Fin 8) (o : ℕ) (ho : o + 128 ≤ 640)
    {op : Fin 3 → ℕ} (np : ∀ a, op a + S1x1x128.size a ≤ S32x8x640.size a) (ep : op = ![4 * (i 1).val + c.val, w.val, o]) (l : Fin 128) :
    View.readAt (Elt Ideal) m16.view (Rect.unit (s := S32x8x640) op S1x1x128.size np).toLoadRect (h16.unread xk) (ix3 0 0 l) = xk (ix3 (kk i c) w ⟨o + l.val, by have : l.val < 128 := l.isLt; omega⟩) := by
  refine ld m16 h16 xk np ep _ _ fun a => ?_
  match a with
  | 0 => show 4 * (i 1).val + c.val = 4 * (i 1).val + c.val + 0; omega
  | 1 => show w.val = w.val + 0; omega
  | 2 => rfl

/-- A tile of estimates read off the loaded bits and constants. -/
theorem p0 (m15 : Memref sig .tc .vmem S32x384x640 .bf16) (h15 : m15.IsWhole) (xb : Vec Ideal S32x384x640 .bf16) (m16 : Memref sig .tc .vmem S32x8x640 .f32) (h16 : m16.IsWhole) (xk : Vec Ideal S32x8x640 .f32)
    (i : grid0.Coords) (c : Fin 4) (o : ℕ) (ho : o + 128 ≤ 640) (q : Vec Ideal S1x200x384 .bf16) (al vl : Vec Ideal S1x1x200x128 .f32) (Q : Fin 200 → Fin 384 → EReal) (A B : Fin 200 → EReal)
    (hq : ∀ r d, q (ix3 0 r d) = Q r d) (ha : ∀ r l, al (ix4 0 0 r l) = A r) (hv : ∀ r l, vl (ix4 0 0 r l) = B r)
    (ob oi op : Fin 3 → ℕ) (eb : ob = ![4 * (i 1).val + c.val, 0, o]) (ei : oi = ![4 * (i 1).val + c.val, 0, o]) (ep : op = ![4 * (i 1).val + c.val, 1, o])
    (nb : ∀ a, ob a + S1x384x256.size a ≤ S32x384x640.size a) (ni : ∀ a, oi a + S1x1x128.size a ≤ S32x8x640.size a) (np : ∀ a, op a + S1x1x128.size a ≤ S32x8x640.size a)
    (V : FVec Ideal S200x128 .f32) (hV : V = k0_pay183 (k0_pay178 q (View.readAt (Elt Ideal) m15.view (Rect.unit (s := S32x384x640) ob S1x384x256.size nb).toLoadRect (h15.unread xb))) (k0_pay179 (View.readAt (Elt Ideal) m16.view (Rect.unit (s := S32x8x640) oi S1x1x128.size ni).toLoadRect (h16.unread xk))) (k0_pay180 (View.readAt (Elt Ideal) m16.view (Rect.unit (s := S32x8x640) op S1x1x128.size np).toLoadRect (h16.unread xk))) al vl) (r : Fin 200) (l : Fin 128) :
    V (ix2 r l) = ipS xb xk (kk i c) (Q r) (A r) (B r) ⟨o + l.val, by have : l.val < 128 := l.isLt; omega⟩ := by
  have h1 : l.val < 128 := l.isLt
  rw [hV, t0, ha, hv]
  unfold ipS
  simp only [hq]
  refine congrArg₂ (· * ·) (congrArg₂ (· + ·) (congrArg _ (Finset.sum_congr rfl fun d _ => congrArg _ ?_)) (congrArg _ ?_)) ?_
  · refine ld m15 h15 xb nb eb _ _ fun a => ?_
    match a with
    | 0 => show 4 * (i 1).val + c.val = 4 * (i 1).val + c.val + 0; omega
    | 1 => show d.val = 0 + d.val; omega
    | 2 => show o + l.val = o + l.val; omega
  · exact ldk m16 h16 xk i c 1 o ho np ep l
  · exact ldk m16 h16 xk i c 0 o ho ni ei l

/-- A tile of estimates read off the loaded bits and constants. -/
theorem p1 (m15 : Memref sig .tc .vmem S32x384x640 .bf16) (h15 : m15.IsWhole) (xb : Vec Ideal S32x384x640 .bf16) (m16 : Memref sig .tc .vmem S32x8x640 .f32) (h16 : m16.IsWhole) (xk : Vec Ideal S32x8x640 .f32)
    (i : grid0.Coords) (c : Fin 4) (o : ℕ) (ho : o + 128 ≤ 640) (q : Vec Ideal S1x200x384 .bf16) (al vl : Vec Ideal S1x1x200x128 .f32) (Q : Fin 200 → Fin 384 → EReal) (A B : Fin 200 → EReal)
    (hq : ∀ r d, q (ix3 0 r d) = Q r d) (ha : ∀ r l, al (ix4 0 0 r l) = A r) (hv : ∀ r l, vl (ix4 0 0 r l) = B r)
    (ob oi op : Fin 3 → ℕ) (eb : ob = ![4 * (i 1).val + c.val, 0, o - 128]) (ei : oi = ![4 * (i 1).val + c.val, 0, o]) (ep : op = ![4 * (i 1).val + c.val, 1, o]) (h128 : 128 ≤ o)
    (nb : ∀ a, ob a + S1x384x256.size a ≤ S32x384x640.size a) (ni : ∀ a, oi a + S1x1x128.size a ≤ S32x8x640.size a) (np : ∀ a, op a + S1x1x128.size a ≤ S32x8x640.size a)
    (V : FVec Ideal S200x128 .f32) (hV : V = k0_pay190 (k0_pay178 q (View.readAt (Elt Ideal) m15.view (Rect.unit (s := S32x384x640) ob S1x384x256.size nb).toLoadRect (h15.unread xb))) (k0_pay187 (View.readAt (Elt Ideal) m16.view (Rect.unit (s := S32x8x640) oi S1x1x128.size ni).toLoadRect (h16.unread xk))) (View.readAt (Elt Ideal) m16.view (Rect.unit (s := S32x8x640) op S1x1x128.size np).toLoadRect (h16.unread xk)) al vl) (r : Fin 200) (l : Fin 128) :
    V (ix2 r l) = ipS xb xk (kk i c) (Q r) (A r) (B r) ⟨o + l.val, by have : l.val < 128 := l.isLt; omega⟩ := by
  have h1 : l.val < 128 := l.isLt
  rw [hV, t1, ha, hv]
  unfold ipS
  simp only [hq]
  refine congrArg₂ (· * ·) (congrArg₂ (· + ·) (congrArg _ (Finset.sum_congr rfl fun d _ => congrArg _ ?_)) (congrArg _ ?_)) ?_
  · refine ld m15 h15 xb nb eb _ _ fun a => ?_
    match a with
    | 0 => show 4 * (i 1).val + c.val = 4 * (i 1).val + c.val + 0; omega
    | 1 => show d.val = 0 + d.val; omega
    | 2 => show o + l.val = o - 128 + (128 + l.val); omega
  · exact ldk m16 h16 xk i c 1 o ho np ep l
  · exact ldk m16 h16 xk i c 0 o ho ni ei l

/-- A tile of estimates read off the loaded bits and constants. -/
theorem p2 (m15 : Memref sig .tc .vmem S32x384x640 .bf16) (h15 : m15.IsWhole) (xb : Vec Ideal S32x384x640 .bf16) (m16 : Memref sig .tc .vmem S32x8x640 .f32) (h16 : m16.IsWhole) (xk : Vec Ideal S32x8x640 .f32)
    (i : grid0.Coords) (c : Fin 4) (o : ℕ) (ho : o + 128 ≤ 640) (q : Vec Ideal S1x200x384 .bf16) (al vl : Vec Ideal S1x1x200x128 .f32) (Q : Fin 200 → Fin 384 → EReal) (A B : Fin 200 → EReal)
    (hq : ∀ r d, q (ix3 0 r d) = Q r d) (ha : ∀ r l, al (ix4 0 0 r l) = A r) (hv : ∀ r l, vl (ix4 0 0 r l) = B r)
    (ob oi op : Fin 3 → ℕ) (eb : ob = ![4 * (i 1).val + c.val, 0, o]) (ei : oi = ![4 * (i 1).val + c.val, 0, o]) (ep : op = ![4 * (i 1).val + c.val, 1, o])
    (nb : ∀ a, ob a + S1x384x128.size a ≤ S32x384x640.size a) (ni : ∀ a, oi a + S1x1x128.size a ≤ S32x8x640.size a) (np : ∀ a, op a + S1x1x128.size a ≤ S32x8x640.size a)
    (V : FVec Ideal S200x128 .f32) (hV : V = k0_pay222 (k0_pay220 (k0_pay214 q) (View.readAt (Elt Ideal) m15.view (Rect.unit (s := S32x384x640) ob S1x384x128.size nb).toLoadRect (h15.unread xb)) (View.readAt (Elt Ideal) m16.view (Rect.unit (s := S32x8x640) op S1x1x128.size np).toLoadRect (h16.unread xk)) al vl) (k0_pay221 (View.readAt (Elt Ideal) m16.view (Rect.unit (s := S32x8x640) oi S1x1x128.size ni).toLoadRect (h16.unread xk)))) (r : Fin 200) (l : Fin 128) :
    V (ix2 r l) = ipS xb xk (kk i c) (Q r) (A r) (B r) ⟨o + l.val, by have : l.val < 128 := l.isLt; omega⟩ := by
  have h1 : l.val < 128 := l.isLt
  rw [hV, t2, ha, hv]
  unfold ipS
  simp only [hq]
  refine congrArg₂ (· * ·) (congrArg₂ (· + ·) (congrArg _ (Finset.sum_congr rfl fun d _ => congrArg _ ?_)) (congrArg _ ?_)) ?_
  · refine ld m15 h15 xb nb eb _ _ fun a => ?_
    match a with
    | 0 => show 4 * (i 1).val + c.val = 4 * (i 1).val + c.val + 0; omega
    | 1 => show d.val = 0 + d.val; omega
    | 2 => show o + l.val = o + l.val; omega
  · exact ldk m16 h16 xk i c 1 o ho np ep l
  · exact ldk m16 h16 xk i c 0 o ho ni ei l

/-- A tile of bounds read off the loaded constants. -/
theorem pb (m16 : Memref sig .tc .vmem S32x8x640 .f32) (h16 : m16.IsWhole) (xk : Vec Ideal S32x8x640 .f32)
    (i : grid0.Coords) (c : Fin 4) (o : ℕ) (ho : o + 128 ≤ 640) (nq : Vec Ideal S1x1x200x128 .f32) (N : Fin 200 → EReal) (hn : ∀ r l, nq (ix4 0 0 r l) = N r)
    (o2 o4 : Fin 3 → ℕ) (e2 : o2 = ![4 * (i 1).val + c.val, 2, o]) (e4 : o4 = ![4 * (i 1).val + c.val, 4, o]) (n2 : ∀ a, o2 a + S1x1x128.size a ≤ S32x8x640.size a) (n4 : ∀ a, o4 a + S1x1x128.size a ≤ S32x8x640.size a)
    (V : FVec Ideal S200x128 .f32) (hV : V = k0_pay185 (k0_pay181 (View.readAt (Elt Ideal) m16.view (Rect.unit (s := S32x8x640) o2 S1x1x128.size n2).toLoadRect (h16.unread xk))) (View.readAt (Elt Ideal) m16.view (Rect.unit (s := S32x8x640) o4 S1x1x128.size n4).toLoadRect (h16.unread xk)) nq) (r : Fin 200) (l : Fin 128) :
    V (ix2 r l) = boS xk (kk i c) (N r) ⟨o + l.val, by have : l.val < 128 := l.isLt; omega⟩ := by
  rw [hV, tb, hn]
  unfold boS hS
  rw [ldk m16 h16 xk i c 2 o ho n2 e2 l, ldk m16 h16 xk i c 4 o ho n4 e4 l]

/-- A tile of distances read off the loaded constants and a tile of estimates. -/
theorem pd (m16 : Memref sig .tc .vmem S32x8x640 .f32) (h16 : m16.IsWhole) (xk : Vec Ideal S32x8x640 .f32)
    (i : grid0.Coords) (c : Fin 4) (o : ℕ) (ho : o + 128 ≤ 640) (nq nq2 : Vec Ideal S1x1x200x128 .f32) (N N2 : Fin 200 → EReal) (hn : ∀ r l, nq (ix4 0 0 r l) = N r) (hn2 : ∀ r l, nq2 (ix4 0 0 r l) = N2 r)
    (o2 o3 : Fin 3 → ℕ) (e2 : o2 = ![4 * (i 1).val + c.val, 2, o]) (e3 : o3 = ![4 * (i 1).val + c.val, 3, o]) (n2 : ∀ a, o2 a + S1x1x128.size a ≤ S32x8x640.size a) (n3 : ∀ a, o3 a + S1x1x128.size a ≤ S32x8x640.size a)
    (T : FVec Ideal S200x128 .f32) (V : FVec Ideal S200x128 .f32) (hV : V = tileD T (View.readAt (Elt Ideal) m16.view (Rect.unit (s := S32x8x640) o2 S1x1x128.size n2).toLoadRect (h16.unread xk)) (View.readAt (Elt Ideal) m16.view (Rect.unit (s := S32x8x640) o3 S1x1x128.size n3).toLoadRect (h16.unread xk)) nq nq2) (r : Fin 200) (l : Fin 128) (I : EReal) (hT : T (ix2 r l) = I) :
    V (ix2 r l) = diS xk (kk i c) (N r) (N2 r) I ⟨o + l.val, by have : l.val < 128 := l.isLt; omega⟩ := by
  rw [hV, td, hn, hn2, hT]
  unfold diS hS
  rw [ldk m16 h16 xk i c 2 o ho n2 e2 l, ldk m16 h16 xk i c 3 o ho n3 e3 l]

/-- What is kept of a row and a cluster: the step scaled, the low bound, the norm and its square. -/
def stS (D : FVec Ideal S200x384 .f32) (N : FVec Ideal S200x1 .f32) (w : Fin 4) (r : Fin 200) : EReal :=
  ![k0_pay118 D N (ix2 r 0) * Named.named κ "inv_sd" 1028720108#32, k0_pay117 D N (ix2 r 0), N (ix2 r 0), N (ix2 r 0) * N (ix2 r 0)] w
/-- The same, as the vectors that are stored. -/
def stV (D : FVec Ideal S200x384 .f32) (N : FVec Ideal S200x1 .f32) (w : Fin 4) : Vec Ideal S1x1x200x128 .f32 :=
  ![k0_pay125 (k0_pay124 D N), k0_pay126 (k0_pay117 D N), k0_pay127 N, k0_pay128 N] w
theorem stV_at (D : FVec Ideal S200x384 .f32) (N : FVec Ideal S200x1 .f32) (w : Fin 4) (r : Fin 200) (l : Fin 128) : stV D N w (ix4 0 0 r l) = stS D N w r := by
  match w with
  | 0 => show k0_pay125 (k0_pay124 D N) (ix4 0 0 r l) = _; unfold k0_pay125 k0_pay124 stS; generalize k0_pay118 D N = z; pointwise
  | 1 => show k0_pay126 (k0_pay117 D N) (ix4 0 0 r l) = _; unfold k0_pay126 stS; generalize k0_pay117 D N = z; pointwise
  | 2 => show k0_pay127 N (ix4 0 0 r l) = _; unfold k0_pay127 stS; pointwise
  | 3 => show k0_pay128 N (ix4 0 0 r l) = _; unfold k0_pay128 stS; pointwise
/-- The codes of a row and a cluster. -/
def cqS (o : Vec Ideal S200x384 .f32) (D : FVec Ideal S200x384 .f32) (N : FVec Ideal S200x1 .f32) (r : Fin 200) (d : Fin 384) : EReal := k0_pay119 o D N (ix2 r d)
theorem pay120_at (o : Vec Ideal S200x384 .f32) (D : FVec Ideal S200x384 .f32) (N : FVec Ideal S200x1 .f32) (r : Fin 200) (d : Fin 384) : k0_pay120 o D N (ix3 0 r d) = cqS o D N r d := by
  unfold k0_pay120 cqS; generalize k0_pay119 o D N = z; pointwise
end Cert.KernelIdeal.Val
end
-- ==== Proof.ValKeep.lean ====
/- What the body leaves in the three large results' staging buffers, element by element. -/
module
public import proofs.«01_k».proof.Proof.ValTile
@[expose] public section
noncomputable section
namespace Cert.KernelIdeal.Val
open Idealize.ShloMosaic Idealize.ShloMosaic.TcCoe Idealize.ShloMosaic.Tactic
open Cert.KernelIdeal.Gen

/-- The shape's index at four coordinates. -/
theorem ix4_eta (x : S1x1x200x128.Idx) : x = ix4 0 0 (x 2) (x 3) := by
  funext a
  match a with
  | 0 => exact Fin.ext (by have h : (x 0).val < 1 := (x 0).isLt; show (x 0).val = 0; omega)
  | 1 => exact Fin.ext (by have h : (x 1).val < 1 := (x 1).isLt; show (x 1).val = 0; omega)
  | 2 => rfl
  | 3 => rfl
theorem ix3_eta (x : S1x200x384.Idx) : x = ix3 0 (x 1) (x 2) := by
  funext a
  match a with
  | 0 => exact Fin.ext (by have h : (x 0).val < 1 := (x 0).isLt; show (x 0).val = 0; omega)
  | 1 => rfl
  | 2 => rfl
theorem ix2_eta (x : S200x128.Idx) : x = ix2 (x 0) (x 1) := by
  funext a
  match a with
  | 0 => rfl
  | 1 => rfl

/-- What is kept, over the whole buffer; and the codes. -/
def stG (D : Fin 4 → FVec Ideal S200x384 .f32) (N : Fin 4 → FVec Ideal S200x1 .f32) : S4x4x200x128.Idx → EReal := fun y => stS (D (y 0)) (N (y 0)) (y 1) (y 2)
def cqG (o : Vec Ideal S200x384 .f32) (D : Fin 4 → FVec Ideal S200x384 .f32) (N : Fin 4 → FVec Ideal S200x1 .f32) : S4x200x384.Idx → EReal := fun y => cqS o (D (y 0)) (N (y 0)) (y 1) (y 2)

/-- A list of writes agrees with a function when its first write and the others do. -/
theorem forall_piece {s : Shape} {e : EltTy} {G : s.Idx → Elt Ideal e} (r : Rect s) (V : r.shape.Idx → Elt Ideal e) (L : List (View.Piece (Elt Ideal) s e))
    (h : ∀ x, V x = G (r.emb x)) (t : ∀ p ∈ L, ∀ x : p.1.shape.Idx, p.2 x = G (p.1.emb x)) :
    ∀ p ∈ ((⟨r, V⟩ : View.Piece (Elt Ideal) s e) :: L), ∀ x : p.1.shape.Idx, p.2 x = G (p.1.emb x) :=
  List.forall_mem_cons.mpr ⟨h, t⟩

/-- One stored piece of what is kept, of what is stored there. -/
theorem stPiece (D : Fin 4 → FVec Ideal S200x384 .f32) (N : Fin 4 → FVec Ideal S200x1 .f32) (c w : Fin 4) (V : Vec Ideal S1x1x200x128 .f32) (hV : V = stV (D c) (N c) w)
    (off : Fin 4 → ℕ) (ho : off = ![c.val, w.val, 0, 0]) (inb : ∀ a, off a + S1x1x200x128.size a ≤ S4x4x200x128.size a) (x : S1x1x200x128.Idx) :
    V x = (stG D N) ((Rect.unit (s := S4x4x200x128) off S1x1x200x128.size inb).emb x) := by
  subst ho
  have e : (Rect.unit (s := S4x4x200x128) ![c.val, w.val, 0, 0] S1x1x200x128.size inb).emb x = ix4 c w (x 2) (x 3) := by
    funext a
    match a with
    | 0 => exact Fin.ext (by have h : (x 0).val < 1 := (x 0).isLt; show c.val + 1 * (x 0).val = c.val; omega)
    | 1 => exact Fin.ext (by have h : (x 1).val < 1 := (x 1).isLt; show w.val + 1 * (x 1).val = w.val; omega)
    | 2 => exact Fin.ext (by show 0 + 1 * (x 2).val = (x 2).val; omega)
    | 3 => exact Fin.ext (by show 0 + 1 * (x 3).val = (x 3).val; omega)
  refine Eq.trans ?_ (congrArg (stG D N) e).symm
  rw [hV]
  exact (congrArg (stV (D c) (N c) w) (ix4_eta x)).trans (stV_at (D c) (N c) w (x 2) (x 3))

/-- One stored piece of the codes. -/
theorem cqPiece (o : Vec Ideal S200x384 .f32) (D : Fin 4 → FVec Ideal S200x384 .f32) (N : Fin 4 → FVec Ideal S200x1 .f32) (c : Fin 4) (V : Vec Ideal S1x200x384 .bf16) (hV : V = k0_pay120 o (D c) (N c))
    (off : Fin 3 → ℕ) (ho : off = ![c.val, 0, 0]) (inb : ∀ a, off a + S1x200x384.size a ≤ S4x200x384.size a) (x : S1x200x384.Idx) :
    V x = (cqG o D N) ((Rect.unit (s := S4x200x384) off S1x200x384.size inb).emb x) := by
  subst ho
  have e : (Rect.unit (s := S4x200x384) ![c.val, 0, 0] S1x200x384.size inb).emb x = ix3 c (x 1) (x 2) := by
    funext a
    match a with
    | 0 => exact Fin.ext (by have h : (x 0).val < 1 := (x 0).isLt; show c.val + 1 * (x 0).val = c.val; omega)
    | 1 => exact Fin.ext (by show 0 + 1 * (x 1).val = (x 1).val; omega)
    | 2 => exact Fin.ext (by show 0 + 1 * (x 2).val = (x 2).val; omega)
  refine Eq.trans ?_ (congrArg (cqG o D N) e).symm
  rw [hV]
  exact (congrArg (k0_pay120 o (D c) (N c)) (ix3_eta x)).trans (pay120_at o (D c) (N c) (x 1) (x 2))

/-- A load of what is kept of a row and a cluster. -/
theorem st_load (c : Dev nD) (i : grid0.Coords) (arg4 : Memref sig .tc .vmem S32x384 .f32) (harg4 : arg4.IsWhole) (arg17 : Memref sig .tc .vmem S32x384 .f32) (harg17 : arg17.IsWhole)
    (x0 : Vec Ideal S200x384 .f32) (x1 : Vec Ideal S200x384 .f32) (x2 : Vec Ideal S32x384 .f32) (xc : Vec Ideal S32x384 .f32) (xr : Vec Ideal S200x384 .f32) (arg20 : Memref sig .tc .vmem S4x4x200x128 .f32) (cc w : Fin 4) (inb : ∀ a, (![cc.val, w.val, 0, 0] : Fin 4 → ℕ) a + S1x1x200x128.size a ≤ S4x4x200x128.size a) (r : Fin 200) (l : Fin 128) :
    arg20.view.readCov (bodyRun.sl.H18_16 (F := Ideal) c i arg4 harg4 arg17 harg17 x2 xc x0 xr (Dv xr xc (kk i 0)) (Nv x0 x2 (kk i 0))) (Rect.unit (s := S4x4x200x128) ![cc.val, w.val, 0, 0] S1x1x200x128.size inb).toLoadRect (ix4 0 0 r l)
      = stS (Dv xr xc (kk i cc)) (Nv x0 x2 (kk i cc)) w r := by
  rw [View.readCov]
  refine (ldf arg20.view _ inb rfl (ix4 0 0 r l) (ix4 cc w r l) fun a => by
    match a with
    | 0 => rfl
    | 1 => rfl
    | 2 => exact (Nat.zero_add _).symm
    | 3 => exact (Nat.zero_add _).symm).trans ?_
  refine (View.read_writes_apply_of_pieces _ _ (stG (fun c => Dv xr xc (kk i c)) (fun c => Nv x0 x2 (kk i c))) _ ?_ (ix4 cc w r l) ?_).trans rfl
  · rw [← funext (Dl_eq arg17 harg17 i xr xc), ← funext (Nl_eq arg4 harg4 i x0 x2), ← Dl_eq arg17 harg17 i xr xc 0, ← Nl_eq arg4 harg4 i x0 x2 0]
    unfold bodyRun.sl.H18_16
    refine forall_piece _ _ _ ?_ ?_
    · refine stPiece (Dl arg17 harg17 i xr xc) (Nl arg4 harg4 i x0 x2) 3 3 _ ?_ _ rfl _
      show _ = k0_pay128 (Nl arg4 harg4 i x0 x2 3); rfl
    refine forall_piece _ _ _ ?_ ?_
    · refine stPiece (Dl arg17 harg17 i xr xc) (Nl arg4 harg4 i x0 x2) 3 2 _ ?_ _ rfl _
      show _ = k0_pay127 (Nl arg4 harg4 i x0 x2 3); rfl
    refine forall_piece _ _ _ ?_ ?_
    · refine stPiece (Dl arg17 harg17 i xr xc) (Nl arg4 harg4 i x0 x2) 3 1 _ ?_ _ rfl _
      show _ = k0_pay126 (k0_pay117 (Dl arg17 harg17 i xr xc 3) (Nl arg4 harg4 i x0 x2 3)); rfl
    refine forall_piece _ _ _ ?_ ?_
    · refine stPiece (Dl arg17 harg17 i xr xc) (Nl arg4 harg4 i x0 x2) 3 0 _ ?_ _ rfl _
      show _ = k0_pay125 (k0_pay124 (Dl arg17 harg17 i xr xc 3) (Nl arg4 harg4 i x0 x2 3)); rfl
    refine forall_piece _ _ _ ?_ ?_
    · refine stPiece (Dl arg17 harg17 i xr xc) (Nl arg4 harg4 i x0 x2) 2 3 _ ?_ _ rfl _
      show _ = k0_pay128 (Nl arg4 harg4 i x0 x2 2); rfl
    refine forall_piece _ _ _ ?_ ?_
    · refine stPiece (Dl arg17 harg17 i xr xc) (Nl arg4 harg4 i x0 x2) 2 2 _ ?_ _ rfl _
      show _ = k0_pay127 (Nl arg4 harg4 i x0 x2 2); rfl
    refine forall_piece _ _ _ ?_ ?_
    · refine stPiece (Dl arg17 harg17 i xr xc) (Nl arg4 harg4 i x0 x2) 2 1 _ ?_ _ rfl _
      show _ = k0_pay126 (k0_pay117 (Dl arg17 harg17 i xr xc 2) (Nl arg4 harg4 i x0 x2 2)); rfl
    refine forall_piece _ _ _ ?_ ?_
    · refine stPiece (Dl arg17 harg17 i xr xc) (Nl arg4 harg4 i x0 x2) 2 0 _ ?_ _ rfl _
      show _ = k0_pay125 (k0_pay124 (Dl arg17 harg17 i xr xc 2) (Nl arg4 harg4 i x0 x2 2)); rfl
    refine forall_piece _ _ _ ?_ ?_
    · refine stPiece (Dl arg17 harg17 i xr xc) (Nl arg4 harg4 i x0 x2) 1 3 _ ?_ _ rfl _
      show _ = k0_pay128 (Nl arg4 harg4 i x0 x2 1); rfl
    refine forall_piece _ _ _ ?_ ?_
    · refine stPiece (Dl arg17 harg17 i xr xc) (Nl arg4 harg4 i x0 x2) 1 2 _ ?_ _ rfl _
      show _ = k0_pay127 (Nl arg4 harg4 i x0 x2 1); rfl
    refine forall_piece _ _ _ ?_ ?_
    · refine stPiece (Dl arg17 harg17 i xr xc) (Nl arg4 harg4 i x0 x2) 1 1 _ ?_ _ rfl _
      show _ = k0_pay126 (k0_pay117 (Dl arg17 harg17 i xr xc 1) (Nl arg4 harg4 i x0 x2 1)); rfl
    refine forall_piece _ _ _ ?_ ?_
    · refine stPiece (Dl arg17 harg17 i xr xc) (Nl arg4 harg4 i x0 x2) 1 0 _ ?_ _ rfl _
      show _ = k0_pay125 (k0_pay124 (Dl arg17 harg17 i xr xc 1) (Nl arg4 harg4 i x0 x2 1)); rfl
    refine forall_piece _ _ _ ?_ ?_
    · refine stPiece (Dl arg17 harg17 i xr xc) (Nl arg4 harg4 i x0 x2) 0 3 _ ?_ _ rfl _
      show _ = k0_pay128 (Nl arg4 harg4 i x0 x2 0); rfl
    refine forall_piece _ _ _ ?_ ?_
    · refine stPiece (Dl arg17 harg17 i xr xc) (Nl arg4 harg4 i x0 x2) 0 2 _ ?_ _ rfl _
      show _ = k0_pay127 (Nl arg4 harg4 i x0 x2 0); rfl
    refine forall_piece _ _ _ ?_ ?_
    · refine stPiece (Dl arg17 harg17 i xr xc) (Nl arg4 harg4 i x0 x2) 0 1 _ ?_ _ rfl _
      show _ = k0_pay126 (k0_pay117 (Dl arg17 harg17 i xr xc 0) (Nl arg4 harg4 i x0 x2 0)); rfl
    refine forall_piece _ _ _ ?_ ?_
    · refine stPiece (Dl arg17 harg17 i xr xc) (Nl arg4 harg4 i x0 x2) 0 0 _ ?_ _ rfl _
      show _ = k0_pay125 (k0_pay124 (Dl arg17 harg17 i xr xc 0) (Nl arg4 harg4 i x0 x2 0)); rfl
    exact fun p hp => absurd hp List.not_mem_nil
  · exact View.cover_of_tiled _ ![1, 1, 200, 128] (by rfl) _

/-- A load of the codes. -/
theorem cq_load (c : Dev nD) (i : grid0.Coords) (arg4 : Memref sig .tc .vmem S32x384 .f32) (harg4 : arg4.IsWhole) (arg17 : Memref sig .tc .vmem S32x384 .f32) (harg17 : arg17.IsWhole)
    (x0 : Vec Ideal S200x384 .f32) (x1 : Vec Ideal S200x384 .f32) (x2 : Vec Ideal S32x384 .f32) (xc : Vec Ideal S32x384 .f32) (xr : Vec Ideal S200x384 .f32) (arg19 : Memref sig .tc .vmem S4x200x384 .bf16) (cc : Fin 4) (inb : ∀ a, (![cc.val, 0, 0] : Fin 3 → ℕ) a + S1x200x384.size a ≤ S4x200x384.size a) (r : Fin 200) (d : Fin 384) :
    arg19.view.readCov (bodyRun.sl.H17_4 (F := Ideal) c i arg4 harg4 arg17 harg17 x2 xc x0 xr x1 (Dv xr xc (kk i 0)) (Nv x0 x2 (kk i 0))) (Rect.unit (s := S4x200x384) ![cc.val, 0, 0] S1x200x384.size inb).toLoadRect (ix3 0 r d)
      = cqS x1 (Dv xr xc (kk i cc)) (Nv x0 x2 (kk i cc)) r d := by
  rw [View.readCov]
  refine (ldf arg19.view _ inb rfl (ix3 0 r d) (ix3 cc r d) fun a => by
    match a with
    | 0 => rfl
    | 1 => exact (Nat.zero_add _).symm
    | 2 => exact (Nat.zero_add _).symm).trans ?_
  refine (View.read_writes_apply_of_pieces _ _ (cqG x1 (fun c => Dv xr xc (kk i c)) (fun c => Nv x0 x2 (kk i c))) _ ?_ (ix3 cc r d) ?_).trans rfl
  · rw [← funext (Dl_eq arg17 harg17 i xr xc), ← funext (Nl_eq arg4 harg4 i x0 x2), ← Dl_eq arg17 harg17 i xr xc 0, ← Nl_eq arg4 harg4 i x0 x2 0]
    unfold bodyRun.sl.H17_4
    refine forall_piece _ _ _ ?_ ?_
    · refine cqPiece x1 (Dl arg17 harg17 i xr xc) (Nl arg4 harg4 i x0 x2) 3 _ ?_ _ rfl _
      show _ = k0_pay120 x1 (Dl arg17 harg17 i xr xc 3) (Nl arg4 harg4 i x0 x2 3); rfl
    refine forall_piece _ _ _ ?_ ?_
    · refine cqPiece x1 (Dl arg17 harg17 i xr xc) (Nl arg4 harg4 i x0 x2) 2 _ ?_ _ rfl _
      show _ = k0_pay120 x1 (Dl arg17 harg17 i xr xc 2) (Nl arg4 harg4 i x0 x2 2); rfl
    refine forall_piece _ _ _ ?_ ?_
    · refine cqPiece x1 (Dl arg17 harg17 i xr xc) (Nl arg4 harg4 i x0 x2) 1 _ ?_ _ rfl _
      show _ = k0_pay120 x1 (Dl arg17 harg17 i xr xc 1) (Nl arg4 harg4 i x0 x2 1); rfl
    refine forall_piece _ _ _ ?_ ?_
    · refine cqPiece x1 (Dl arg17 harg17 i xr xc) (Nl arg4 harg4 i x0 x2) 0 _ ?_ _ rfl _
      show _ = k0_pay120 x1 (Dl arg17 harg17 i xr xc 0) (Nl arg4 harg4 i x0 x2 0); rfl
    exact fun p hp => absurd hp List.not_mem_nil
  · exact View.cover_of_tiled _ ![1, 200, 384] (by rfl) _

end Cert.KernelIdeal.Val
end
-- ==== Proof.ValPrepB.lean ====
module
public import proofs.«01_k».proof.Proof.ValKeep
@[expose] public section
noncomputable section
namespace Cert.KernelIdeal.Val
open Idealize.ShloMosaic Idealize.ShloMosaic.TcCoe Idealize.ShloMosaic.Tactic
open Cert.KernelIdeal.Gen

theorem slw (w : Fin 12) : S12x640.Slices ![w.val, 0] S1x640 := by
  revert w; decide

/-- One word of each code, its 32 bits each made a sign: minus one for a zero bit. -/
def bV (w : Fin 12) (v : Vec Ideal S12x640 .i32) : Vec Ideal S1x32x640 .bf16 :=
  shapeCast S1x32x640 (truncf .bf16 (bitcastToFloat (F := Ideal) .f32 (ori (andi (shli (broadcastTo S32x640 (shapeCast S1x640 (xori (extractStridedSlice S1x640 ![w.val, 0] (k0_pay4 v) (slw w)) (constantI S1x640 32 4294967295#32)) shapeCasts_S1x640_S1x640) broadcasts_S1x640_S32x640) k0_pay7) (broadcast S32x640 2147483648#32)) (broadcast S32x640 1065353216#32))) bitsLt_bf16_f32) shapeCasts_S32x640_S1x32x640

/-- One bit as a sign. -/
def bitE (a : BitVec 32) (t : ℕ) : EReal :=
  Ideal.ofBits FTy.f32 (IntOp.ori (IntOp.andi (IntOp.shli ArithUnit.vector (IntOp.xori a 4294967295#32) (IntOp.subi (31#32) (BitVec.ofNat 32 t))) 2147483648#32) 1065353216#32)

theorem bV_at (w : Fin 12) (v : Vec Ideal S12x640 .i32) (t : Fin 32) (n : Fin 640) : bV w v (ix3 0 t n) = bitE (v (ix2 w n)) t.val := by
  unfold bV bitE k0_pay4 k0_pay7
  pointwise

/-- The constants of a cluster, as the vectors that are stored. -/
def kV (v : Vec Ideal S12x640 .i32) (a o : Vec Ideal S1x640 .f32) (w : Fin 5) : Vec Ideal S1x1x640 .f32 :=
  ![k0_pay24 (k0_pay6 o), k0_pay25 (k0_pay4 v), k0_pay26 (k0_pay5 a), k0_pay27 (k0_pay5 a), k0_pay28 (k0_pay6 o)] w
/-- The same, element by element. -/
def kE (p : Fin 12 → BitVec 32) (a o : EReal) (w : Fin 5) : EReal :=
  ![Ideal.div 1 o, (∑ j : Fin 12, (FloatOps.sitofp (F := Ideal) FTy.f32 (IntOp.ctpop (p j)) : EReal)) * (Named.named κ "two_inv_sd" 1037108716#32 : Ideal .f32) - (Named.named κ "sd" 1100792945#32 : Ideal .f32), Ideal.ofBits FTy.f32 1073741824#32 * a, a * a,
    Ideal.div (Ideal.sqrt (1 - o * o)) o * (Named.named κ "eps_inv_sdm1" 1036440767#32 : Ideal .f32)] w

theorem kV_at (v : Vec Ideal S12x640 .i32) (a o : Vec Ideal S1x640 .f32) (w : Fin 5) (n : Fin 640) : kV v a o w (ix3 0 0 n) = kE (fun j => v (ix2 j n)) (a (ix2 0 n)) (o (ix2 0 n)) w := by
  match w with
  | 0 => show k0_pay24 (k0_pay6 o) (ix3 0 0 n) = Ideal.div 1 _; unfold k0_pay24 k0_pay6; pointwise
  | 1 => show k0_pay25 (k0_pay4 v) (ix3 0 0 n) = _; unfold k0_pay25 k0_pay4; pointwise; try rfl
  | 2 => show k0_pay26 (k0_pay5 a) (ix3 0 0 n) = _; unfold k0_pay26 k0_pay5; pointwise; try rfl
  | 3 => show k0_pay27 (k0_pay5 a) (ix3 0 0 n) = a (ix2 0 n) * a (ix2 0 n); unfold k0_pay27 k0_pay5; pointwise
  | 4 => show k0_pay28 (k0_pay6 o) (ix3 0 0 n) = Ideal.div (Ideal.sqrt (1 - _ * _)) _ * _; unfold k0_pay28 k0_pay6; pointwise

/-- The words of the `c`-th cluster of a block, loaded. -/
def L6 (m : Memref sig .tc .vmem S12x2560 .i32) (h : m.IsWhole) (x : Vec Ideal S12x2560 .i32) (c : Fin 4) (inb : ∀ a, (![0, 640 * c.val] : Fin 2 → ℕ) a + S12x640.size a ≤ S12x2560.size a) : Vec Ideal S12x640 .i32 :=
  View.readAt (Elt Ideal) m.view (Rect.unit (s := S12x2560) ![0, 640 * c.val] S12x640.size inb).toLoadRect (h.unread x)
theorem L6_at (m : Memref sig .tc .vmem S12x2560 .i32) (h : m.IsWhole) (x : Vec Ideal S12x2560 .i32) (c : Fin 4) (inb) (j : Fin 12) (n : Fin 640) :
    L6 m h x c inb (ix2 j n) = x (ix2 j ⟨640 * c.val + n.val, by have := c.isLt; have := n.isLt; omega⟩) := by
  refine ld m h x inb rfl (ix2 j n) _ fun a => ?_
  match a with
  | 0 => exact (Nat.zero_add _).symm
  | 1 => rfl

theorem off1_eq (i : grid0.Coords) (c : Fin 4) : k0_off1 i (BitVec.ofNat 32 c.val) = ![4 * (i 1).val + c.val, 0] := by
  have h : ∀ (n : Fin 8) (c : Fin 4), (Scalar.indexCast (Scalar.addi (Scalar.muli (BitVec.ofNat 32 n.val) 4#32) (BitVec.ofNat 32 c.val))).toNat = 4 * n.val + c.val := by decide
  unfold k0_off1
  exact congrArg (fun n => ![n, 0]) (h (i 1) c)

theorem inb1 (i : grid0.Coords) (c : Fin 4) : ∀ a, k0_off1 i (BitVec.ofNat 32 c.val) a + S1x640.size a ≤ S32x640.size a := by
  rw [off1_eq]
  intro a
  have h1 : (i 1).val < 8 := (i 1).isLt
  have h2 := c.isLt
  match a with
  | 0 => show 4 * (i 1).val + c.val + 1 ≤ 32; omega
  | 1 => show 0 + 640 ≤ 640; omega

/-- A row of norms or factors, loaded. -/
def L7 (m : Memref sig .tc .vmem S32x640 .f32) (h : m.IsWhole) (i : grid0.Coords) (x : Vec Ideal S32x640 .f32) (c : Fin 4) : Vec Ideal S1x640 .f32 :=
  View.readAt (Elt Ideal) m.view (Rect.unit (s := S32x640) (k0_off1 i (BitVec.ofNat 32 c.val)) S1x640.size (inb1 i c)).toLoadRect (h.unread x)
theorem L7_at (m : Memref sig .tc .vmem S32x640 .f32) (h : m.IsWhole) (i : grid0.Coords) (x : Vec Ideal S32x640 .f32) (c : Fin 4) (n : Fin 640) :
    L7 m h i x c (ix2 0 n) = x (ix2 (kk i c) n) := by
  refine ld m h x _ (off1_eq i c) (ix2 0 n) _ fun a => ?_
  match a with
  | 0 => rfl
  | 1 => exact (Nat.zero_add _).symm

/-- The bits of every code, as signs. -/
def bG (x4 : Vec Ideal S12x2560 .i32) : S32x384x640.Idx → EReal := fun y =>
  bitE (x4 (ix2 ⟨(y 1).val / 32, by have h : (y 1).val < 384 := (y 1).isLt; omega⟩ ⟨640 * ((y 0).val % 4) + (y 2).val, by have h : (y 2).val < 640 := (y 2).isLt; omega⟩)) ((y 1).val % 32)
/-- The constants of every code. -/
def kG (x4 : Vec Ideal S12x2560 .i32) (x5 x6 : Vec Ideal S32x640 .f32) : S32x8x640.Idx → EReal := fun y =>
  kE (fun j => x4 (ix2 j ⟨640 * ((y 0).val % 4) + (y 2).val, by have h : (y 2).val < 640 := (y 2).isLt; omega⟩)) (x5 (ix2 (y 0) (y 2))) (x6 (ix2 (y 0) (y 2))) ⟨min (y 1).val 4, by omega⟩

theorem bG_at (x4 : Vec Ideal S12x2560 .i32) (i : grid0.Coords) (c : Fin 4) (w : Fin 12) (t : Fin 32) (n : Fin 640) (y : S32x384x640.Idx) (h0 : (y 0).val = 4 * (i 1).val + c.val) (h1 : (y 1).val = 32 * w.val + t.val) (h2 : (y 2).val = n.val) :
    bG x4 y = bitE (x4 (ix2 w ⟨640 * c.val + n.val, by have := c.isLt; have := n.isLt; omega⟩)) t.val := by
  unfold bG
  have hc := c.isLt
  have ht := t.isLt
  have e : ∀ (a a' : Fin 12) (b b' : Fin 2560) (u u' : ℕ), a = a' → b = b' → u = u' → bitE (x4 (ix2 a b)) u = bitE (x4 (ix2 a' b')) u' := by rintro _ _ _ _ _ _ rfl rfl rfl; rfl
  exact e _ _ _ _ _ _ (Fin.ext (by show (y 1).val / 32 = w.val; omega)) (Fin.ext (by show 640 * ((y 0).val % 4) + (y 2).val = 640 * c.val + n.val; omega)) (by omega)

theorem kG_at (x4 : Vec Ideal S12x2560 .i32) (x5 x6 : Vec Ideal S32x640 .f32) (i : grid0.Coords) (c : Fin 4) (w : Fin 5) (n : Fin 640) (y : S32x8x640.Idx) (h0 : (y 0).val = 4 * (i 1).val + c.val) (h1 : (y 1).val = w.val) (h2 : (y 2).val = n.val) :
    kG x4 x5 x6 y = kE (fun j => x4 (ix2 j ⟨640 * c.val + n.val, by have := c.isLt; have := n.isLt; omega⟩)) (x5 (ix2 (kk i c) n)) (x6 (ix2 (kk i c) n)) w := by
  unfold kG
  have hc := c.isLt
  have hw := w.isLt
  have e : ∀ (b b' : Fin 2560) (k k' : Fin 32) (n n' : Fin 640) (w w' : Fin 5), b = b' → k = k' → n = n' → w = w' → kE (fun j => x4 (ix2 j b)) (x5 (ix2 k n)) (x6 (ix2 k n)) w = kE (fun j => x4 (ix2 j b')) (x5 (ix2 k' n')) (x6 (ix2 k' n')) w' := by
    rintro _ _ _ _ _ _ _ _ rfl rfl rfl rfl; rfl
  exact e _ _ _ _ _ _ _ _ (Fin.ext (by show 640 * ((y 0).val % 4) + (y 2).val = 640 * c.val + n.val; omega)) (Fin.ext h0) (Fin.ext h2) (Fin.ext (by show min (y 1).val 4 = w.val; omega))

/-- One stored piece of the bits. -/
theorem bPiece (m : Memref sig .tc .vmem S12x2560 .i32) (h : m.IsWhole) (x4 : Vec Ideal S12x2560 .i32) (i : grid0.Coords) (c : Fin 4) (w : Fin 12) (V : Vec Ideal S1x32x640 .bf16) (il) (hV : V = bV w (L6 m h x4 c il))
    (off : Fin 3 → ℕ) (ho : off = ![4 * (i 1).val + c.val, 32 * w.val, 0]) (inb : ∀ a, off a + S1x32x640.size a ≤ S32x384x640.size a) (x : S1x32x640.Idx) :
    V x = bG x4 ((Rect.unit (s := S32x384x640) off S1x32x640.size inb).emb x) := by
  subst ho
  have ex : x = ix3 0 (x 1) (x 2) := by
    funext a
    match a with
    | 0 => exact Fin.ext (by have h : (x 0).val < 1 := (x 0).isLt; show (x 0).val = 0; omega)
    | 1 => rfl
    | 2 => rfl
  have h0 : (x 0).val < 1 := (x 0).isLt
  rw [hV]
  refine ((congrArg (bV w (L6 m h x4 c il)) ex).trans (bV_at w _ (x 1) (x 2))).trans ?_
  refine (congrArg (fun z => bitE z (x 1).val) (L6_at m h x4 c il w (x 2))).trans (bG_at x4 i c w (x 1) (x 2) _ ?_ ?_ ?_).symm
  · show 4 * (i 1).val + c.val + 1 * (x 0).val = _; omega
  · show 32 * w.val + 1 * (x 1).val = _; omega
  · show 0 + 1 * (x 2).val = _; omega

/-- One stored piece of the constants. -/
theorem kPiece (m : Memref sig .tc .vmem S12x2560 .i32) (h : m.IsWhole) (x4 : Vec Ideal S12x2560 .i32) (m7 : Memref sig .tc .vmem S32x640 .f32) (h7 : m7.IsWhole) (x5 : Vec Ideal S32x640 .f32) (m8 : Memref sig .tc .vmem S32x640 .f32) (h8 : m8.IsWhole) (x6 : Vec Ideal S32x640 .f32)
    (i : grid0.Coords) (c : Fin 4) (w : Fin 5) (V : Vec Ideal S1x1x640 .f32) (il) (hV : V = kV (L6 m h x4 c il) (L7 m7 h7 i x5 c) (L7 m8 h8 i x6 c) w)
    (off : Fin 3 → ℕ) (ho : off = ![4 * (i 1).val + c.val, w.val, 0]) (inb : ∀ a, off a + S1x1x640.size a ≤ S32x8x640.size a) (x : S1x1x640.Idx) :
    V x = kG x4 x5 x6 ((Rect.unit (s := S32x8x640) off S1x1x640.size inb).emb x) := by
  subst ho
  have ex : x = ix3 0 0 (x 2) := by
    funext a
    match a with
    | 0 => exact Fin.ext (by have h : (x 0).val < 1 := (x 0).isLt; show (x 0).val = 0; omega)
    | 1 => exact Fin.ext (by have h : (x 1).val < 1 := (x 1).isLt; show (x 1).val = 0; omega)
    | 2 => rfl
  have h0 : (x 0).val < 1 := (x 0).isLt
  have h1 : (x 1).val < 1 := (x 1).isLt
  rw [hV]
  refine ((congrArg (kV _ _ _ w) ex).trans (kV_at _ _ _ w (x 2))).trans ?_
  rw [L7_at m7 h7 i x5 c (x 2), L7_at m8 h8 i x6 c (x 2), show (fun j => L6 m h x4 c il (ix2 j (x 2))) = fun j => x4 (ix2 j ⟨640 * c.val + (x 2).val, by have := c.isLt; have : (x 2).val < 640 := (x 2).isLt; omega⟩) from funext fun j => L6_at m h x4 c il j (x 2)]
  refine (kG_at x4 x5 x6 i c w (x 2) _ ?_ ?_ ?_).symm
  · show 4 * (i 1).val + c.val + 1 * (x 0).val = _; omega
  · show w.val + 1 * (x 1).val = _; omega
  · show 0 + 1 * (x 2).val = _; omega

/-- An element under a unit-stride rectangle that a list of writes has is under one of its writes. -/
theorem mem_unit {s : Shape} {e : EltTy} (L : List (View.Piece (Elt Ideal) s e)) (off size : Fin s.rank → ℕ) (y : s.Idx)
    (h : ∃ p ∈ L, p.1.off = off ∧ p.1.size = size ∧ p.1.stride = fun _ => 1) (hy : ∀ a, off a ≤ (y a).val ∧ (y a).val < off a + size a) : ∃ p ∈ L, y ∈ p.1.set := by
  obtain ⟨p, hp, ho, hs, ht⟩ := h
  refine ⟨p, hp, p.1.mem_set.mpr fun a => ⟨(y a).val - off a, ?_, ?_⟩⟩
  · rw [hs]; have := hy a; omega
  · rw [ho, ht]; have := hy a; show (y a).val = off a + 1 * ((y a).val - off a); omega

/-- An element of another cluster's rows is under none of the writes at a cluster's. -/
theorem not_mem_rows {s : Shape} {e : EltTy} (L : List (View.Piece (Elt Ideal) s e)) (a : Fin s.rank) (g : ℕ) (y : s.Idx)
    (h : ∀ p ∈ L, ∃ c < 4, p.1.off a = 4 * g + c ∧ p.1.size a = 1 ∧ p.1.stride a = 1) (hy : (y a).val / 4 ≠ g) : ∀ p ∈ L, y ∉ p.1.set := by
  intro p hp
  obtain ⟨c, hc, ho, hs, ht⟩ := h p hp
  exact Rect.not_mem_set_of_axis p.1 y a _ _ ho ht hs (by omega)
end Cert.KernelIdeal.Val
end
-- ==== Proof.ValWant.lean ====
/- What the kernel is to compute for a query and a code, as formulas over the extended reals, and what the launch's blocks
   hold of the codes' words, norms and factors. -/
module
public import proofs.«01_k».proof.Proof.ValBlk
public import proofs.«01_k».proof.Proof.ValPrepB
@[expose] public section
noncomputable section
namespace Cert.KernelIdeal.Val
open Idealize.ShloMosaic Idealize.ShloMosaic.TcCoe Idealize.ShloMosaic.Tactic
open Cert.KernelIdeal.Gen

/-- One quantised coordinate. -/
def cS (R : Vec Ideal S384x384 .f32) (p q : Fin 384 → EReal) (o : EReal) (d : Fin 384) : EReal :=
  min (Ideal.ofBits FTy.f32 1097859072#32) (max 0 (Ideal.liftRound Int.floor
    ((dS R p q d * Ideal.div 1 (nS p q) - vlS R p q) * Ideal.div 1 (dlS R p q) + o)))
/-- The statistics of a query and a centroid that the estimates use. -/
def stE (R : Vec Ideal S384x384 .f32) (p q : Fin 384 → EReal) (w : Fin 4) : EReal :=
  ![dlS R p q * (Named.named κ "inv_sd" 1028720108#32 : Ideal .f32), vlS R p q, nS p q, nS p q * nS p q] w
/-- The estimated inner product of a query and a code. -/
def ipT (R : Vec Ideal S384x384 .f32) (p q o : Fin 384 → EReal) (w : Fin 12 → BitVec 32) (a u : EReal) : EReal :=
  (stE R p q 0 * ∑ d : Fin 384, cS R p q (o d) d * bitE (w ⟨d.val / 32, by have := d.isLt; omega⟩) (d.val % 32) + stE R p q 1 * kE w a u 1) * kE w a u 0
/-- The error bound. -/
def boT (R : Vec Ideal S384x384 .f32) (p q : Fin 384 → EReal) (w : Fin 12 → BitVec 32) (a u : EReal) : EReal :=
  kE w a u 2 * stE R p q 2 * kE w a u 4
/-- The estimated squared distance. -/
def diT (R : Vec Ideal S384x384 .f32) (p q o : Fin 384 → EReal) (w : Fin 12 → BitVec 32) (a u : EReal) : EReal :=
  kE w a u 3 + stE R p q 3 - kE w a u 2 * stE R p q 2 * ipT R p q o w a u

theorem pay116_at (N : FVec Ideal S200x1 .f32) (x : S200x1.Idx) : k0_pay116 N x = Ideal.div 1 (N x) := by
  unfold k0_pay116
  pointwise

theorem pay119_at (o : Vec Ideal S200x384 .f32) (D : FVec Ideal S200x384 .f32) (N : FVec Ideal S200x1 .f32) (r : Fin 200) (d : Fin 384) :
    k0_pay119 o D N (ix2 r d) = min (Ideal.ofBits FTy.f32 1097859072#32) (max 0 (Ideal.liftRound Int.floor
      ((D (ix2 r d) * k0_pay116 N (ix2 r 0) - k0_pay117 D N (ix2 r 0)) * Ideal.div 1 (k0_pay118 D N (ix2 r 0)) + o (ix2 r d)))) := by
  unfold k0_pay119
  generalize k0_pay118 D N = u1
  generalize k0_pay117 D N = u2
  generalize k0_pay116 N = u3
  pointwise

section
variable (x0 xr : Vec Ideal S200x384 .f32) (x2 xc : Vec Ideal S32x384 .f32) (R : Vec Ideal S384x384 .f32)

theorem pay117_row (r : Fin 200) (k : Fin 32) (hr : ∀ d, xr (ix2 r d) = rotS R (fun j => x0 (ix2 r j)) d) (hc : ∀ d, xc (ix2 k d) = rotS R (fun j => x2 (ix2 k j)) d) :
    k0_pay117 (Dv xr xc k) (Nv x0 x2 k) (ix2 r 0) = vlS R (fun j => x0 (ix2 r j)) (fun j => x2 (ix2 k j)) := by
  rw [pay117_at, Nv_at]
  unfold vlS
  rw [← funext fun d => Dv_row x0 xr x2 xc R r k hr hc d]; rfl
theorem pay118_row (r : Fin 200) (k : Fin 32) (hr : ∀ d, xr (ix2 r d) = rotS R (fun j => x0 (ix2 r j)) d) (hc : ∀ d, xc (ix2 k d) = rotS R (fun j => x2 (ix2 k j)) d) :
    k0_pay118 (Dv xr xc k) (Nv x0 x2 k) (ix2 r 0) = dlS R (fun j => x0 (ix2 r j)) (fun j => x2 (ix2 k j)) := by
  rw [pay118_at, Nv_at]
  unfold dlS vrS vlS
  rw [← funext fun d => Dv_row x0 xr x2 xc R r k hr hc d]; rfl

theorem cqS_row (o : Vec Ideal S200x384 .f32) (r : Fin 200) (k : Fin 32) (hr : ∀ d, xr (ix2 r d) = rotS R (fun j => x0 (ix2 r j)) d) (hc : ∀ d, xc (ix2 k d) = rotS R (fun j => x2 (ix2 k j)) d) (d : Fin 384) :
    cqS o (Dv xr xc k) (Nv x0 x2 k) r d = cS R (fun j => x0 (ix2 r j)) (fun j => x2 (ix2 k j)) (o (ix2 r d)) d := by
  unfold cqS cS
  rw [pay119_at, pay116_at, pay117_row x0 xr x2 xc R r k hr hc, pay118_row x0 xr x2 xc R r k hr hc, Dv_row x0 xr x2 xc R r k hr hc, Nv_at]; rfl
theorem stS_row (r : Fin 200) (k : Fin 32) (hr : ∀ d, xr (ix2 r d) = rotS R (fun j => x0 (ix2 r j)) d) (hc : ∀ d, xc (ix2 k d) = rotS R (fun j => x2 (ix2 k j)) d) (w : Fin 4) :
    stS (Dv xr xc k) (Nv x0 x2 k) w r = stE R (fun j => x0 (ix2 r j)) (fun j => x2 (ix2 k j)) w := by
  unfold stS stE
  rw [pay117_row x0 xr x2 xc R r k hr hc, pay118_row x0 xr x2 xc R r k hr hc, Nv_at]; rfl
end

variable (m : (ℓ : Loc nD τ sig) → Buf (Elt Ideal) ℓ)

/-- A query, a centroid, the rotation and a query's rounding offsets, as the launch finds them. -/
def Q (c : Dev nD) (n : Fin 3000) : Fin 384 → EReal := fun d => (V m c main_arg0 : Vec Ideal S3000x384 .f32) (ix2 n d)
def C (c : Dev nD) (k : Fin 32) : Fin 384 → EReal := fun d => (V m c main_arg1 : Vec Ideal S32x384 .f32) (ix2 k d)
def RT (c : Dev nD) : Vec Ideal S384x384 .f32 := (V m c main_arg2 : Vec Ideal S384x384 .f32)
def OF (c : Dev nD) (n : Fin 3000) : Fin 384 → EReal := fun d => (V m c main_arg3 : Vec Ideal S3000x384 .f32) (ix2 n d)

/-- The place of a cluster's code among all codes. -/
def colJ (k : Fin 32) (n : Fin 640) : Fin 20480 := ⟨640 * k.val + n.val, by have := k.isLt; have := n.isLt; omega⟩
/-- The words, the norm and the factor of a code, as the launch finds them. -/
def WD (c : Dev nD) (k : Fin 32) (n : Fin 640) : Fin 12 → BitVec 32 := fun j => (V m c main_v1 : Vec Ideal S12x20480 .i32) (ix2 j (colJ k n))
def NR (c : Dev nD) (k : Fin 32) (n : Fin 640) : EReal := (V m c main_v2 : Vec Ideal S32x640 .f32) (ix2 k n)
def OO (c : Dev nD) (k : Fin 32) (n : Fin 640) : EReal := (V m c main_v3 : Vec Ideal S32x640 .f32) (ix2 k n)

theorem iblk4_at (c : Dev nD) (t : Fin cfg0.N) (ht : t.val < 8) (cc : Fin 4) (n : Fin 640) (k : Fin 32) (hk : k.val = 4 * t.val + cc.val) (j : Fin 12) :
    (iblk m c 4 t : Vec Ideal S12x2560 .i32) (ix2 j ⟨640 * cc.val + n.val, by have := cc.isLt; have := n.isLt; omega⟩) = WD m c k n j := by
  unfold WD
  blk_simp [iblk]
  congr 1
  blk_ext [widx4, colJ]
  all_goals rw [if_pos ht]; omega

theorem iblk5_eq (c : Dev nD) (t : Fin cfg0.N) : (iblk m c 5 t : Vec Ideal S32x640 .f32) = (V m c main_v2 : Vec Ideal S32x640 .f32) := by
  funext x
  blk_simp [iblk]
  congr 1
  blk_ext [widx5]

theorem iblk6_eq (c : Dev nD) (t : Fin cfg0.N) : (iblk m c 6 t : Vec Ideal S32x640 .f32) = (V m c main_v3 : Vec Ideal S32x640 .f32) := by
  funext x
  blk_simp [iblk]
  congr 1
  blk_ext [widx6]

/-- A new row of bits holds the signs of the cluster's codes. -/
theorem bG_row (c : Dev nD) (t : Fin cfg0.N) (ht : t.val < 8) (cc : Fin 4) (k : Fin 32) (hk : k.val = 4 * t.val + cc.val) (d : Fin 384) (n : Fin 640) :
    bG (iblk m c 4 t) (ix3 k d n) = bitE (WD m c k n ⟨d.val / 32, by have := d.isLt; omega⟩) (d.val % 32) := by
  have hd := d.isLt
  have e1 : ((grid0.coords t) 1).val = t.val := by rw [crd1]; omega
  refine (bG_at (iblk m c 4 t) (grid0.coords t) cc ⟨d.val / 32, by omega⟩ ⟨d.val % 32, by omega⟩ n (ix3 k d n) ?_ ?_ rfl).trans ?_
  · show k.val = _; rw [e1]; exact hk
  · show d.val = 32 * (d.val / 32) + d.val % 32; omega
  · rw [iblk4_at m c t ht cc n k hk]

/-- A new row of constants holds the constants of the cluster's codes. -/
theorem kG_row (c : Dev nD) (t : Fin cfg0.N) (ht : t.val < 8) (cc : Fin 4) (k : Fin 32) (hk : k.val = 4 * t.val + cc.val) (w : Fin 5) (n : Fin 640) :
    kG (iblk m c 4 t) (iblk m c 5 t) (iblk m c 6 t) (ix3 k ⟨w.val, by have := w.isLt; omega⟩ n) = kE (WD m c k n) (NR m c k n) (OO m c k n) w := by
  have e1 : ((grid0.coords t) 1).val = t.val := by rw [crd1]; omega
  have ek : kk (grid0.coords t) cc = k := Fin.ext (by show 4 * ((grid0.coords t) 1).val + cc.val = _; rw [e1, hk])
  refine (kG_at (iblk m c 4 t) (iblk m c 5 t) (iblk m c 6 t) (grid0.coords t) cc w n (ix3 k ⟨w.val, by have := w.isLt; omega⟩ n) ?_ rfl rfl).trans ?_
  · show k.val = _; rw [e1]; exact hk
  · rw [ek, iblk5_eq, iblk6_eq, show (fun j => (iblk m c 4 t : Vec Ideal S12x2560 .i32) (ix2 j ⟨640 * cc.val + n.val, by have := cc.isLt; have := n.isLt; omega⟩)) = WD m c k n from funext fun j => iblk4_at m c t ht cc n k hk j]
    rfl
end Cert.KernelIdeal.Val
end
-- ==== Proof.ValPrepF.lean ====
module
public import proofs.«01_k».proof.Proof.ValSpec
@[expose] public section
noncomputable section
namespace Cert.KernelIdeal.Val
open Idealize.ShloMosaic Idealize.ShloMosaic.TcCoe Idealize.ShloMosaic.Tactic
open Cert.KernelIdeal.Gen

theorem prep_r (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.r = if (i 1).val = 0 then k0_pay109 x0 x3 else xr := by
  unfold prepRun
  dsimp only
  split
  · next h => rw [if_pos ((cond_g (i 1)).mp h), View.read_writes_full, View.readAt_full, View.readAt_full]; simp only [Memref.IsWhole.read_unread]
  · next h => rw [if_neg (fun e => h ((cond_g (i 1)).mpr e))]; simp only [Memref.IsWhole.read_unread]

theorem prep_c (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.c = if (i 1).val = 0 ∧ (i 0).val = 0 then k0_pay110 x2 x3 else xc := by
  unfold prepRun
  dsimp only
  split
  · next h => rw [if_pos ((cond_gi (i 1) (i 0)).mp h), View.read_writes_full, View.readAt_full, View.readAt_full]; simp only [Memref.IsWhole.read_unread]
  · next h => rw [if_neg (fun e => h ((cond_gi (i 1) (i 0)).mpr e))]; simp only [Memref.IsWhole.read_unread]

theorem prep_v (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v11 = x0 ∧ (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v12 = (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.r ∧ (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v13 = x1 ∧ (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v14 = lanes ∧ (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v16 = y13 ∧ (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v18 = y14 ∧ (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v20 = BitVec.ofNat 32 (kk i 0).val
    ∧ (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v28 = Dv (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.r (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.c (kk i 0) ∧ (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.v32 = Nv x0 x2 (kk i 0) := by
  unfold prepRun
  dsimp only
  refine ⟨?_, ?_, ?_, ?_, ?_, ?_, ?_, ?_, ?_⟩
  · rw [View.readAt_full]; simp only [Memref.IsWhole.read_unread]
  · unfold prepRun.sl.v12; exact View.readAt_full _ _ _
  · rw [View.readAt_full]; simp only [Memref.IsWhole.read_unread]
  · rfl
  · rw [View.readAt_full]; simp only [Memref.IsWhole.read_unread]; exact shapeCast_self _ _
  · rw [View.readAt_full]; simp only [Memref.IsWhole.read_unread]; exact shapeCast_self _ _
  · exact kk_word i 0
  · unfold prepRun.sl.v12 prepRun.sl.v26 Dv; rw [View.readAt_full]; exact congrArg _ (load_rowf _ _ i 0 _)
  · rw [View.readAt_full]; simp only [Memref.IsWhole.read_unread]; exact congrArg _ (load_row arg4 harg4 x2 i 0 _)
end Cert.KernelIdeal.Val
end
-- ==== Proof.ValBodyF.lean ====
module
public import proofs.«01_k».proof.Proof.ValSpec
@[expose] public section
noncomputable section
namespace Cert.KernelIdeal.Val
open Idealize.ShloMosaic Idealize.ShloMosaic.TcCoe Idealize.ShloMosaic.Tactic
open Cert.KernelIdeal.Gen

theorem body_de (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs x0 xr x1 lanes y13 y14 (BitVec.ofNat 32 (kk i 0).val) (Dv xr xc (kk i 0)) (Nv x0 x2 (kk i 0))).1.de = cols lanes y13 (fun c => BitVec.ofNat 32 (kk i c).val) (fun c => Dv xr xc (kk i c)) (fun c => Nv x0 x2 (kk i c)) := by
  unfold bodyRun
  dsimp only
  unfold bodyRun.sl.H11_1
  refine (View.read_writes_full _ _ _ _ _).trans ?_
  simp only [← kk_word, ← Dl_eq arg17 harg17, ← Nl_eq arg4 harg4]
  rfl

theorem body_vl (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs x0 xr x1 lanes y13 y14 (BitVec.ofNat 32 (kk i 0).val) (Dv xr xc (kk i 0)) (Nv x0 x2 (kk i 0))).1.vl = colsv lanes y14 (fun c => BitVec.ofNat 32 (kk i c).val) (fun c => Dv xr xc (kk i c)) (fun c => Nv x0 x2 (kk i c)) := by
  unfold bodyRun
  dsimp only
  unfold bodyRun.sl.H12_1
  refine (View.read_writes_full _ _ _ _ _).trans ?_
  simp only [← kk_word, ← Dl_eq arg17 harg17, ← Nl_eq arg4 harg4]
  rfl
end Cert.KernelIdeal.Val
end
-- ==== Proof.ValPrepK.lean ====
/- What the first row block leaves in the buffers of bits and of constants. -/
module
public import proofs.«01_k».proof.Proof.ValPrepB
@[expose] public section
noncomputable section
namespace Cert.KernelIdeal.Val
open Idealize.ShloMosaic Idealize.ShloMosaic.TcCoe Idealize.ShloMosaic.Tactic
open Cert.KernelIdeal.Gen

theorem forall_cons' {α : Type*} {P : α → Prop} {a : α} {L : List α} (h : P a) (t : ∀ p ∈ L, P p) : ∀ p ∈ a :: L, P p := List.forall_mem_cons.mpr ⟨h, t⟩

set_option maxHeartbeats 4000000 in
theorem prep_b_new (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) (hi : (i 0).val = 0) (cc : Fin 4) (d : Fin 384) (n : Fin 640) :
    (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.b (ix3 (kk i cc) d n) = bG x4 (ix3 (kk i cc) d n) := by
  unfold prepRun
  dsimp only
  rw [dif_pos ((cond3 i).mpr hi)]
  refine View.read_writes_apply_of_pieces (Val := Elt Ideal) (e := .bf16) _ _ (bG x4) _ ?_ (ix3 (kk i cc) d n) ?_
  · refine forall_piece _ _ _ ?_ ?_
    · refine bPiece arg6 harg6 x4 i 3 11 _ inb_S12x2560_S12x640_0_1920 ?_ _ (hoff i 3 352 0) _
      show _ = bV 11 (L6 arg6 harg6 x4 3 inb_S12x2560_S12x640_0_1920); rfl
    refine forall_piece _ _ _ ?_ ?_
    · refine bPiece arg6 harg6 x4 i 3 10 _ inb_S12x2560_S12x640_0_1920 ?_ _ (hoff i 3 320 0) _
      show _ = bV 10 (L6 arg6 harg6 x4 3 inb_S12x2560_S12x640_0_1920); rfl
    refine forall_piece _ _ _ ?_ ?_
    · refine bPiece arg6 harg6 x4 i 3 9 _ inb_S12x2560_S12x640_0_1920 ?_ _ (hoff i 3 288 0) _
      show _ = bV 9 (L6 arg6 harg6 x4 3 inb_S12x2560_S12x640_0_1920); rfl
    refine forall_piece _ _ _ ?_ ?_
    · refine bPiece arg6 harg6 x4 i 3 8 _ inb_S12x2560_S12x640_0_1920 ?_ _ (hoff i 3 256 0) _
      show _ = bV 8 (L6 arg6 harg6 x4 3 inb_S12x2560_S12x640_0_1920); rfl
    refine forall_piece _ _ _ ?_ ?_
    · refine bPiece arg6 harg6 x4 i 3 7 _ inb_S12x2560_S12x640_0_1920 ?_ _ (hoff i 3 224 0) _
      show _ = bV 7 (L6 arg6 harg6 x4 3 inb_S12x2560_S12x640_0_1920); rfl
    refine forall_piece _ _ _ ?_ ?_
    · refine bPiece arg6 harg6 x4 i 3 6 _ inb_S12x2560_S12x640_0_1920 ?_ _ (hoff i 3 192 0) _
      show _ = bV 6 (L6 arg6 harg6 x4 3 inb_S12x2560_S12x640_0_1920); rfl
    refine forall_piece _ _ _ ?_ ?_
    · refine bPiece arg6 harg6 x4 i 3 5 _ inb_S12x2560_S12x640_0_1920 ?_ _ (hoff i 3 160 0) _
      show _ = bV 5 (L6 arg6 harg6 x4 3 inb_S12x2560_S12x640_0_1920); rfl
    refine forall_piece _ _ _ ?_ ?_
    · refine bPiece arg6 harg6 x4 i 3 4 _ inb_S12x2560_S12x640_0_1920 ?_ _ (hoff i 3 128 0) _
      show _ = bV 4 (L6 arg6 harg6 x4 3 inb_S12x2560_S12x640_0_1920); rfl
    refine forall_piece _ _ _ ?_ ?_
    · refine bPiece arg6 harg6 x4 i 3 3 _ inb_S12x2560_S12x640_0_1920 ?_ _ (hoff i 3 96 0) _
      show _ = bV 3 (L6 arg6 harg6 x4 3 inb_S12x2560_S12x640_0_1920); rfl
    refine forall_piece _ _ _ ?_ ?_
    · refine bPiece arg6 harg6 x4 i 3 2 _ inb_S12x2560_S12x640_0_1920 ?_ _ (hoff i 3 64 0) _
      show _ = bV 2 (L6 arg6 harg6 x4 3 inb_S12x2560_S12x640_0_1920); rfl
    refine forall_piece _ _ _ ?_ ?_
    · refine bPiece arg6 harg6 x4 i 3 1 _ inb_S12x2560_S12x640_0_1920 ?_ _ (hoff i 3 32 0) _
      show _ = bV 1 (L6 arg6 harg6 x4 3 inb_S12x2560_S12x640_0_1920); rfl
    refine forall_piece _ _ _ ?_ ?_
    · refine bPiece arg6 harg6 x4 i 3 0 _ inb_S12x2560_S12x640_0_1920 ?_ _ (hoff i 3 0 0) _
      show _ = bV 0 (L6 arg6 harg6 x4 3 inb_S12x2560_S12x640_0_1920); rfl
    refine forall_piece _ _ _ ?_ ?_
    · refine bPiece arg6 harg6 x4 i 2 11 _ inb_S12x2560_S12x640_0_1280 ?_ _ (hoff i 2 352 0) _
      show _ = bV 11 (L6 arg6 harg6 x4 2 inb_S12x2560_S12x640_0_1280); rfl
    refine forall_piece _ _ _ ?_ ?_
    · refine bPiece arg6 harg6 x4 i 2 10 _ inb_S12x2560_S12x640_0_1280 ?_ _ (hoff i 2 320 0) _
      show _ = bV 10 (L6 arg6 harg6 x4 2 inb_S12x2560_S12x640_0_1280); rfl
    refine forall_piece _ _ _ ?_ ?_
    · refine bPiece arg6 harg6 x4 i 2 9 _ inb_S12x2560_S12x640_0_1280 ?_ _ (hoff i 2 288 0) _
      show _ = bV 9 (L6 arg6 harg6 x4 2 inb_S12x2560_S12x640_0_1280); rfl
    refine forall_piece _ _ _ ?_ ?_
    · refine bPiece arg6 harg6 x4 i 2 8 _ inb_S12x2560_S12x640_0_1280 ?_ _ (hoff i 2 256 0) _
      show _ = bV 8 (L6 arg6 harg6 x4 2 inb_S12x2560_S12x640_0_1280); rfl
    refine forall_piece _ _ _ ?_ ?_
    · refine bPiece arg6 harg6 x4 i 2 7 _ inb_S12x2560_S12x640_0_1280 ?_ _ (hoff i 2 224 0) _
      show _ = bV 7 (L6 arg6 harg6 x4 2 inb_S12x2560_S12x640_0_1280); rfl
    refine forall_piece _ _ _ ?_ ?_
    · refine bPiece arg6 harg6 x4 i 2 6 _ inb_S12x2560_S12x640_0_1280 ?_ _ (hoff i 2 192 0) _
      show _ = bV 6 (L6 arg6 harg6 x4 2 inb_S12x2560_S12x640_0_1280); rfl
    refine forall_piece _ _ _ ?_ ?_
    · refine bPiece arg6 harg6 x4 i 2 5 _ inb_S12x2560_S12x640_0_1280 ?_ _ (hoff i 2 160 0) _
      show _ = bV 5 (L6 arg6 harg6 x4 2 inb_S12x2560_S12x640_0_1280); rfl
    refine forall_piece _ _ _ ?_ ?_
    · refine bPiece arg6 harg6 x4 i 2 4 _ inb_S12x2560_S12x640_0_1280 ?_ _ (hoff i 2 128 0) _
      show _ = bV 4 (L6 arg6 harg6 x4 2 inb_S12x2560_S12x640_0_1280); rfl
    refine forall_piece _ _ _ ?_ ?_
    · refine bPiece arg6 harg6 x4 i 2 3 _ inb_S12x2560_S12x640_0_1280 ?_ _ (hoff i 2 96 0) _
      show _ = bV 3 (L6 arg6 harg6 x4 2 inb_S12x2560_S12x640_0_1280); rfl
    refine forall_piece _ _ _ ?_ ?_
    · refine bPiece arg6 harg6 x4 i 2 2 _ inb_S12x2560_S12x640_0_1280 ?_ _ (hoff i 2 64 0) _
      show _ = bV 2 (L6 arg6 harg6 x4 2 inb_S12x2560_S12x640_0_1280); rfl
    refine forall_piece _ _ _ ?_ ?_
    · refine bPiece arg6 harg6 x4 i 2 1 _ inb_S12x2560_S12x640_0_1280 ?_ _ (hoff i 2 32 0) _
      show _ = bV 1 (L6 arg6 harg6 x4 2 inb_S12x2560_S12x640_0_1280); rfl
    refine forall_piece _ _ _ ?_ ?_
    · refine bPiece arg6 harg6 x4 i 2 0 _ inb_S12x2560_S12x640_0_1280 ?_ _ (hoff i 2 0 0) _
      show _ = bV 0 (L6 arg6 harg6 x4 2 inb_S12x2560_S12x640_0_1280); rfl
    refine forall_piece _ _ _ ?_ ?_
    · refine bPiece arg6 harg6 x4 i 1 11 _ inb_S12x2560_S12x640_0_640 ?_ _ (hoff i 1 352 0) _
      show _ = bV 11 (L6 arg6 harg6 x4 1 inb_S12x2560_S12x640_0_640); rfl
    refine forall_piece _ _ _ ?_ ?_
    · refine bPiece arg6 harg6 x4 i 1 10 _ inb_S12x2560_S12x640_0_640 ?_ _ (hoff i 1 320 0) _
      show _ = bV 10 (L6 arg6 harg6 x4 1 inb_S12x2560_S12x640_0_640); rfl
    refine forall_piece _ _ _ ?_ ?_
    · refine bPiece arg6 harg6 x4 i 1 9 _ inb_S12x2560_S12x640_0_640 ?_ _ (hoff i 1 288 0) _
      show _ = bV 9 (L6 arg6 harg6 x4 1 inb_S12x2560_S12x640_0_640); rfl
    refine forall_piece _ _ _ ?_ ?_
    · refine bPiece arg6 harg6 x4 i 1 8 _ inb_S12x2560_S12x640_0_640 ?_ _ (hoff i 1 256 0) _
      show _ = bV 8 (L6 arg6 harg6 x4 1 inb_S12x2560_S12x640_0_640); rfl
    refine forall_piece _ _ _ ?_ ?_
    · refine bPiece arg6 harg6 x4 i 1 7 _ inb_S12x2560_S12x640_0_640 ?_ _ (hoff i 1 224 0) _
      show _ = bV 7 (L6 arg6 harg6 x4 1 inb_S12x2560_S12x640_0_640); rfl
    refine forall_piece _ _ _ ?_ ?_
    · refine bPiece arg6 harg6 x4 i 1 6 _ inb_S12x2560_S12x640_0_640 ?_ _ (hoff i 1 192 0) _
      show _ = bV 6 (L6 arg6 harg6 x4 1 inb_S12x2560_S12x640_0_640); rfl
    refine forall_piece _ _ _ ?_ ?_
    · refine bPiece arg6 harg6 x4 i 1 5 _ inb_S12x2560_S12x640_0_640 ?_ _ (hoff i 1 160 0) _
      show _ = bV 5 (L6 arg6 harg6 x4 1 inb_S12x2560_S12x640_0_640); rfl
    refine forall_piece _ _ _ ?_ ?_
    · refine bPiece arg6 harg6 x4 i 1 4 _ inb_S12x2560_S12x640_0_640 ?_ _ (hoff i 1 128 0) _
      show _ = bV 4 (L6 arg6 harg6 x4 1 inb_S12x2560_S12x640_0_640); rfl
    refine forall_piece _ _ _ ?_ ?_
    · refine bPiece arg6 harg6 x4 i 1 3 _ inb_S12x2560_S12x640_0_640 ?_ _ (hoff i 1 96 0) _
      show _ = bV 3 (L6 arg6 harg6 x4 1 inb_S12x2560_S12x640_0_640); rfl
    refine forall_piece _ _ _ ?_ ?_
    · refine bPiece arg6 harg6 x4 i 1 2 _ inb_S12x2560_S12x640_0_640 ?_ _ (hoff i 1 64 0) _
      show _ = bV 2 (L6 arg6 harg6 x4 1 inb_S12x2560_S12x640_0_640); rfl
    refine forall_piece _ _ _ ?_ ?_
    · refine bPiece arg6 harg6 x4 i 1 1 _ inb_S12x2560_S12x640_0_640 ?_ _ (hoff i 1 32 0) _
      show _ = bV 1 (L6 arg6 harg6 x4 1 inb_S12x2560_S12x640_0_640); rfl
    refine forall_piece _ _ _ ?_ ?_
    · refine bPiece arg6 harg6 x4 i 1 0 _ inb_S12x2560_S12x640_0_640 ?_ _ (hoff i 1 0 0) _
      show _ = bV 0 (L6 arg6 harg6 x4 1 inb_S12x2560_S12x640_0_640); rfl
    refine forall_piece _ _ _ ?_ ?_
    · refine bPiece arg6 harg6 x4 i 0 11 _ inb_S12x2560_S12x640_0_0 ?_ _ (hoff i 0 352 0) _
      show _ = bV 11 (L6 arg6 harg6 x4 0 inb_S12x2560_S12x640_0_0); rfl
    refine forall_piece _ _ _ ?_ ?_
    · refine bPiece arg6 harg6 x4 i 0 10 _ inb_S12x2560_S12x640_0_0 ?_ _ (hoff i 0 320 0) _
      show _ = bV 10 (L6 arg6 harg6 x4 0 inb_S12x2560_S12x640_0_0); rfl
    refine forall_piece _ _ _ ?_ ?_
    · refine bPiece arg6 harg6 x4 i 0 9 _ inb_S12x2560_S12x640_0_0 ?_ _ (hoff i 0 288 0) _
      show _ = bV 9 (L6 arg6 harg6 x4 0 inb_S12x2560_S12x640_0_0); rfl
    refine forall_piece _ _ _ ?_ ?_
    · refine bPiece arg6 harg6 x4 i 0 8 _ inb_S12x2560_S12x640_0_0 ?_ _ (hoff i 0 256 0) _
      show _ = bV 8 (L6 arg6 harg6 x4 0 inb_S12x2560_S12x640_0_0); rfl
    refine forall_piece _ _ _ ?_ ?_
    · refine bPiece arg6 harg6 x4 i 0 7 _ inb_S12x2560_S12x640_0_0 ?_ _ (hoff i 0 224 0) _
      show _ = bV 7 (L6 arg6 harg6 x4 0 inb_S12x2560_S12x640_0_0); rfl
    refine forall_piece _ _ _ ?_ ?_
    · refine bPiece arg6 harg6 x4 i 0 6 _ inb_S12x2560_S12x640_0_0 ?_ _ (hoff i 0 192 0) _
      show _ = bV 6 (L6 arg6 harg6 x4 0 inb_S12x2560_S12x640_0_0); rfl
    refine forall_piece _ _ _ ?_ ?_
    · refine bPiece arg6 harg6 x4 i 0 5 _ inb_S12x2560_S12x640_0_0 ?_ _ (hoff i 0 160 0) _
      show _ = bV 5 (L6 arg6 harg6 x4 0 inb_S12x2560_S12x640_0_0); rfl
    refine forall_piece _ _ _ ?_ ?_
    · refine bPiece arg6 harg6 x4 i 0 4 _ inb_S12x2560_S12x640_0_0 ?_ _ (hoff i 0 128 0) _
      show _ = bV 4 (L6 arg6 harg6 x4 0 inb_S12x2560_S12x640_0_0); rfl
    refine forall_piece _ _ _ ?_ ?_
    · refine bPiece arg6 harg6 x4 i 0 3 _ inb_S12x2560_S12x640_0_0 ?_ _ (hoff i 0 96 0) _
      show _ = bV 3 (L6 arg6 harg6 x4 0 inb_S12x2560_S12x640_0_0); rfl
    refine forall_piece _ _ _ ?_ ?_
    · refine bPiece arg6 harg6 x4 i 0 2 _ inb_S12x2560_S12x640_0_0 ?_ _ (hoff i 0 64 0) _
      show _ = bV 2 (L6 arg6 harg6 x4 0 inb_S12x2560_S12x640_0_0); rfl
    refine forall_piece _ _ _ ?_ ?_
    · refine bPiece arg6 harg6 x4 i 0 1 _ inb_S12x2560_S12x640_0_0 ?_ _ (hoff i 0 32 0) _
      show _ = bV 1 (L6 arg6 harg6 x4 0 inb_S12x2560_S12x640_0_0); rfl
    refine forall_piece _ _ _ ?_ ?_
    · refine bPiece arg6 harg6 x4 i 0 0 _ inb_S12x2560_S12x640_0_0 ?_ _ (hoff i 0 0 0) _
      show _ = bV 0 (L6 arg6 harg6 x4 0 inb_S12x2560_S12x640_0_0); rfl
    exact fun p hp => absurd hp List.not_mem_nil
  · refine mem_unit (s := S32x384x640) _ ![4 * (i 1).val + cc.val, 32 * (d.val / 32), 0] ![1, 32, 640] _ ?_ fun a => ?_
    · have hd : d.val / 32 < 12 := by have := d.isLt; omega
      obtain ⟨w, hw⟩ : ∃ w : Fin 12, w.val = d.val / 32 := ⟨⟨_, hd⟩, rfl⟩
      rw [← hw]
      match cc, w with
      | 3, 11 => exact ⟨_, List.mem_of_getElem? (i := 0) rfl, hoff i 3 352 0, rfl, rfl⟩
      | 3, 10 => exact ⟨_, List.mem_of_getElem? (i := 1) rfl, hoff i 3 320 0, rfl, rfl⟩
      | 3, 9 => exact ⟨_, List.mem_of_getElem? (i := 2) rfl, hoff i 3 288 0, rfl, rfl⟩
      | 3, 8 => exact ⟨_, List.mem_of_getElem? (i := 3) rfl, hoff i 3 256 0, rfl, rfl⟩
      | 3, 7 => exact ⟨_, List.mem_of_getElem? (i := 4) rfl, hoff i 3 224 0, rfl, rfl⟩
      | 3, 6 => exact ⟨_, List.mem_of_getElem? (i := 5) rfl, hoff i 3 192 0, rfl, rfl⟩
      | 3, 5 => exact ⟨_, List.mem_of_getElem? (i := 6) rfl, hoff i 3 160 0, rfl, rfl⟩
      | 3, 4 => exact ⟨_, List.mem_of_getElem? (i := 7) rfl, hoff i 3 128 0, rfl, rfl⟩
      | 3, 3 => exact ⟨_, List.mem_of_getElem? (i := 8) rfl, hoff i 3 96 0, rfl, rfl⟩
      | 3, 2 => exact ⟨_, List.mem_of_getElem? (i := 9) rfl, hoff i 3 64 0, rfl, rfl⟩
      | 3, 1 => exact ⟨_, List.mem_of_getElem? (i := 10) rfl, hoff i 3 32 0, rfl, rfl⟩
      | 3, 0 => exact ⟨_, List.mem_of_getElem? (i := 11) rfl, hoff i 3 0 0, rfl, rfl⟩
      | 2, 11 => exact ⟨_, List.mem_of_getElem? (i := 12) rfl, hoff i 2 352 0, rfl, rfl⟩
      | 2, 10 => exact ⟨_, List.mem_of_getElem? (i := 13) rfl, hoff i 2 320 0, rfl, rfl⟩
      | 2, 9 => exact ⟨_, List.mem_of_getElem? (i := 14) rfl, hoff i 2 288 0, rfl, rfl⟩
      | 2, 8 => exact ⟨_, List.mem_of_getElem? (i := 15) rfl, hoff i 2 256 0, rfl, rfl⟩
      | 2, 7 => exact ⟨_, List.mem_of_getElem? (i := 16) rfl, hoff i 2 224 0, rfl, rfl⟩
      | 2, 6 => exact ⟨_, List.mem_of_getElem? (i := 17) rfl, hoff i 2 192 0, rfl, rfl⟩
      | 2, 5 => exact ⟨_, List.mem_of_getElem? (i := 18) rfl, hoff i 2 160 0, rfl, rfl⟩
      | 2, 4 => exact ⟨_, List.mem_of_getElem? (i := 19) rfl, hoff i 2 128 0, rfl, rfl⟩
      | 2, 3 => exact ⟨_, List.mem_of_getElem? (i := 20) rfl, hoff i 2 96 0, rfl, rfl⟩
      | 2, 2 => exact ⟨_, List.mem_of_getElem? (i := 21) rfl, hoff i 2 64 0, rfl, rfl⟩
      | 2, 1 => exact ⟨_, List.mem_of_getElem? (i := 22) rfl, hoff i 2 32 0, rfl, rfl⟩
      | 2, 0 => exact ⟨_, List.mem_of_getElem? (i := 23) rfl, hoff i 2 0 0, rfl, rfl⟩
      | 1, 11 => exact ⟨_, List.mem_of_getElem? (i := 24) rfl, hoff i 1 352 0, rfl, rfl⟩
      | 1, 10 => exact ⟨_, List.mem_of_getElem? (i := 25) rfl, hoff i 1 320 0, rfl, rfl⟩
      | 1, 9 => exact ⟨_, List.mem_of_getElem? (i := 26) rfl, hoff i 1 288 0, rfl, rfl⟩
      | 1, 8 => exact ⟨_, List.mem_of_getElem? (i := 27) rfl, hoff i 1 256 0, rfl, rfl⟩
      | 1, 7 => exact ⟨_, List.mem_of_getElem? (i := 28) rfl, hoff i 1 224 0, rfl, rfl⟩
      | 1, 6 => exact ⟨_, List.mem_of_getElem? (i := 29) rfl, hoff i 1 192 0, rfl, rfl⟩
      | 1, 5 => exact ⟨_, List.mem_of_getElem? (i := 30) rfl, hoff i 1 160 0, rfl, rfl⟩
      | 1, 4 => exact ⟨_, List.mem_of_getElem? (i := 31) rfl, hoff i 1 128 0, rfl, rfl⟩
      | 1, 3 => exact ⟨_, List.mem_of_getElem? (i := 32) rfl, hoff i 1 96 0, rfl, rfl⟩
      | 1, 2 => exact ⟨_, List.mem_of_getElem? (i := 33) rfl, hoff i 1 64 0, rfl, rfl⟩
      | 1, 1 => exact ⟨_, List.mem_of_getElem? (i := 34) rfl, hoff i 1 32 0, rfl, rfl⟩
      | 1, 0 => exact ⟨_, List.mem_of_getElem? (i := 35) rfl, hoff i 1 0 0, rfl, rfl⟩
      | 0, 11 => exact ⟨_, List.mem_of_getElem? (i := 36) rfl, hoff i 0 352 0, rfl, rfl⟩
      | 0, 10 => exact ⟨_, List.mem_of_getElem? (i := 37) rfl, hoff i 0 320 0, rfl, rfl⟩
      | 0, 9 => exact ⟨_, List.mem_of_getElem? (i := 38) rfl, hoff i 0 288 0, rfl, rfl⟩
      | 0, 8 => exact ⟨_, List.mem_of_getElem? (i := 39) rfl, hoff i 0 256 0, rfl, rfl⟩
      | 0, 7 => exact ⟨_, List.mem_of_getElem? (i := 40) rfl, hoff i 0 224 0, rfl, rfl⟩
      | 0, 6 => exact ⟨_, List.mem_of_getElem? (i := 41) rfl, hoff i 0 192 0, rfl, rfl⟩
      | 0, 5 => exact ⟨_, List.mem_of_getElem? (i := 42) rfl, hoff i 0 160 0, rfl, rfl⟩
      | 0, 4 => exact ⟨_, List.mem_of_getElem? (i := 43) rfl, hoff i 0 128 0, rfl, rfl⟩
      | 0, 3 => exact ⟨_, List.mem_of_getElem? (i := 44) rfl, hoff i 0 96 0, rfl, rfl⟩
      | 0, 2 => exact ⟨_, List.mem_of_getElem? (i := 45) rfl, hoff i 0 64 0, rfl, rfl⟩
      | 0, 1 => exact ⟨_, List.mem_of_getElem? (i := 46) rfl, hoff i 0 32 0, rfl, rfl⟩
      | 0, 0 => exact ⟨_, List.mem_of_getElem? (i := 47) rfl, hoff i 0 0 0, rfl, rfl⟩
    · match a with
      | 0 => show 4 * (i 1).val + cc.val ≤ 4 * (i 1).val + cc.val ∧ 4 * (i 1).val + cc.val < 4 * (i 1).val + cc.val + 1; omega
      | 1 => show 32 * (d.val / 32) ≤ d.val ∧ d.val < 32 * (d.val / 32) + 32; omega
      | 2 => show 0 ≤ n.val ∧ n.val < 0 + 640; omega

set_option maxHeartbeats 4000000 in
theorem prep_k_new (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) (hi : (i 0).val = 0) (cc : Fin 4) (w : Fin 5) (n : Fin 640) :
    (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.k (ix3 (kk i cc) ⟨w.val, by omega⟩ n) = kG x4 x5 x6 (ix3 (kk i cc) ⟨w.val, by omega⟩ n) := by
  unfold prepRun
  dsimp only
  rw [dif_pos ((cond3 i).mpr hi)]
  refine View.read_writes_apply_of_pieces (Val := Elt Ideal) (e := .f32) _ _ (kG x4 x5 x6) _ ?_ (ix3 (kk i cc) ⟨w.val, by omega⟩ n) ?_
  · refine forall_piece _ _ _ ?_ ?_
    · refine kPiece arg6 harg6 x4 arg7 harg7 x5 arg8 harg8 x6 i 3 4 _ inb_S12x2560_S12x640_0_1920 ?_ _ (hoff i 3 4 0) _
      show _ = k0_pay28 (k0_pay6 (L7 arg8 harg8 i x6 3)); rfl
    refine forall_piece _ _ _ ?_ ?_
    · refine kPiece arg6 harg6 x4 arg7 harg7 x5 arg8 harg8 x6 i 3 3 _ inb_S12x2560_S12x640_0_1920 ?_ _ (hoff i 3 3 0) _
      show _ = k0_pay27 (k0_pay5 (L7 arg7 harg7 i x5 3)); rfl
    refine forall_piece _ _ _ ?_ ?_
    · refine kPiece arg6 harg6 x4 arg7 harg7 x5 arg8 harg8 x6 i 3 2 _ inb_S12x2560_S12x640_0_1920 ?_ _ (hoff i 3 2 0) _
      show _ = k0_pay26 (k0_pay5 (L7 arg7 harg7 i x5 3)); rfl
    refine forall_piece _ _ _ ?_ ?_
    · refine kPiece arg6 harg6 x4 arg7 harg7 x5 arg8 harg8 x6 i 3 1 _ inb_S12x2560_S12x640_0_1920 ?_ _ (hoff i 3 1 0) _
      show _ = k0_pay25 (k0_pay4 (L6 arg6 harg6 x4 3 inb_S12x2560_S12x640_0_1920)); rfl
    refine forall_piece _ _ _ ?_ ?_
    · refine kPiece arg6 harg6 x4 arg7 harg7 x5 arg8 harg8 x6 i 3 0 _ inb_S12x2560_S12x640_0_1920 ?_ _ (hoff i 3 0 0) _
      show _ = k0_pay24 (k0_pay6 (L7 arg8 harg8 i x6 3)); rfl
    refine forall_piece _ _ _ ?_ ?_
    · refine kPiece arg6 harg6 x4 arg7 harg7 x5 arg8 harg8 x6 i 2 4 _ inb_S12x2560_S12x640_0_1280 ?_ _ (hoff i 2 4 0) _
      show _ = k0_pay28 (k0_pay6 (L7 arg8 harg8 i x6 2)); rfl
    refine forall_piece _ _ _ ?_ ?_
    · refine kPiece arg6 harg6 x4 arg7 harg7 x5 arg8 harg8 x6 i 2 3 _ inb_S12x2560_S12x640_0_1280 ?_ _ (hoff i 2 3 0) _
      show _ = k0_pay27 (k0_pay5 (L7 arg7 harg7 i x5 2)); rfl
    refine forall_piece _ _ _ ?_ ?_
    · refine kPiece arg6 harg6 x4 arg7 harg7 x5 arg8 harg8 x6 i 2 2 _ inb_S12x2560_S12x640_0_1280 ?_ _ (hoff i 2 2 0) _
      show _ = k0_pay26 (k0_pay5 (L7 arg7 harg7 i x5 2)); rfl
    refine forall_piece _ _ _ ?_ ?_
    · refine kPiece arg6 harg6 x4 arg7 harg7 x5 arg8 harg8 x6 i 2 1 _ inb_S12x2560_S12x640_0_1280 ?_ _ (hoff i 2 1 0) _
      show _ = k0_pay25 (k0_pay4 (L6 arg6 harg6 x4 2 inb_S12x2560_S12x640_0_1280)); rfl
    refine forall_piece _ _ _ ?_ ?_
    · refine kPiece arg6 harg6 x4 arg7 harg7 x5 arg8 harg8 x6 i 2 0 _ inb_S12x2560_S12x640_0_1280 ?_ _ (hoff i 2 0 0) _
      show _ = k0_pay24 (k0_pay6 (L7 arg8 harg8 i x6 2)); rfl
    refine forall_piece _ _ _ ?_ ?_
    · refine kPiece arg6 harg6 x4 arg7 harg7 x5 arg8 harg8 x6 i 1 4 _ inb_S12x2560_S12x640_0_640 ?_ _ (hoff i 1 4 0) _
      show _ = k0_pay28 (k0_pay6 (L7 arg8 harg8 i x6 1)); rfl
    refine forall_piece _ _ _ ?_ ?_
    · refine kPiece arg6 harg6 x4 arg7 harg7 x5 arg8 harg8 x6 i 1 3 _ inb_S12x2560_S12x640_0_640 ?_ _ (hoff i 1 3 0) _
      show _ = k0_pay27 (k0_pay5 (L7 arg7 harg7 i x5 1)); rfl
    refine forall_piece _ _ _ ?_ ?_
    · refine kPiece arg6 harg6 x4 arg7 harg7 x5 arg8 harg8 x6 i 1 2 _ inb_S12x2560_S12x640_0_640 ?_ _ (hoff i 1 2 0) _
      show _ = k0_pay26 (k0_pay5 (L7 arg7 harg7 i x5 1)); rfl
    refine forall_piece _ _ _ ?_ ?_
    · refine kPiece arg6 harg6 x4 arg7 harg7 x5 arg8 harg8 x6 i 1 1 _ inb_S12x2560_S12x640_0_640 ?_ _ (hoff i 1 1 0) _
      show _ = k0_pay25 (k0_pay4 (L6 arg6 harg6 x4 1 inb_S12x2560_S12x640_0_640)); rfl
    refine forall_piece _ _ _ ?_ ?_
    · refine kPiece arg6 harg6 x4 arg7 harg7 x5 arg8 harg8 x6 i 1 0 _ inb_S12x2560_S12x640_0_640 ?_ _ (hoff i 1 0 0) _
      show _ = k0_pay24 (k0_pay6 (L7 arg8 harg8 i x6 1)); rfl
    refine forall_piece _ _ _ ?_ ?_
    · refine kPiece arg6 harg6 x4 arg7 harg7 x5 arg8 harg8 x6 i 0 4 _ inb_S12x2560_S12x640_0_0 ?_ _ (hoff i 0 4 0) _
      show _ = k0_pay28 (k0_pay6 (L7 arg8 harg8 i x6 0)); rfl
    refine forall_piece _ _ _ ?_ ?_
    · refine kPiece arg6 harg6 x4 arg7 harg7 x5 arg8 harg8 x6 i 0 3 _ inb_S12x2560_S12x640_0_0 ?_ _ (hoff i 0 3 0) _
      show _ = k0_pay27 (k0_pay5 (L7 arg7 harg7 i x5 0)); rfl
    refine forall_piece _ _ _ ?_ ?_
    · refine kPiece arg6 harg6 x4 arg7 harg7 x5 arg8 harg8 x6 i 0 2 _ inb_S12x2560_S12x640_0_0 ?_ _ (hoff i 0 2 0) _
      show _ = k0_pay26 (k0_pay5 (L7 arg7 harg7 i x5 0)); rfl
    refine forall_piece _ _ _ ?_ ?_
    · refine kPiece arg6 harg6 x4 arg7 harg7 x5 arg8 harg8 x6 i 0 1 _ inb_S12x2560_S12x640_0_0 ?_ _ (hoff i 0 1 0) _
      show _ = k0_pay25 (k0_pay4 (L6 arg6 harg6 x4 0 inb_S12x2560_S12x640_0_0)); rfl
    refine forall_piece _ _ _ ?_ ?_
    · refine kPiece arg6 harg6 x4 arg7 harg7 x5 arg8 harg8 x6 i 0 0 _ inb_S12x2560_S12x640_0_0 ?_ _ (hoff i 0 0 0) _
      show _ = k0_pay24 (k0_pay6 (L7 arg8 harg8 i x6 0)); rfl
    exact fun p hp => absurd hp List.not_mem_nil
  · refine mem_unit (s := S32x8x640) _ ![4 * (i 1).val + cc.val, w.val, 0] ![1, 1, 640] _ ?_ fun a => ?_
    · match cc, w with
      | 3, 4 => exact ⟨_, List.mem_of_getElem? (i := 0) rfl, hoff i 3 4 0, rfl, rfl⟩
      | 3, 3 => exact ⟨_, List.mem_of_getElem? (i := 1) rfl, hoff i 3 3 0, rfl, rfl⟩
      | 3, 2 => exact ⟨_, List.mem_of_getElem? (i := 2) rfl, hoff i 3 2 0, rfl, rfl⟩
      | 3, 1 => exact ⟨_, List.mem_of_getElem? (i := 3) rfl, hoff i 3 1 0, rfl, rfl⟩
      | 3, 0 => exact ⟨_, List.mem_of_getElem? (i := 4) rfl, hoff i 3 0 0, rfl, rfl⟩
      | 2, 4 => exact ⟨_, List.mem_of_getElem? (i := 5) rfl, hoff i 2 4 0, rfl, rfl⟩
      | 2, 3 => exact ⟨_, List.mem_of_getElem? (i := 6) rfl, hoff i 2 3 0, rfl, rfl⟩
      | 2, 2 => exact ⟨_, List.mem_of_getElem? (i := 7) rfl, hoff i 2 2 0, rfl, rfl⟩
      | 2, 1 => exact ⟨_, List.mem_of_getElem? (i := 8) rfl, hoff i 2 1 0, rfl, rfl⟩
      | 2, 0 => exact ⟨_, List.mem_of_getElem? (i := 9) rfl, hoff i 2 0 0, rfl, rfl⟩
      | 1, 4 => exact ⟨_, List.mem_of_getElem? (i := 10) rfl, hoff i 1 4 0, rfl, rfl⟩
      | 1, 3 => exact ⟨_, List.mem_of_getElem? (i := 11) rfl, hoff i 1 3 0, rfl, rfl⟩
      | 1, 2 => exact ⟨_, List.mem_of_getElem? (i := 12) rfl, hoff i 1 2 0, rfl, rfl⟩
      | 1, 1 => exact ⟨_, List.mem_of_getElem? (i := 13) rfl, hoff i 1 1 0, rfl, rfl⟩
      | 1, 0 => exact ⟨_, List.mem_of_getElem? (i := 14) rfl, hoff i 1 0 0, rfl, rfl⟩
      | 0, 4 => exact ⟨_, List.mem_of_getElem? (i := 15) rfl, hoff i 0 4 0, rfl, rfl⟩
      | 0, 3 => exact ⟨_, List.mem_of_getElem? (i := 16) rfl, hoff i 0 3 0, rfl, rfl⟩
      | 0, 2 => exact ⟨_, List.mem_of_getElem? (i := 17) rfl, hoff i 0 2 0, rfl, rfl⟩
      | 0, 1 => exact ⟨_, List.mem_of_getElem? (i := 18) rfl, hoff i 0 1 0, rfl, rfl⟩
      | 0, 0 => exact ⟨_, List.mem_of_getElem? (i := 19) rfl, hoff i 0 0 0, rfl, rfl⟩
    · match a with
      | 0 => show 4 * (i 1).val + cc.val ≤ 4 * (i 1).val + cc.val ∧ 4 * (i 1).val + cc.val < 4 * (i 1).val + cc.val + 1; omega
      | 1 => show w.val ≤ w.val ∧ w.val < w.val + 1; omega
      | 2 => show 0 ≤ n.val ∧ n.val < 0 + 640; omega

set_option maxHeartbeats 4000000 in
theorem prep_b_old (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) (k : Fin 32) (d : Fin 384) (n : Fin 640) (hi : (i 0).val ≠ 0 ∨ k.val / 4 ≠ (i 1).val) :
    (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.b (ix3 k d n) = xb (ix3 k d n) := by
  unfold prepRun
  dsimp only
  by_cases h0 : k0_cond3 i = 1#1
  · rw [dif_pos h0]
    have hk : k.val / 4 ≠ (i 1).val := hi.resolve_left (fun h => h ((cond3 i).mp h0))
    refine (View.read_writes_apply_of_forall_not_mem _ _ (ix3 k d n) _ (not_mem_rows _ 0 (i 1).val _ ?_ (by exact hk))).trans (congrFun (harg15.read_unread xb) (ix3 k d n))
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    exact fun p hp => absurd hp List.not_mem_nil
  · rw [dif_neg h0]
    exact congrFun (harg15.read_unread xb) (ix3 k d n)

set_option maxHeartbeats 4000000 in
theorem prep_k_old (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) (k : Fin 32) (w : Fin 8) (n : Fin 640) (hi : (i 0).val ≠ 0 ∨ k.val / 4 ≠ (i 1).val) :
    (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1.k (ix3 k w n) = xk (ix3 k w n) := by
  unfold prepRun
  dsimp only
  by_cases h0 : k0_cond3 i = 1#1
  · rw [dif_pos h0]
    have hk : k.val / 4 ≠ (i 1).val := hi.resolve_left (fun h => h ((cond3 i).mp h0))
    refine (View.read_writes_apply_of_forall_not_mem _ _ (ix3 k w n) _ (not_mem_rows _ 0 (i 1).val _ ?_ (by exact hk))).trans (congrFun (harg16.read_unread xk) (ix3 k w n))
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨3, by decide, congrFun (hoff i 3 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨2, by decide, congrFun (hoff i 2 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨1, by decide, congrFun (hoff i 1 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    refine forall_cons' ⟨0, by decide, congrFun (hoff i 0 0 0) 0, rfl, rfl⟩ ?_
    exact fun p hp => absurd hp List.not_mem_nil
  · rw [dif_neg h0]
    exact congrFun (harg16.read_unread xk) (ix3 k w n)

end Cert.KernelIdeal.Val
end
-- ==== Proof.ValBig.lean ====
/- What the body leaves in the three large results' staging buffers, element by element. -/
module
public import proofs.«01_k».proof.Proof.ValKeep
@[expose] public section
noncomputable section
namespace Cert.KernelIdeal.Val
open Idealize.ShloMosaic Idealize.ShloMosaic.TcCoe Idealize.ShloMosaic.Tactic
open Cert.KernelIdeal.Gen

/-- A block of 2560 columns given cluster by cluster. -/
def colG (F : Fin 4 → Fin 200 → Fin 640 → EReal) : S200x2560.Idx → EReal := fun y =>
  F ⟨(y 1).val / 640, by have h : (y 1).val < 2560 := (y 1).isLt; omega⟩ (y 0) ⟨(y 1).val % 640, Nat.mod_lt _ (by decide)⟩

/-- One tile of such a block. -/
theorem tilePiece (F : Fin 4 → Fin 200 → Fin 640 → EReal) (c : Fin 4) (o : ℕ) (ho : o + 128 ≤ 640) (off : Fin 2 → ℕ) (hoff : off = ![0, 640 * c.val + o]) (inb : ∀ a, off a + S200x128.size a ≤ S200x2560.size a)
    (V : FVec Ideal S200x128 .f32) (hV : ∀ (r : Fin 200) (l : Fin 128), V (ix2 r l) = F c r ⟨o + l.val, by have := l.isLt; omega⟩) (x : S200x128.Idx) :
    V x = colG F ((Rect.unit (s := S200x2560) off S200x128.size inb).emb x) := by
  subst hoff
  have h1 : (x 1).val < 128 := (x 1).isLt
  have e0 : ((Rect.unit (s := S200x2560) ![0, 640 * c.val + o] S200x128.size inb).emb x) 0 = (x 0 : Fin 200) := Fin.ext (by show 0 + 1 * (x 0).val = (x 0).val; omega)
  have e1 : (((Rect.unit (s := S200x2560) ![0, 640 * c.val + o] S200x128.size inb).emb x) 1).val = 640 * c.val + o + (x 1).val := by show 640 * c.val + o + 1 * (x 1).val = _; omega
  have hF : ∀ (c' : Fin 4) (r' : Fin 200) (n' : Fin 640), c' = c → r' = (x 0 : Fin 200) → n'.val = o + (x 1).val → F c' r' n' = F c (x 0) ⟨o + (x 1).val, by omega⟩ := by
    intro c' r' n' hc hr hn
    subst hc hr
    exact congrArg _ (Fin.ext hn)
  refine (congrArg V (ix2_eta x)).trans ((hV (x 0) (x 1)).trans (hF _ _ _ (Fin.ext ?_) e0 ?_).symm)
  · show (((Rect.unit (s := S200x2560) ![0, 640 * c.val + o] S200x128.size inb).emb x) 1).val / 640 = c.val
    rw [e1]; omega
  · show (((Rect.unit (s := S200x2560) ![0, 640 * c.val + o] S200x128.size inb).emb x) 1).val % 640 = _
    rw [e1]; omega

set_option maxHeartbeats 2000000 in
theorem body_bo (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs x0 xr x1 lanes y13 y14 (BitVec.ofNat 32 (kk i 0).val) (Dv xr xc (kk i 0)) (Nv x0 x2 (kk i 0))).1.bo = colG (fun cc r n => boS xk (kk i cc) (stS (Dv xr xc (kk i cc)) (Nv x0 x2 (kk i cc)) 2 r) n) := by
  unfold bodyRun
  dsimp only
  funext y
  refine View.read_writes_apply_of_pieces (Val := Elt Ideal) (e := .f32) _ _ (colG (fun cc r n => boS xk (kk i cc) (stS (Dv xr xc (kk i cc)) (Nv x0 x2 (kk i cc)) 2 r) n)) _ ?_ y ?_
  swap
  · exact View.cover_of_tiled _ ![200, 128] (by rfl) y
  unfold bodyRun.sl.H8_20
  refine forall_piece _ _ _ ?_ ?_
  · refine tilePiece _ 3 512 (by decide) _ rfl _ _ ?_
    exact pb arg16 harg16 xk i 3 512 (by decide) _ (stS (Dv xr xc (kk i 3)) (Nv x0 x2 (kk i 3)) 2) (st_load c i arg4 harg4 arg17 harg17 x0 x1 x2 xc xr arg20 3 2 inb_S4x4x200x128_S1x1x200x128_3_2_0_0) (k0_off46 i 3#32) (k0_off48 i 3#32) (hoff i 3 2 512) (hoff i 3 4 512) _ _ _ rfl
  refine forall_piece _ _ _ ?_ ?_
  · refine tilePiece _ 3 384 (by decide) _ rfl _ _ ?_
    exact pb arg16 harg16 xk i 3 384 (by decide) _ (stS (Dv xr xc (kk i 3)) (Nv x0 x2 (kk i 3)) 2) (st_load c i arg4 harg4 arg17 harg17 x0 x1 x2 xc xr arg20 3 2 inb_S4x4x200x128_S1x1x200x128_3_2_0_0) (k0_off40 i 3#32) (k0_off42 i 3#32) (hoff i 3 2 384) (hoff i 3 4 384) _ _ _ rfl
  refine forall_piece _ _ _ ?_ ?_
  · refine tilePiece _ 3 256 (by decide) _ rfl _ _ ?_
    exact pb arg16 harg16 xk i 3 256 (by decide) _ (stS (Dv xr xc (kk i 3)) (Nv x0 x2 (kk i 3)) 2) (st_load c i arg4 harg4 arg17 harg17 x0 x1 x2 xc xr arg20 3 2 inb_S4x4x200x128_S1x1x200x128_3_2_0_0) (k0_off35 i 3#32) (k0_off37 i 3#32) (hoff i 3 2 256) (hoff i 3 4 256) _ _ _ rfl
  refine forall_piece _ _ _ ?_ ?_
  · refine tilePiece _ 3 128 (by decide) _ rfl _ _ ?_
    exact pb arg16 harg16 xk i 3 128 (by decide) _ (stS (Dv xr xc (kk i 3)) (Nv x0 x2 (kk i 3)) 2) (st_load c i arg4 harg4 arg17 harg17 x0 x1 x2 xc xr arg20 3 2 inb_S4x4x200x128_S1x1x200x128_3_2_0_0) (k0_off29 i 3#32) (k0_off31 i 3#32) (hoff i 3 2 128) (hoff i 3 4 128) _ _ _ rfl
  refine forall_piece _ _ _ ?_ ?_
  · refine tilePiece _ 3 0 (by decide) _ rfl _ _ ?_
    exact pb arg16 harg16 xk i 3 0 (by decide) _ (stS (Dv xr xc (kk i 3)) (Nv x0 x2 (kk i 3)) 2) (st_load c i arg4 harg4 arg17 harg17 x0 x1 x2 xc xr arg20 3 2 inb_S4x4x200x128_S1x1x200x128_3_2_0_0) (k0_off24 i 3#32) (k0_off26 i 3#32) (hoff i 3 2 0) (hoff i 3 4 0) _ _ _ rfl
  refine forall_piece _ _ _ ?_ ?_
  · refine tilePiece _ 2 512 (by decide) _ rfl _ _ ?_
    exact pb arg16 harg16 xk i 2 512 (by decide) _ (stS (Dv xr xc (kk i 2)) (Nv x0 x2 (kk i 2)) 2) (st_load c i arg4 harg4 arg17 harg17 x0 x1 x2 xc xr arg20 2 2 inb_S4x4x200x128_S1x1x200x128_2_2_0_0) (k0_off46 i 2#32) (k0_off48 i 2#32) (hoff i 2 2 512) (hoff i 2 4 512) _ _ _ rfl
  refine forall_piece _ _ _ ?_ ?_
  · refine tilePiece _ 2 384 (by decide) _ rfl _ _ ?_
    exact pb arg16 harg16 xk i 2 384 (by decide) _ (stS (Dv xr xc (kk i 2)) (Nv x0 x2 (kk i 2)) 2) (st_load c i arg4 harg4 arg17 harg17 x0 x1 x2 xc xr arg20 2 2 inb_S4x4x200x128_S1x1x200x128_2_2_0_0) (k0_off40 i 2#32) (k0_off42 i 2#32) (hoff i 2 2 384) (hoff i 2 4 384) _ _ _ rfl
  refine forall_piece _ _ _ ?_ ?_
  · refine tilePiece _ 2 256 (by decide) _ rfl _ _ ?_
    exact pb arg16 harg16 xk i 2 256 (by decide) _ (stS (Dv xr xc (kk i 2)) (Nv x0 x2 (kk i 2)) 2) (st_load c i arg4 harg4 arg17 harg17 x0 x1 x2 xc xr arg20 2 2 inb_S4x4x200x128_S1x1x200x128_2_2_0_0) (k0_off35 i 2#32) (k0_off37 i 2#32) (hoff i 2 2 256) (hoff i 2 4 256) _ _ _ rfl
  refine forall_piece _ _ _ ?_ ?_
  · refine tilePiece _ 2 128 (by decide) _ rfl _ _ ?_
    exact pb arg16 harg16 xk i 2 128 (by decide) _ (stS (Dv xr xc (kk i 2)) (Nv x0 x2 (kk i 2)) 2) (st_load c i arg4 harg4 arg17 harg17 x0 x1 x2 xc xr arg20 2 2 inb_S4x4x200x128_S1x1x200x128_2_2_0_0) (k0_off29 i 2#32) (k0_off31 i 2#32) (hoff i 2 2 128) (hoff i 2 4 128) _ _ _ rfl
  refine forall_piece _ _ _ ?_ ?_
  · refine tilePiece _ 2 0 (by decide) _ rfl _ _ ?_
    exact pb arg16 harg16 xk i 2 0 (by decide) _ (stS (Dv xr xc (kk i 2)) (Nv x0 x2 (kk i 2)) 2) (st_load c i arg4 harg4 arg17 harg17 x0 x1 x2 xc xr arg20 2 2 inb_S4x4x200x128_S1x1x200x128_2_2_0_0) (k0_off24 i 2#32) (k0_off26 i 2#32) (hoff i 2 2 0) (hoff i 2 4 0) _ _ _ rfl
  refine forall_piece _ _ _ ?_ ?_
  · refine tilePiece _ 1 512 (by decide) _ rfl _ _ ?_
    exact pb arg16 harg16 xk i 1 512 (by decide) _ (stS (Dv xr xc (kk i 1)) (Nv x0 x2 (kk i 1)) 2) (st_load c i arg4 harg4 arg17 harg17 x0 x1 x2 xc xr arg20 1 2 inb_S4x4x200x128_S1x1x200x128_1_2_0_0) (k0_off46 i 1#32) (k0_off48 i 1#32) (hoff i 1 2 512) (hoff i 1 4 512) _ _ _ rfl
  refine forall_piece _ _ _ ?_ ?_
  · refine tilePiece _ 1 384 (by decide) _ rfl _ _ ?_
    exact pb arg16 harg16 xk i 1 384 (by decide) _ (stS (Dv xr xc (kk i 1)) (Nv x0 x2 (kk i 1)) 2) (st_load c i arg4 harg4 arg17 harg17 x0 x1 x2 xc xr arg20 1 2 inb_S4x4x200x128_S1x1x200x128_1_2_0_0) (k0_off40 i 1#32) (k0_off42 i 1#32) (hoff i 1 2 384) (hoff i 1 4 384) _ _ _ rfl
  refine forall_piece _ _ _ ?_ ?_
  · refine tilePiece _ 1 256 (by decide) _ rfl _ _ ?_
    exact pb arg16 harg16 xk i 1 256 (by decide) _ (stS (Dv xr xc (kk i 1)) (Nv x0 x2 (kk i 1)) 2) (st_load c i arg4 harg4 arg17 harg17 x0 x1 x2 xc xr arg20 1 2 inb_S4x4x200x128_S1x1x200x128_1_2_0_0) (k0_off35 i 1#32) (k0_off37 i 1#32) (hoff i 1 2 256) (hoff i 1 4 256) _ _ _ rfl
  refine forall_piece _ _ _ ?_ ?_
  · refine tilePiece _ 1 128 (by decide) _ rfl _ _ ?_
    exact pb arg16 harg16 xk i 1 128 (by decide) _ (stS (Dv xr xc (kk i 1)) (Nv x0 x2 (kk i 1)) 2) (st_load c i arg4 harg4 arg17 harg17 x0 x1 x2 xc xr arg20 1 2 inb_S4x4x200x128_S1x1x200x128_1_2_0_0) (k0_off29 i 1#32) (k0_off31 i 1#32) (hoff i 1 2 128) (hoff i 1 4 128) _ _ _ rfl
  refine forall_piece _ _ _ ?_ ?_
  · refine tilePiece _ 1 0 (by decide) _ rfl _ _ ?_
    exact pb arg16 harg16 xk i 1 0 (by decide) _ (stS (Dv xr xc (kk i 1)) (Nv x0 x2 (kk i 1)) 2) (st_load c i arg4 harg4 arg17 harg17 x0 x1 x2 xc xr arg20 1 2 inb_S4x4x200x128_S1x1x200x128_1_2_0_0) (k0_off24 i 1#32) (k0_off26 i 1#32) (hoff i 1 2 0) (hoff i 1 4 0) _ _ _ rfl
  refine forall_piece _ _ _ ?_ ?_
  · refine tilePiece _ 0 512 (by decide) _ rfl _ _ ?_
    exact pb arg16 harg16 xk i 0 512 (by decide) _ (stS (Dv xr xc (kk i 0)) (Nv x0 x2 (kk i 0)) 2) (st_load c i arg4 harg4 arg17 harg17 x0 x1 x2 xc xr arg20 0 2 inb_S4x4x200x128_S1x1x200x128_0_2_0_0) (k0_off46 i 0#32) (k0_off48 i 0#32) (hoff i 0 2 512) (hoff i 0 4 512) _ _ _ rfl
  refine forall_piece _ _ _ ?_ ?_
  · refine tilePiece _ 0 384 (by decide) _ rfl _ _ ?_
    exact pb arg16 harg16 xk i 0 384 (by decide) _ (stS (Dv xr xc (kk i 0)) (Nv x0 x2 (kk i 0)) 2) (st_load c i arg4 harg4 arg17 harg17 x0 x1 x2 xc xr arg20 0 2 inb_S4x4x200x128_S1x1x200x128_0_2_0_0) (k0_off40 i 0#32) (k0_off42 i 0#32) (hoff i 0 2 384) (hoff i 0 4 384) _ _ _ rfl
  refine forall_piece _ _ _ ?_ ?_
  · refine tilePiece _ 0 256 (by decide) _ rfl _ _ ?_
    exact pb arg16 harg16 xk i 0 256 (by decide) _ (stS (Dv xr xc (kk i 0)) (Nv x0 x2 (kk i 0)) 2) (st_load c i arg4 harg4 arg17 harg17 x0 x1 x2 xc xr arg20 0 2 inb_S4x4x200x128_S1x1x200x128_0_2_0_0) (k0_off35 i 0#32) (k0_off37 i 0#32) (hoff i 0 2 256) (hoff i 0 4 256) _ _ _ rfl
  refine forall_piece _ _ _ ?_ ?_
  · refine tilePiece _ 0 128 (by decide) _ rfl _ _ ?_
    exact pb arg16 harg16 xk i 0 128 (by decide) _ (stS (Dv xr xc (kk i 0)) (Nv x0 x2 (kk i 0)) 2) (st_load c i arg4 harg4 arg17 harg17 x0 x1 x2 xc xr arg20 0 2 inb_S4x4x200x128_S1x1x200x128_0_2_0_0) (k0_off29 i 0#32) (k0_off31 i 0#32) (hoff i 0 2 128) (hoff i 0 4 128) _ _ _ rfl
  refine forall_piece _ _ _ ?_ ?_
  · refine tilePiece _ 0 0 (by decide) _ rfl _ _ ?_
    exact pb arg16 harg16 xk i 0 0 (by decide) _ (stS (Dv xr xc (kk i 0)) (Nv x0 x2 (kk i 0)) 2) (st_load c i arg4 harg4 arg17 harg17 x0 x1 x2 xc xr arg20 0 2 inb_S4x4x200x128_S1x1x200x128_0_2_0_0) (k0_off24 i 0#32) (k0_off26 i 0#32) (hoff i 0 2 0) (hoff i 0 4 0) _ _ _ rfl
  exact fun p hp => absurd hp List.not_mem_nil

set_option maxHeartbeats 2000000 in
theorem body_ip (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs x0 xr x1 lanes y13 y14 (BitVec.ofNat 32 (kk i 0).val) (Dv xr xc (kk i 0)) (Nv x0 x2 (kk i 0))).1.ip = colG (fun cc r n => ipS xb xk (kk i cc) (cqS x1 (Dv xr xc (kk i cc)) (Nv x0 x2 (kk i cc)) r) (stS (Dv xr xc (kk i cc)) (Nv x0 x2 (kk i cc)) 0 r) (stS (Dv xr xc (kk i cc)) (Nv x0 x2 (kk i cc)) 1 r) n) := by
  unfold bodyRun
  dsimp only
  funext y
  refine View.read_writes_apply_of_pieces (Val := Elt Ideal) (e := .f32) _ _ (colG (fun cc r n => ipS xb xk (kk i cc) (cqS x1 (Dv xr xc (kk i cc)) (Nv x0 x2 (kk i cc)) r) (stS (Dv xr xc (kk i cc)) (Nv x0 x2 (kk i cc)) 0 r) (stS (Dv xr xc (kk i cc)) (Nv x0 x2 (kk i cc)) 1 r) n)) _ ?_ y ?_
  swap
  · exact View.cover_of_tiled _ ![200, 128] (by rfl) y
  unfold bodyRun.sl.H9_20
  refine forall_piece _ _ _ ?_ ?_
  · refine tilePiece _ 3 512 (by decide) _ rfl _ _ ?_
    exact p2 arg15 harg15 xb arg16 harg16 xk i 3 512 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off43 i 3#32) (k0_off44 i 3#32) (k0_off45 i 3#32) (hoff i 3 0 512) (hoff i 3 0 512) (hoff i 3 1 512) _ _ _ _ rfl
  refine forall_piece _ _ _ ?_ ?_
  · refine tilePiece _ 3 384 (by decide) _ rfl _ _ ?_
    exact p1 arg15 harg15 xb arg16 harg16 xk i 3 384 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off32 i 3#32) (k0_off38 i 3#32) (k0_off39 i 3#32) (hoff i 3 0 256) (hoff i 3 0 384) (hoff i 3 1 384) (by decide) _ _ _ _ rfl
  refine forall_piece _ _ _ ?_ ?_
  · refine tilePiece _ 3 256 (by decide) _ rfl _ _ ?_
    exact p0 arg15 harg15 xb arg16 harg16 xk i 3 256 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off32 i 3#32) (k0_off33 i 3#32) (k0_off34 i 3#32) (hoff i 3 0 256) (hoff i 3 0 256) (hoff i 3 1 256) _ _ _ _ rfl
  refine forall_piece _ _ _ ?_ ?_
  · refine tilePiece _ 3 128 (by decide) _ rfl _ _ ?_
    exact p1 arg15 harg15 xb arg16 harg16 xk i 3 128 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off21 i 3#32) (k0_off27 i 3#32) (k0_off28 i 3#32) (hoff i 3 0 0) (hoff i 3 0 128) (hoff i 3 1 128) (by decide) _ _ _ _ rfl
  refine forall_piece _ _ _ ?_ ?_
  · refine tilePiece _ 3 0 (by decide) _ rfl _ _ ?_
    exact p0 arg15 harg15 xb arg16 harg16 xk i 3 0 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off21 i 3#32) (k0_off22 i 3#32) (k0_off23 i 3#32) (hoff i 3 0 0) (hoff i 3 0 0) (hoff i 3 1 0) _ _ _ _ rfl
  refine forall_piece _ _ _ ?_ ?_
  · refine tilePiece _ 2 512 (by decide) _ rfl _ _ ?_
    exact p2 arg15 harg15 xb arg16 harg16 xk i 2 512 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off43 i 2#32) (k0_off44 i 2#32) (k0_off45 i 2#32) (hoff i 2 0 512) (hoff i 2 0 512) (hoff i 2 1 512) _ _ _ _ rfl
  refine forall_piece _ _ _ ?_ ?_
  · refine tilePiece _ 2 384 (by decide) _ rfl _ _ ?_
    exact p1 arg15 harg15 xb arg16 harg16 xk i 2 384 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off32 i 2#32) (k0_off38 i 2#32) (k0_off39 i 2#32) (hoff i 2 0 256) (hoff i 2 0 384) (hoff i 2 1 384) (by decide) _ _ _ _ rfl
  refine forall_piece _ _ _ ?_ ?_
  · refine tilePiece _ 2 256 (by decide) _ rfl _ _ ?_
    exact p0 arg15 harg15 xb arg16 harg16 xk i 2 256 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off32 i 2#32) (k0_off33 i 2#32) (k0_off34 i 2#32) (hoff i 2 0 256) (hoff i 2 0 256) (hoff i 2 1 256) _ _ _ _ rfl
  refine forall_piece _ _ _ ?_ ?_
  · refine tilePiece _ 2 128 (by decide) _ rfl _ _ ?_
    exact p1 arg15 harg15 xb arg16 harg16 xk i 2 128 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off21 i 2#32) (k0_off27 i 2#32) (k0_off28 i 2#32) (hoff i 2 0 0) (hoff i 2 0 128) (hoff i 2 1 128) (by decide) _ _ _ _ rfl
  refine forall_piece _ _ _ ?_ ?_
  · refine tilePiece _ 2 0 (by decide) _ rfl _ _ ?_
    exact p0 arg15 harg15 xb arg16 harg16 xk i 2 0 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off21 i 2#32) (k0_off22 i 2#32) (k0_off23 i 2#32) (hoff i 2 0 0) (hoff i 2 0 0) (hoff i 2 1 0) _ _ _ _ rfl
  refine forall_piece _ _ _ ?_ ?_
  · refine tilePiece _ 1 512 (by decide) _ rfl _ _ ?_
    exact p2 arg15 harg15 xb arg16 harg16 xk i 1 512 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off43 i 1#32) (k0_off44 i 1#32) (k0_off45 i 1#32) (hoff i 1 0 512) (hoff i 1 0 512) (hoff i 1 1 512) _ _ _ _ rfl
  refine forall_piece _ _ _ ?_ ?_
  · refine tilePiece _ 1 384 (by decide) _ rfl _ _ ?_
    exact p1 arg15 harg15 xb arg16 harg16 xk i 1 384 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off32 i 1#32) (k0_off38 i 1#32) (k0_off39 i 1#32) (hoff i 1 0 256) (hoff i 1 0 384) (hoff i 1 1 384) (by decide) _ _ _ _ rfl
  refine forall_piece _ _ _ ?_ ?_
  · refine tilePiece _ 1 256 (by decide) _ rfl _ _ ?_
    exact p0 arg15 harg15 xb arg16 harg16 xk i 1 256 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off32 i 1#32) (k0_off33 i 1#32) (k0_off34 i 1#32) (hoff i 1 0 256) (hoff i 1 0 256) (hoff i 1 1 256) _ _ _ _ rfl
  refine forall_piece _ _ _ ?_ ?_
  · refine tilePiece _ 1 128 (by decide) _ rfl _ _ ?_
    exact p1 arg15 harg15 xb arg16 harg16 xk i 1 128 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off21 i 1#32) (k0_off27 i 1#32) (k0_off28 i 1#32) (hoff i 1 0 0) (hoff i 1 0 128) (hoff i 1 1 128) (by decide) _ _ _ _ rfl
  refine forall_piece _ _ _ ?_ ?_
  · refine tilePiece _ 1 0 (by decide) _ rfl _ _ ?_
    exact p0 arg15 harg15 xb arg16 harg16 xk i 1 0 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off21 i 1#32) (k0_off22 i 1#32) (k0_off23 i 1#32) (hoff i 1 0 0) (hoff i 1 0 0) (hoff i 1 1 0) _ _ _ _ rfl
  refine forall_piece _ _ _ ?_ ?_
  · refine tilePiece _ 0 512 (by decide) _ rfl _ _ ?_
    exact p2 arg15 harg15 xb arg16 harg16 xk i 0 512 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off43 i 0#32) (k0_off44 i 0#32) (k0_off45 i 0#32) (hoff i 0 0 512) (hoff i 0 0 512) (hoff i 0 1 512) _ _ _ _ rfl
  refine forall_piece _ _ _ ?_ ?_
  · refine tilePiece _ 0 384 (by decide) _ rfl _ _ ?_
    exact p1 arg15 harg15 xb arg16 harg16 xk i 0 384 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off32 i 0#32) (k0_off38 i 0#32) (k0_off39 i 0#32) (hoff i 0 0 256) (hoff i 0 0 384) (hoff i 0 1 384) (by decide) _ _ _ _ rfl
  refine forall_piece _ _ _ ?_ ?_
  · refine tilePiece _ 0 256 (by decide) _ rfl _ _ ?_
    exact p0 arg15 harg15 xb arg16 harg16 xk i 0 256 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off32 i 0#32) (k0_off33 i 0#32) (k0_off34 i 0#32) (hoff i 0 0 256) (hoff i 0 0 256) (hoff i 0 1 256) _ _ _ _ rfl
  refine forall_piece _ _ _ ?_ ?_
  · refine tilePiece _ 0 128 (by decide) _ rfl _ _ ?_
    exact p1 arg15 harg15 xb arg16 harg16 xk i 0 128 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off21 i 0#32) (k0_off27 i 0#32) (k0_off28 i 0#32) (hoff i 0 0 0) (hoff i 0 0 128) (hoff i 0 1 128) (by decide) _ _ _ _ rfl
  refine forall_piece _ _ _ ?_ ?_
  · refine tilePiece _ 0 0 (by decide) _ rfl _ _ ?_
    exact p0 arg15 harg15 xb arg16 harg16 xk i 0 0 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off21 i 0#32) (k0_off22 i 0#32) (k0_off23 i 0#32) (hoff i 0 0 0) (hoff i 0 0 0) (hoff i 0 1 0) _ _ _ _ rfl
  exact fun p hp => absurd hp List.not_mem_nil

set_option maxHeartbeats 2000000 in
theorem body_d (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs x0 xr x1 lanes y13 y14 (BitVec.ofNat 32 (kk i 0).val) (Dv xr xc (kk i 0)) (Nv x0 x2 (kk i 0))).1.d = colG (fun cc r n => diS xk (kk i cc) (stS (Dv xr xc (kk i cc)) (Nv x0 x2 (kk i cc)) 2 r) (stS (Dv xr xc (kk i cc)) (Nv x0 x2 (kk i cc)) 3 r) (ipS xb xk (kk i cc) (cqS x1 (Dv xr xc (kk i cc)) (Nv x0 x2 (kk i cc)) r) (stS (Dv xr xc (kk i cc)) (Nv x0 x2 (kk i cc)) 0 r) (stS (Dv xr xc (kk i cc)) (Nv x0 x2 (kk i cc)) 1 r) n) n) := by
  unfold bodyRun
  dsimp only
  funext y
  refine View.read_writes_apply_of_pieces (Val := Elt Ideal) (e := .f32) _ _ (colG (fun cc r n => diS xk (kk i cc) (stS (Dv xr xc (kk i cc)) (Nv x0 x2 (kk i cc)) 2 r) (stS (Dv xr xc (kk i cc)) (Nv x0 x2 (kk i cc)) 3 r) (ipS xb xk (kk i cc) (cqS x1 (Dv xr xc (kk i cc)) (Nv x0 x2 (kk i cc)) r) (stS (Dv xr xc (kk i cc)) (Nv x0 x2 (kk i cc)) 0 r) (stS (Dv xr xc (kk i cc)) (Nv x0 x2 (kk i cc)) 1 r) n) n)) _ ?_ y ?_
  swap
  · exact View.cover_of_tiled _ ![200, 128] (by rfl) y
  unfold bodyRun.sl.H7_20
  refine forall_piece _ _ _ ?_ ?_
  · refine tilePiece _ 3 512 (by decide) _ rfl _ _ ?_
    exact fun r l => pd arg16 harg16 xk i 3 512 (by decide) _ _ (stS (Dv xr xc (kk i 3)) (Nv x0 x2 (kk i 3)) 2) (stS (Dv xr xc (kk i 3)) (Nv x0 x2 (kk i 3)) 3) (st_load c i arg4 harg4 arg17 harg17 x0 x1 x2 xc xr arg20 3 2 inb_S4x4x200x128_S1x1x200x128_3_2_0_0) (st_load c i arg4 harg4 arg17 harg17 x0 x1 x2 xc xr arg20 3 3 inb_S4x4x200x128_S1x1x200x128_3_3_0_0) (k0_off46 i 3#32) (k0_off47 i 3#32) (hoff i 3 2 512) (hoff i 3 3 512) _ _ _ _ rfl r l _
      (p2 arg15 harg15 xb arg16 harg16 xk i 3 512 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off43 i 3#32) (k0_off44 i 3#32) (k0_off45 i 3#32) (hoff i 3 0 512) (hoff i 3 0 512) (hoff i 3 1 512) _ _ _ _ rfl r l)
  refine forall_piece _ _ _ ?_ ?_
  · refine tilePiece _ 3 384 (by decide) _ rfl _ _ ?_
    exact fun r l => pd arg16 harg16 xk i 3 384 (by decide) _ _ (stS (Dv xr xc (kk i 3)) (Nv x0 x2 (kk i 3)) 2) (stS (Dv xr xc (kk i 3)) (Nv x0 x2 (kk i 3)) 3) (st_load c i arg4 harg4 arg17 harg17 x0 x1 x2 xc xr arg20 3 2 inb_S4x4x200x128_S1x1x200x128_3_2_0_0) (st_load c i arg4 harg4 arg17 harg17 x0 x1 x2 xc xr arg20 3 3 inb_S4x4x200x128_S1x1x200x128_3_3_0_0) (k0_off40 i 3#32) (k0_off41 i 3#32) (hoff i 3 2 384) (hoff i 3 3 384) _ _ _ _ rfl r l _
      (p1 arg15 harg15 xb arg16 harg16 xk i 3 384 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off32 i 3#32) (k0_off38 i 3#32) (k0_off39 i 3#32) (hoff i 3 0 256) (hoff i 3 0 384) (hoff i 3 1 384) (by decide) _ _ _ _ rfl r l)
  refine forall_piece _ _ _ ?_ ?_
  · refine tilePiece _ 3 256 (by decide) _ rfl _ _ ?_
    exact fun r l => pd arg16 harg16 xk i 3 256 (by decide) _ _ (stS (Dv xr xc (kk i 3)) (Nv x0 x2 (kk i 3)) 2) (stS (Dv xr xc (kk i 3)) (Nv x0 x2 (kk i 3)) 3) (st_load c i arg4 harg4 arg17 harg17 x0 x1 x2 xc xr arg20 3 2 inb_S4x4x200x128_S1x1x200x128_3_2_0_0) (st_load c i arg4 harg4 arg17 harg17 x0 x1 x2 xc xr arg20 3 3 inb_S4x4x200x128_S1x1x200x128_3_3_0_0) (k0_off35 i 3#32) (k0_off36 i 3#32) (hoff i 3 2 256) (hoff i 3 3 256) _ _ _ _ rfl r l _
      (p0 arg15 harg15 xb arg16 harg16 xk i 3 256 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off32 i 3#32) (k0_off33 i 3#32) (k0_off34 i 3#32) (hoff i 3 0 256) (hoff i 3 0 256) (hoff i 3 1 256) _ _ _ _ rfl r l)
  refine forall_piece _ _ _ ?_ ?_
  · refine tilePiece _ 3 128 (by decide) _ rfl _ _ ?_
    exact fun r l => pd arg16 harg16 xk i 3 128 (by decide) _ _ (stS (Dv xr xc (kk i 3)) (Nv x0 x2 (kk i 3)) 2) (stS (Dv xr xc (kk i 3)) (Nv x0 x2 (kk i 3)) 3) (st_load c i arg4 harg4 arg17 harg17 x0 x1 x2 xc xr arg20 3 2 inb_S4x4x200x128_S1x1x200x128_3_2_0_0) (st_load c i arg4 harg4 arg17 harg17 x0 x1 x2 xc xr arg20 3 3 inb_S4x4x200x128_S1x1x200x128_3_3_0_0) (k0_off29 i 3#32) (k0_off30 i 3#32) (hoff i 3 2 128) (hoff i 3 3 128) _ _ _ _ rfl r l _
      (p1 arg15 harg15 xb arg16 harg16 xk i 3 128 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off21 i 3#32) (k0_off27 i 3#32) (k0_off28 i 3#32) (hoff i 3 0 0) (hoff i 3 0 128) (hoff i 3 1 128) (by decide) _ _ _ _ rfl r l)
  refine forall_piece _ _ _ ?_ ?_
  · refine tilePiece _ 3 0 (by decide) _ rfl _ _ ?_
    exact fun r l => pd arg16 harg16 xk i 3 0 (by decide) _ _ (stS (Dv xr xc (kk i 3)) (Nv x0 x2 (kk i 3)) 2) (stS (Dv xr xc (kk i 3)) (Nv x0 x2 (kk i 3)) 3) (st_load c i arg4 harg4 arg17 harg17 x0 x1 x2 xc xr arg20 3 2 inb_S4x4x200x128_S1x1x200x128_3_2_0_0) (st_load c i arg4 harg4 arg17 harg17 x0 x1 x2 xc xr arg20 3 3 inb_S4x4x200x128_S1x1x200x128_3_3_0_0) (k0_off24 i 3#32) (k0_off25 i 3#32) (hoff i 3 2 0) (hoff i 3 3 0) _ _ _ _ rfl r l _
      (p0 arg15 harg15 xb arg16 harg16 xk i 3 0 (by decide) _ _ _ (cqS x1 (Dv xr xc (kk i 3)) (Nv x0 x2 (kk i 3))) (stS (Dv xr xc (kk i 3)) (Nv x0 x2 (kk i 3)) 0) (stS (Dv xr xc (kk i 3)) (Nv x0 x2 (kk i 3)) 1) (cq_load c i arg4 harg4 arg17 harg17 x0 x1 x2 xc xr arg19 3 inb_S4x200x384_S1x200x384_3_0_0) (st_load c i arg4 harg4 arg17 harg17 x0 x1 x2 xc xr arg20 3 0 inb_S4x4x200x128_S1x1x200x128_3_0_0_0) (st_load c i arg4 harg4 arg17 harg17 x0 x1 x2 xc xr arg20 3 1 inb_S4x4x200x128_S1x1x200x128_3_1_0_0)
        (k0_off21 i 3#32) (k0_off22 i 3#32) (k0_off23 i 3#32) (hoff i 3 0 0) (hoff i 3 0 0) (hoff i 3 1 0) _ _ _ _ rfl r l)
  refine forall_piece _ _ _ ?_ ?_
  · refine tilePiece _ 2 512 (by decide) _ rfl _ _ ?_
    exact fun r l => pd arg16 harg16 xk i 2 512 (by decide) _ _ (stS (Dv xr xc (kk i 2)) (Nv x0 x2 (kk i 2)) 2) (stS (Dv xr xc (kk i 2)) (Nv x0 x2 (kk i 2)) 3) (st_load c i arg4 harg4 arg17 harg17 x0 x1 x2 xc xr arg20 2 2 inb_S4x4x200x128_S1x1x200x128_2_2_0_0) (st_load c i arg4 harg4 arg17 harg17 x0 x1 x2 xc xr arg20 2 3 inb_S4x4x200x128_S1x1x200x128_2_3_0_0) (k0_off46 i 2#32) (k0_off47 i 2#32) (hoff i 2 2 512) (hoff i 2 3 512) _ _ _ _ rfl r l _
      (p2 arg15 harg15 xb arg16 harg16 xk i 2 512 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off43 i 2#32) (k0_off44 i 2#32) (k0_off45 i 2#32) (hoff i 2 0 512) (hoff i 2 0 512) (hoff i 2 1 512) _ _ _ _ rfl r l)
  refine forall_piece _ _ _ ?_ ?_
  · refine tilePiece _ 2 384 (by decide) _ rfl _ _ ?_
    exact fun r l => pd arg16 harg16 xk i 2 384 (by decide) _ _ (stS (Dv xr xc (kk i 2)) (Nv x0 x2 (kk i 2)) 2) (stS (Dv xr xc (kk i 2)) (Nv x0 x2 (kk i 2)) 3) (st_load c i arg4 harg4 arg17 harg17 x0 x1 x2 xc xr arg20 2 2 inb_S4x4x200x128_S1x1x200x128_2_2_0_0) (st_load c i arg4 harg4 arg17 harg17 x0 x1 x2 xc xr arg20 2 3 inb_S4x4x200x128_S1x1x200x128_2_3_0_0) (k0_off40 i 2#32) (k0_off41 i 2#32) (hoff i 2 2 384) (hoff i 2 3 384) _ _ _ _ rfl r l _
      (p1 arg15 harg15 xb arg16 harg16 xk i 2 384 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off32 i 2#32) (k0_off38 i 2#32) (k0_off39 i 2#32) (hoff i 2 0 256) (hoff i 2 0 384) (hoff i 2 1 384) (by decide) _ _ _ _ rfl r l)
  refine forall_piece _ _ _ ?_ ?_
  · refine tilePiece _ 2 256 (by decide) _ rfl _ _ ?_
    exact fun r l => pd arg16 harg16 xk i 2 256 (by decide) _ _ (stS (Dv xr xc (kk i 2)) (Nv x0 x2 (kk i 2)) 2) (stS (Dv xr xc (kk i 2)) (Nv x0 x2 (kk i 2)) 3) (st_load c i arg4 harg4 arg17 harg17 x0 x1 x2 xc xr arg20 2 2 inb_S4x4x200x128_S1x1x200x128_2_2_0_0) (st_load c i arg4 harg4 arg17 harg17 x0 x1 x2 xc xr arg20 2 3 inb_S4x4x200x128_S1x1x200x128_2_3_0_0) (k0_off35 i 2#32) (k0_off36 i 2#32) (hoff i 2 2 256) (hoff i 2 3 256) _ _ _ _ rfl r l _
      (p0 arg15 harg15 xb arg16 harg16 xk i 2 256 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off32 i 2#32) (k0_off33 i 2#32) (k0_off34 i 2#32) (hoff i 2 0 256) (hoff i 2 0 256) (hoff i 2 1 256) _ _ _ _ rfl r l)
  refine forall_piece _ _ _ ?_ ?_
  · refine tilePiece _ 2 128 (by decide) _ rfl _ _ ?_
    exact fun r l => pd arg16 harg16 xk i 2 128 (by decide) _ _ (stS (Dv xr xc (kk i 2)) (Nv x0 x2 (kk i 2)) 2) (stS (Dv xr xc (kk i 2)) (Nv x0 x2 (kk i 2)) 3) (st_load c i arg4 harg4 arg17 harg17 x0 x1 x2 xc xr arg20 2 2 inb_S4x4x200x128_S1x1x200x128_2_2_0_0) (st_load c i arg4 harg4 arg17 harg17 x0 x1 x2 xc xr arg20 2 3 inb_S4x4x200x128_S1x1x200x128_2_3_0_0) (k0_off29 i 2#32) (k0_off30 i 2#32) (hoff i 2 2 128) (hoff i 2 3 128) _ _ _ _ rfl r l _
      (p1 arg15 harg15 xb arg16 harg16 xk i 2 128 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off21 i 2#32) (k0_off27 i 2#32) (k0_off28 i 2#32) (hoff i 2 0 0) (hoff i 2 0 128) (hoff i 2 1 128) (by decide) _ _ _ _ rfl r l)
  refine forall_piece _ _ _ ?_ ?_
  · refine tilePiece _ 2 0 (by decide) _ rfl _ _ ?_
    exact fun r l => pd arg16 harg16 xk i 2 0 (by decide) _ _ (stS (Dv xr xc (kk i 2)) (Nv x0 x2 (kk i 2)) 2) (stS (Dv xr xc (kk i 2)) (Nv x0 x2 (kk i 2)) 3) (st_load c i arg4 harg4 arg17 harg17 x0 x1 x2 xc xr arg20 2 2 inb_S4x4x200x128_S1x1x200x128_2_2_0_0) (st_load c i arg4 harg4 arg17 harg17 x0 x1 x2 xc xr arg20 2 3 inb_S4x4x200x128_S1x1x200x128_2_3_0_0) (k0_off24 i 2#32) (k0_off25 i 2#32) (hoff i 2 2 0) (hoff i 2 3 0) _ _ _ _ rfl r l _
      (p0 arg15 harg15 xb arg16 harg16 xk i 2 0 (by decide) _ _ _ (cqS x1 (Dv xr xc (kk i 2)) (Nv x0 x2 (kk i 2))) (stS (Dv xr xc (kk i 2)) (Nv x0 x2 (kk i 2)) 0) (stS (Dv xr xc (kk i 2)) (Nv x0 x2 (kk i 2)) 1) (cq_load c i arg4 harg4 arg17 harg17 x0 x1 x2 xc xr arg19 2 inb_S4x200x384_S1x200x384_2_0_0) (st_load c i arg4 harg4 arg17 harg17 x0 x1 x2 xc xr arg20 2 0 inb_S4x4x200x128_S1x1x200x128_2_0_0_0) (st_load c i arg4 harg4 arg17 harg17 x0 x1 x2 xc xr arg20 2 1 inb_S4x4x200x128_S1x1x200x128_2_1_0_0)
        (k0_off21 i 2#32) (k0_off22 i 2#32) (k0_off23 i 2#32) (hoff i 2 0 0) (hoff i 2 0 0) (hoff i 2 1 0) _ _ _ _ rfl r l)
  refine forall_piece _ _ _ ?_ ?_
  · refine tilePiece _ 1 512 (by decide) _ rfl _ _ ?_
    exact fun r l => pd arg16 harg16 xk i 1 512 (by decide) _ _ (stS (Dv xr xc (kk i 1)) (Nv x0 x2 (kk i 1)) 2) (stS (Dv xr xc (kk i 1)) (Nv x0 x2 (kk i 1)) 3) (st_load c i arg4 harg4 arg17 harg17 x0 x1 x2 xc xr arg20 1 2 inb_S4x4x200x128_S1x1x200x128_1_2_0_0) (st_load c i arg4 harg4 arg17 harg17 x0 x1 x2 xc xr arg20 1 3 inb_S4x4x200x128_S1x1x200x128_1_3_0_0) (k0_off46 i 1#32) (k0_off47 i 1#32) (hoff i 1 2 512) (hoff i 1 3 512) _ _ _ _ rfl r l _
      (p2 arg15 harg15 xb arg16 harg16 xk i 1 512 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off43 i 1#32) (k0_off44 i 1#32) (k0_off45 i 1#32) (hoff i 1 0 512) (hoff i 1 0 512) (hoff i 1 1 512) _ _ _ _ rfl r l)
  refine forall_piece _ _ _ ?_ ?_
  · refine tilePiece _ 1 384 (by decide) _ rfl _ _ ?_
    exact fun r l => pd arg16 harg16 xk i 1 384 (by decide) _ _ (stS (Dv xr xc (kk i 1)) (Nv x0 x2 (kk i 1)) 2) (stS (Dv xr xc (kk i 1)) (Nv x0 x2 (kk i 1)) 3) (st_load c i arg4 harg4 arg17 harg17 x0 x1 x2 xc xr arg20 1 2 inb_S4x4x200x128_S1x1x200x128_1_2_0_0) (st_load c i arg4 harg4 arg17 harg17 x0 x1 x2 xc xr arg20 1 3 inb_S4x4x200x128_S1x1x200x128_1_3_0_0) (k0_off40 i 1#32) (k0_off41 i 1#32) (hoff i 1 2 384) (hoff i 1 3 384) _ _ _ _ rfl r l _
      (p1 arg15 harg15 xb arg16 harg16 xk i 1 384 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off32 i 1#32) (k0_off38 i 1#32) (k0_off39 i 1#32) (hoff i 1 0 256) (hoff i 1 0 384) (hoff i 1 1 384) (by decide) _ _ _ _ rfl r l)
  refine forall_piece _ _ _ ?_ ?_
  · refine tilePiece _ 1 256 (by decide) _ rfl _ _ ?_
    exact fun r l => pd arg16 harg16 xk i 1 256 (by decide) _ _ (stS (Dv xr xc (kk i 1)) (Nv x0 x2 (kk i 1)) 2) (stS (Dv xr xc (kk i 1)) (Nv x0 x2 (kk i 1)) 3) (st_load c i arg4 harg4 arg17 harg17 x0 x1 x2 xc xr arg20 1 2 inb_S4x4x200x128_S1x1x200x128_1_2_0_0) (st_load c i arg4 harg4 arg17 harg17 x0 x1 x2 xc xr arg20 1 3 inb_S4x4x200x128_S1x1x200x128_1_3_0_0) (k0_off35 i 1#32) (k0_off36 i 1#32) (hoff i 1 2 256) (hoff i 1 3 256) _ _ _ _ rfl r l _
      (p0 arg15 harg15 xb arg16 harg16 xk i 1 256 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off32 i 1#32) (k0_off33 i 1#32) (k0_off34 i 1#32) (hoff i 1 0 256) (hoff i 1 0 256) (hoff i 1 1 256) _ _ _ _ rfl r l)
  refine forall_piece _ _ _ ?_ ?_
  · refine tilePiece _ 1 128 (by decide) _ rfl _ _ ?_
    exact fun r l => pd arg16 harg16 xk i 1 128 (by decide) _ _ (stS (Dv xr xc (kk i 1)) (Nv x0 x2 (kk i 1)) 2) (stS (Dv xr xc (kk i 1)) (Nv x0 x2 (kk i 1)) 3) (st_load c i arg4 harg4 arg17 harg17 x0 x1 x2 xc xr arg20 1 2 inb_S4x4x200x128_S1x1x200x128_1_2_0_0) (st_load c i arg4 harg4 arg17 harg17 x0 x1 x2 xc xr arg20 1 3 inb_S4x4x200x128_S1x1x200x128_1_3_0_0) (k0_off29 i 1#32) (k0_off30 i 1#32) (hoff i 1 2 128) (hoff i 1 3 128) _ _ _ _ rfl r l _
      (p1 arg15 harg15 xb arg16 harg16 xk i 1 128 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off21 i 1#32) (k0_off27 i 1#32) (k0_off28 i 1#32) (hoff i 1 0 0) (hoff i 1 0 128) (hoff i 1 1 128) (by decide) _ _ _ _ rfl r l)
  refine forall_piece _ _ _ ?_ ?_
  · refine tilePiece _ 1 0 (by decide) _ rfl _ _ ?_
    exact fun r l => pd arg16 harg16 xk i 1 0 (by decide) _ _ (stS (Dv xr xc (kk i 1)) (Nv x0 x2 (kk i 1)) 2) (stS (Dv xr xc (kk i 1)) (Nv x0 x2 (kk i 1)) 3) (st_load c i arg4 harg4 arg17 harg17 x0 x1 x2 xc xr arg20 1 2 inb_S4x4x200x128_S1x1x200x128_1_2_0_0) (st_load c i arg4 harg4 arg17 harg17 x0 x1 x2 xc xr arg20 1 3 inb_S4x4x200x128_S1x1x200x128_1_3_0_0) (k0_off24 i 1#32) (k0_off25 i 1#32) (hoff i 1 2 0) (hoff i 1 3 0) _ _ _ _ rfl r l _
      (p0 arg15 harg15 xb arg16 harg16 xk i 1 0 (by decide) _ _ _ (cqS x1 (Dv xr xc (kk i 1)) (Nv x0 x2 (kk i 1))) (stS (Dv xr xc (kk i 1)) (Nv x0 x2 (kk i 1)) 0) (stS (Dv xr xc (kk i 1)) (Nv x0 x2 (kk i 1)) 1) (cq_load c i arg4 harg4 arg17 harg17 x0 x1 x2 xc xr arg19 1 inb_S4x200x384_S1x200x384_1_0_0) (st_load c i arg4 harg4 arg17 harg17 x0 x1 x2 xc xr arg20 1 0 inb_S4x4x200x128_S1x1x200x128_1_0_0_0) (st_load c i arg4 harg4 arg17 harg17 x0 x1 x2 xc xr arg20 1 1 inb_S4x4x200x128_S1x1x200x128_1_1_0_0)
        (k0_off21 i 1#32) (k0_off22 i 1#32) (k0_off23 i 1#32) (hoff i 1 0 0) (hoff i 1 0 0) (hoff i 1 1 0) _ _ _ _ rfl r l)
  refine forall_piece _ _ _ ?_ ?_
  · refine tilePiece _ 0 512 (by decide) _ rfl _ _ ?_
    exact fun r l => pd arg16 harg16 xk i 0 512 (by decide) _ _ (stS (Dv xr xc (kk i 0)) (Nv x0 x2 (kk i 0)) 2) (stS (Dv xr xc (kk i 0)) (Nv x0 x2 (kk i 0)) 3) (st_load c i arg4 harg4 arg17 harg17 x0 x1 x2 xc xr arg20 0 2 inb_S4x4x200x128_S1x1x200x128_0_2_0_0) (st_load c i arg4 harg4 arg17 harg17 x0 x1 x2 xc xr arg20 0 3 inb_S4x4x200x128_S1x1x200x128_0_3_0_0) (k0_off46 i 0#32) (k0_off47 i 0#32) (hoff i 0 2 512) (hoff i 0 3 512) _ _ _ _ rfl r l _
      (p2 arg15 harg15 xb arg16 harg16 xk i 0 512 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off43 i 0#32) (k0_off44 i 0#32) (k0_off45 i 0#32) (hoff i 0 0 512) (hoff i 0 0 512) (hoff i 0 1 512) _ _ _ _ rfl r l)
  refine forall_piece _ _ _ ?_ ?_
  · refine tilePiece _ 0 384 (by decide) _ rfl _ _ ?_
    exact fun r l => pd arg16 harg16 xk i 0 384 (by decide) _ _ (stS (Dv xr xc (kk i 0)) (Nv x0 x2 (kk i 0)) 2) (stS (Dv xr xc (kk i 0)) (Nv x0 x2 (kk i 0)) 3) (st_load c i arg4 harg4 arg17 harg17 x0 x1 x2 xc xr arg20 0 2 inb_S4x4x200x128_S1x1x200x128_0_2_0_0) (st_load c i arg4 harg4 arg17 harg17 x0 x1 x2 xc xr arg20 0 3 inb_S4x4x200x128_S1x1x200x128_0_3_0_0) (k0_off40 i 0#32) (k0_off41 i 0#32) (hoff i 0 2 384) (hoff i 0 3 384) _ _ _ _ rfl r l _
      (p1 arg15 harg15 xb arg16 harg16 xk i 0 384 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off32 i 0#32) (k0_off38 i 0#32) (k0_off39 i 0#32) (hoff i 0 0 256) (hoff i 0 0 384) (hoff i 0 1 384) (by decide) _ _ _ _ rfl r l)
  refine forall_piece _ _ _ ?_ ?_
  · refine tilePiece _ 0 256 (by decide) _ rfl _ _ ?_
    exact fun r l => pd arg16 harg16 xk i 0 256 (by decide) _ _ (stS (Dv xr xc (kk i 0)) (Nv x0 x2 (kk i 0)) 2) (stS (Dv xr xc (kk i 0)) (Nv x0 x2 (kk i 0)) 3) (st_load c i arg4 harg4 arg17 harg17 x0 x1 x2 xc xr arg20 0 2 inb_S4x4x200x128_S1x1x200x128_0_2_0_0) (st_load c i arg4 harg4 arg17 harg17 x0 x1 x2 xc xr arg20 0 3 inb_S4x4x200x128_S1x1x200x128_0_3_0_0) (k0_off35 i 0#32) (k0_off36 i 0#32) (hoff i 0 2 256) (hoff i 0 3 256) _ _ _ _ rfl r l _
      (p0 arg15 harg15 xb arg16 harg16 xk i 0 256 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off32 i 0#32) (k0_off33 i 0#32) (k0_off34 i 0#32) (hoff i 0 0 256) (hoff i 0 0 256) (hoff i 0 1 256) _ _ _ _ rfl r l)
  refine forall_piece _ _ _ ?_ ?_
  · refine tilePiece _ 0 128 (by decide) _ rfl _ _ ?_
    exact fun r l => pd arg16 harg16 xk i 0 128 (by decide) _ _ (stS (Dv xr xc (kk i 0)) (Nv x0 x2 (kk i 0)) 2) (stS (Dv xr xc (kk i 0)) (Nv x0 x2 (kk i 0)) 3) (st_load c i arg4 harg4 arg17 harg17 x0 x1 x2 xc xr arg20 0 2 inb_S4x4x200x128_S1x1x200x128_0_2_0_0) (st_load c i arg4 harg4 arg17 harg17 x0 x1 x2 xc xr arg20 0 3 inb_S4x4x200x128_S1x1x200x128_0_3_0_0) (k0_off29 i 0#32) (k0_off30 i 0#32) (hoff i 0 2 128) (hoff i 0 3 128) _ _ _ _ rfl r l _
      (p1 arg15 harg15 xb arg16 harg16 xk i 0 128 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off21 i 0#32) (k0_off27 i 0#32) (k0_off28 i 0#32) (hoff i 0 0 0) (hoff i 0 0 128) (hoff i 0 1 128) (by decide) _ _ _ _ rfl r l)
  refine forall_piece _ _ _ ?_ ?_
  · refine tilePiece _ 0 0 (by decide) _ rfl _ _ ?_
    exact fun r l => pd arg16 harg16 xk i 0 0 (by decide) _ _ (stS (Dv xr xc (kk i 0)) (Nv x0 x2 (kk i 0)) 2) (stS (Dv xr xc (kk i 0)) (Nv x0 x2 (kk i 0)) 3) (st_load c i arg4 harg4 arg17 harg17 x0 x1 x2 xc xr arg20 0 2 inb_S4x4x200x128_S1x1x200x128_0_2_0_0) (st_load c i arg4 harg4 arg17 harg17 x0 x1 x2 xc xr arg20 0 3 inb_S4x4x200x128_S1x1x200x128_0_3_0_0) (k0_off24 i 0#32) (k0_off25 i 0#32) (hoff i 0 2 0) (hoff i 0 3 0) _ _ _ _ rfl r l _
      (p0 arg15 harg15 xb arg16 harg16 xk i 0 0 (by decide) _ _ _ (cqS x1 (Dv xr xc (kk i 0)) (Nv x0 x2 (kk i 0))) (stS (Dv xr xc (kk i 0)) (Nv x0 x2 (kk i 0)) 0) (stS (Dv xr xc (kk i 0)) (Nv x0 x2 (kk i 0)) 1) (cq_load c i arg4 harg4 arg17 harg17 x0 x1 x2 xc xr arg19 0 inb_S4x200x384_S1x200x384_0_0_0) (st_load c i arg4 harg4 arg17 harg17 x0 x1 x2 xc xr arg20 0 0 inb_S4x4x200x128_S1x1x200x128_0_0_0_0) (st_load c i arg4 harg4 arg17 harg17 x0 x1 x2 xc xr arg20 0 1 inb_S4x4x200x128_S1x1x200x128_0_1_0_0)
        (k0_off21 i 0#32) (k0_off22 i 0#32) (k0_off23 i 0#32) (hoff i 0 0 0) (hoff i 0 0 0) (hoff i 0 1 0) _ _ _ _ rfl r l)
  exact fun p hp => absurd hp List.not_mem_nil

end Cert.KernelIdeal.Val
end
-- ==== Proof.ValStep.lean ====
/- The body's run at one grid point as ONE step: the buffers it leaves, related to the buffers it found. -/
module
public import proofs.«01_k».proof.Proof.ValPrepF
public import proofs.«01_k».proof.Proof.ValBodyF
public import proofs.«01_k».proof.Proof.ValPrepK
public import proofs.«01_k».proof.Proof.ValBig

@[expose] public section
noncomputable section
namespace Cert.KernelIdeal.Val
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

local notation "𝕄" => MT nD τ sig Unit (Elt Ideal) ℕ (UR sig nD τ) ℕ

/-- The contents of the buffers that the body leaves. -/
structure StepOut where
  b : Vec Ideal S32x384x640 .bf16
  k : Vec Ideal S32x8x640 .f32
  c : Vec Ideal S32x384 .f32
  r : Vec Ideal S200x384 .f32
  d : Vec Ideal S200x2560 .f32
  bo : Vec Ideal S200x2560 .f32
  ip : Vec Ideal S200x2560 .f32
  co : Vec Ideal S200x32x384 .i8
  de : Vec Ideal S200x32 .f32
  vl : Vec Ideal S200x32 .f32
  cq : Vec Ideal S4x200x384 .bf16
  st : Vec Ideal S4x4x200x128 .f32
  sl : Vec Ideal S3x1600x128 .i32

/-- What the buffers left are, of the buffers found. -/
structure StepRel (i : grid0.Coords) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) (O : StepOut) : Prop where
  r : O.r = if (i 1).val = 0 then k0_pay109 x0 x3 else xr
  c : O.c = if (i 1).val = 0 ∧ (i 0).val = 0 then k0_pay110 x2 x3 else xc
  de : O.de = cols lanes y13 (fun c => BitVec.ofNat 32 (kk i c).val) (fun c => Dv O.r O.c (kk i c)) (fun c => Nv x0 x2 (kk i c))
  vl : O.vl = colsv lanes y14 (fun c => BitVec.ofNat 32 (kk i c).val) (fun c => Dv O.r O.c (kk i c)) (fun c => Nv x0 x2 (kk i c))
  bnew : (i 0).val = 0 → ∀ (cc : Fin 4) (d : Fin 384) (n : Fin 640), O.b (ix3 (kk i cc) d n) = bG x4 (ix3 (kk i cc) d n)
  bold : ∀ (k : Fin 32) (d : Fin 384) (n : Fin 640), (i 0).val ≠ 0 ∨ k.val / 4 ≠ (i 1).val → O.b (ix3 k d n) = xb (ix3 k d n)
  knew : (i 0).val = 0 → ∀ (cc : Fin 4) (w : Fin 5) (n : Fin 640), O.k (ix3 (kk i cc) ⟨w.val, by omega⟩ n) = kG x4 x5 x6 (ix3 (kk i cc) ⟨w.val, by omega⟩ n)
  kold : ∀ (k : Fin 32) (w : Fin 8) (n : Fin 640), (i 0).val ≠ 0 ∨ k.val / 4 ≠ (i 1).val → O.k (ix3 k w n) = xk (ix3 k w n)
  bo : O.bo = colG (fun cc r n => boS O.k (kk i cc) (stS (Dv O.r O.c (kk i cc)) (Nv x0 x2 (kk i cc)) 2 r) n)
  ip : O.ip = colG (fun cc r n => ipS O.b O.k (kk i cc) (cqS x1 (Dv O.r O.c (kk i cc)) (Nv x0 x2 (kk i cc)) r) (stS (Dv O.r O.c (kk i cc)) (Nv x0 x2 (kk i cc)) 0 r) (stS (Dv O.r O.c (kk i cc)) (Nv x0 x2 (kk i cc)) 1 r) n)
  d : O.d = colG (fun cc r n => diS O.k (kk i cc) (stS (Dv O.r O.c (kk i cc)) (Nv x0 x2 (kk i cc)) 2 r) (stS (Dv O.r O.c (kk i cc)) (Nv x0 x2 (kk i cc)) 3 r) (ipS O.b O.k (kk i cc) (cqS x1 (Dv O.r O.c (kk i cc)) (Nv x0 x2 (kk i cc)) r) (stS (Dv O.r O.c (kk i cc)) (Nv x0 x2 (kk i cc)) 0 r) (stS (Dv O.r O.c (kk i cc)) (Nv x0 x2 (kk i cc)) 1 r) n) n)

set_option maxHeartbeats 4000000 in
/-- The body run once, from any contents: it leaves buffers that the relation allows. -/
theorem step (c : Dev nD) (i : grid0.Coords) (arg2 : Memref sig .tc .vmem S200x384 .f32) (harg2 : arg2.IsWhole) (arg3 : Memref sig .tc .vmem S200x384 .f32) (harg3 : arg3.IsWhole) (arg4 : Memref sig .tc .vmem S32x384 .f32) (harg4 : arg4.IsWhole) (arg5 : Memref sig .tc .vmem S384x384 .f32) (harg5 : arg5.IsWhole) (arg6 : Memref sig .tc .vmem S12x2560 .i32) (harg6 : arg6.IsWhole) (arg7 : Memref sig .tc .vmem S32x640 .f32) (harg7 : arg7.IsWhole) (arg8 : Memref sig .tc .vmem S32x640 .f32) (harg8 : arg8.IsWhole) (arg9 : Memref sig .tc .vmem S200x2560 .f32) (harg9 : arg9.IsWhole) (arg10 : Memref sig .tc .vmem S200x2560 .f32) (harg10 : arg10.IsWhole) (arg11 : Memref sig .tc .vmem S200x2560 .f32) (harg11 : arg11.IsWhole) (arg12 : Memref sig .tc .vmem S200x32x384 .i8) (harg12 : arg12.IsWhole) (arg13 : Memref sig .tc .vmem S200x32 .f32) (harg13 : arg13.IsWhole) (arg14 : Memref sig .tc .vmem S200x32 .f32) (harg14 : arg14.IsWhole) (arg15 : Memref sig .tc .vmem S32x384x640 .bf16) (harg15 : arg15.IsWhole) (arg16 : Memref sig .tc .vmem S32x8x640 .f32) (harg16 : arg16.IsWhole) (arg17 : Memref sig .tc .vmem S32x384 .f32) (harg17 : arg17.IsWhole) (arg18 : Memref sig .tc .vmem S200x384 .f32) (harg18 : arg18.IsWhole) (arg19 : Memref sig .tc .vmem S4x200x384 .bf16) (harg19 : arg19.IsWhole) (arg20 : Memref sig .tc .vmem S4x4x200x128 .f32) (harg20 : arg20.IsWhole) (arg21 : Memref sig .tc .vmem S3x1600x128 .i32) (harg21 : arg21.IsWhole) (x0 : Vec Ideal S200x384 .f32) (x1 : Vec Ideal S200x384 .f32) (x2 : Vec Ideal S32x384 .f32) (x3 : Vec Ideal S384x384 .f32) (x4 : Vec Ideal S12x2560 .i32) (x5 : Vec Ideal S32x640 .f32) (x6 : Vec Ideal S32x640 .f32) (y9 : Vec Ideal S200x2560 .f32) (y10 : Vec Ideal S200x2560 .f32) (y11 : Vec Ideal S200x2560 .f32) (y12 : Vec Ideal S200x32x384 .i8) (y13 : Vec Ideal S200x32 .f32) (y14 : Vec Ideal S200x32 .f32) (xb : Vec Ideal S32x384x640 .bf16) (xk : Vec Ideal S32x8x640 .f32) (xc : Vec Ideal S32x384 .f32) (xr : Vec Ideal S200x384 .f32) (xq : Vec Ideal S4x200x384 .bf16) (xst : Vec Ideal S4x4x200x128 .f32) (xs : Vec Ideal S3x1600x128 .i32) :
    ∃ O : StepOut, StepRel i x0 x1 x2 x3 x4 x5 x6 y9 y10 y11 y12 y13 y14 xb xk xc xr xq xst xs O ∧ ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare xb ∗ owns (c : Thread nD τ) arg16 fullShare xk ∗ owns (c : Thread nD τ) arg17 fullShare xc ∗ owns (c : Thread nD τ) arg18 fullShare xr ∗ owns (c : Thread nD τ) arg19 fullShare xq ∗ owns (c : Thread nD τ) arg20 fullShare xst ∗ owns (c : Thread nD τ) arg21 fullShare xs ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare O.d ∗ owns (c : Thread nD τ) arg10 fullShare O.bo ∗ owns (c : Thread nD τ) arg11 fullShare O.ip ∗ owns (c : Thread nD τ) arg12 fullShare O.co ∗ owns (c : Thread nD τ) arg13 fullShare O.de ∗ owns (c : Thread nD τ) arg14 fullShare O.vl ∗ owns (c : Thread nD τ) arg15 fullShare O.b ∗ owns (c : Thread nD τ) arg16 fullShare O.k ∗ owns (c : Thread nD τ) arg17 fullShare O.c ∗ owns (c : Thread nD τ) arg18 fullShare O.r ∗ owns (c : Thread nD τ) arg19 fullShare O.cq ∗ owns (c : Thread nD τ) arg20 fullShare O.st ∗ owns (c : Thread nD τ) arg21 fullShare O.sl) -∗ K PUnit.unit))
      ⊢ wp frame (wpE (defs₀ (F := Ideal)) Variants.none c none) E (cc0_rabitq_fused i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  obtain ⟨P, hP⟩ : ∃ P, P = (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).1 := ⟨_, rfl⟩
  have hr := prep_r c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs; rw [← hP] at hr
  have hc := prep_c c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs; rw [← hP] at hc
  have bnew := prep_b_new c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs; rw [← hP] at bnew
  have bold := prep_b_old c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs; rw [← hP] at bold
  have knew := prep_k_new c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs; rw [← hP] at knew
  have kold := prep_k_old c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs; rw [← hP] at kold
  have hv := prep_v c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs; rw [← hP] at hv
  have hrun := (prepRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 xb xk xc xr xq xst xs).2; rw [← hP] at hrun
  obtain ⟨e11, e12, e13, e14, e16, e18, e20, e28, e32⟩ := hv
  rw [e11, e12, e13, e14, e16, e18, e20, e28, e32] at hrun
  obtain ⟨A, hA⟩ : ∃ A, A = (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 P.b P.k P.c P.r xq xst xs x0 P.r x1 lanes y13 y14 (BitVec.ofNat 32 (kk i 0).val) (Dv P.r P.c (kk i 0)) (Nv x0 x2 (kk i 0))).1 := ⟨_, rfl⟩
  have hbody := (bodyRun (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 P.b P.k P.c P.r xq xst xs x0 P.r x1 lanes y13 y14 (BitVec.ofNat 32 (kk i 0).val) (Dv P.r P.c (kk i 0)) (Nv x0 x2 (kk i 0))).2 xb xk xc xr; rw [← hA] at hbody
  refine ⟨⟨P.b, P.k, P.c, P.r, A.d, A.bo, A.ip, A.co, A.de, A.vl, A.cq, A.st, A.sl⟩, ⟨hr, hc, ?_, ?_, bnew, bold, knew, kold, ?_, ?_, ?_⟩, fun E K => hbody E K hrun⟩
  · rw [hA]; exact body_de c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 P.b P.k P.c P.r xq xst xs
  · rw [hA]; exact body_vl c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 P.b P.k P.c P.r xq xst xs
  · rw [hA]; exact body_bo c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 P.b P.k P.c P.r xq xst xs
  · rw [hA]; exact body_ip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 P.b P.k P.c P.r xq xst xs
  · rw [hA]; exact body_d c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 y9 y10 y11 y12 y13 y14 P.b P.k P.c P.r xq xst xs
end Cert.KernelIdeal.Val
end
-- ==== Proof.ValLaunch.lean ====
/- The launch of `KernelIdeal` with what its buffers hold tracked from point to point: the invariant says what the scratch
   buffers hold, and each result's staging buffer is held to the part of its block that is already written. -/
module

public import proofs.«01_k».proof.Proof.KernelIdealFrame
public import proofs.«01_k».proof.Proof.ValWant
public import proofs.«01_k».proof.Proof.ValStep
public import Idealize.ShloMosaic.Lib.Pipeline.DatRel
public import Idealize.ShloMosaic.Lib.Pipeline.ArrRel

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Run

local notation "𝕄" => MT nD τ sig Unit (Elt Ideal) ℕ (UR sig nD τ) ℕ

variable (m : (ℓ : Loc nD τ sig) → Buf (Elt Ideal) ℓ) (ρ : Dev nD → PrngReg)

/-- What the scratch buffers hold before point `n`. -/
structure Inv (c : Dev nD) (n : ℕ) (b : Vec Ideal S32x384x640 .bf16) (k : Vec Ideal S32x8x640 .f32) (xc : Vec Ideal S32x384 .f32) (xr : Vec Ideal S200x384 .f32) (s : Vec Ideal S3x1600x128 .i32) : Prop where
  r : n % 8 ≠ 0 → ∀ (r : Fin 200) (d : Fin 384) (h : 200 * (n / 8) + r.val < 3000), xr (ix2 r d) = rotS (RT m c) (Q m c ⟨200 * (n / 8) + r.val, h⟩) d
  cent : n ≠ 0 → ∀ k d, xc (ix2 k d) = rotS (RT m c) (C m c k) d
  bits : ∀ (k : Fin 32) (d : Fin 384) (n' : Fin 640), k.val < 4 * n → b (ix3 k d n') = bitE (WD m c k n' ⟨d.val / 32, by have := d.isLt; omega⟩) (d.val % 32)
  cons : ∀ (k' : Fin 32) (w : Fin 5) (n' : Fin 640), k'.val < 4 * n → k (ix3 k' ⟨w.val, by have := w.isLt; omega⟩ n') = kE (WD m c k' n') (NR m c k' n') (OO m c k' n') w

theorem Inv.zero (c : Dev nD) (b : Vec Ideal S32x384x640 .bf16) (k : Vec Ideal S32x8x640 .f32) (xc : Vec Ideal S32x384 .f32) (xr : Vec Ideal S200x384 .f32) (s : Vec Ideal S3x1600x128 .i32) : Inv m c 0 b k xc xr s :=
  ⟨fun h => absurd rfl h, fun h => absurd rfl h, fun _ _ _ h => absurd h (by omega), fun _ _ _ h => absurd h (by omega)⟩

/-- What each output's staging buffer holds after the body at a point. -/
def want7 (c : Dev nD) (t : Fin cfg0.N) (X : Vec Ideal S200x2560 .f32) : Prop :=
  X = colG (fun cc r n => diT (RT m c) (Q m c (rowI t r)) (C m c (kk (grid0.coords t) cc)) (OF m c (rowI t r)) (WD m c (kk (grid0.coords t) cc) n) (NR m c (kk (grid0.coords t) cc) n) (OO m c (kk (grid0.coords t) cc) n))
def want8 (c : Dev nD) (t : Fin cfg0.N) (X : Vec Ideal S200x2560 .f32) : Prop :=
  X = colG (fun cc r n => boT (RT m c) (Q m c (rowI t r)) (C m c (kk (grid0.coords t) cc)) (WD m c (kk (grid0.coords t) cc) n) (NR m c (kk (grid0.coords t) cc) n) (OO m c (kk (grid0.coords t) cc) n))
def want9 (c : Dev nD) (t : Fin cfg0.N) (X : Vec Ideal S200x2560 .f32) : Prop :=
  X = colG (fun cc r n => ipT (RT m c) (Q m c (rowI t r)) (C m c (kk (grid0.coords t) cc)) (OF m c (rowI t r)) (WD m c (kk (grid0.coords t) cc) n) (NR m c (kk (grid0.coords t) cc) n) (OO m c (kk (grid0.coords t) cc) n))
def want10 (m : (ℓ : Loc nD τ sig) → Buf (Elt Ideal) ℓ) (c : Dev nD) (t : Fin cfg0.N) (X : Vec Ideal S200x32x384 .i8) : Prop := True
def want11 (c : Dev nD) (t : Fin cfg0.N) (X : Vec Ideal S200x32 .f32) : Prop :=
  ∀ (r : Fin 200) (k : Fin 32), k.val / 4 ≤ t.val % 8 → X (ix2 r k) = dlS (RT m c) (Q m c (rowI t r)) (C m c k)
def want12 (c : Dev nD) (t : Fin cfg0.N) (X : Vec Ideal S200x32 .f32) : Prop :=
  ∀ (r : Fin 200) (k : Fin 32), k.val / 4 ≤ t.val % 8 → X (ix2 r k) = vlS (RT m c) (Q m c (rowI t r)) (C m c k)

/-- After the body the rotated rows are the block's. -/
theorem keep_r (c : Dev nD) (t : Fin cfg0.N) {b k xc xr s} (hI : Inv m c t.val b k xc xr s) (Or : Vec Ideal S200x384 .f32)
    (h : Or = if ((grid0.coords t) 1).val = 0 then k0_pay109 (iblk m c 0 t) (iblk m c 3 t) else xr) (r : Fin 200) (d : Fin 384) :
    Or (ix2 r d) = rotS (RT m c) (Q m c (rowI t r)) d := by
  rw [h, crd1]
  split_ifs with h0
  · rw [pay109_at, iblk3_eq]; unfold RT Q; simp only [iblk0_at]
  · exact hI.r h0 r d (rowI t r).isLt

theorem keep_c (c : Dev nD) (t : Fin cfg0.N) {b k xc xr s} (hI : Inv m c t.val b k xc xr s) (Oc : Vec Ideal S32x384 .f32)
    (h : Oc = if ((grid0.coords t) 1).val = 0 ∧ ((grid0.coords t) 0).val = 0 then k0_pay110 (iblk m c 2 t) (iblk m c 3 t) else xc) (k : Fin 32) (d : Fin 384) :
    Oc (ix2 k d) = rotS (RT m c) (C m c k) d := by
  rw [h, crd1, crd0]
  split_ifs with h0
  · rw [pay110_at, iblk3_eq, iblk2_eq]; rfl
  · exact hI.cent (by omega) k d

theorem keep_b (c : Dev nD) (t : Fin cfg0.N) {b k xc xr s} (hI : Inv m c t.val b k xc xr s) (Ob : Vec Ideal S32x384x640 .bf16)
    (hn : ((grid0.coords t) 0).val = 0 → ∀ (cc : Fin 4) (d : Fin 384) (n : Fin 640), Ob (ix3 (kk (grid0.coords t) cc) d n) = bG (iblk m c 4 t) (ix3 (kk (grid0.coords t) cc) d n))
    (ho : ∀ (k : Fin 32) (d : Fin 384) (n : Fin 640), ((grid0.coords t) 0).val ≠ 0 ∨ k.val / 4 ≠ ((grid0.coords t) 1).val → Ob (ix3 k d n) = b (ix3 k d n))
    (k : Fin 32) (d : Fin 384) (n : Fin 640) (hk : k.val < 4 * (t.val + 1)) :
    Ob (ix3 k d n) = bitE (WD m c k n ⟨d.val / 32, by have := d.isLt; omega⟩) (d.val % 32) := by
  rw [crd0] at hn
  have h1 := crd1 t
  by_cases h : k.val < 4 * t.val
  · rw [ho k d n (by rw [crd0, crd1]; omega)]; exact hI.bits k d n h
  · have ht : t.val < 8 := by have := k.isLt; omega
    have ek : k = kk (grid0.coords t) ⟨k.val - 4 * t.val, by omega⟩ := Fin.ext (by show k.val = 4 * ((grid0.coords t) 1).val + (k.val - 4 * t.val); rw [h1]; omega)
    have e := hn (by omega) ⟨k.val - 4 * t.val, by omega⟩ d n
    rw [← ek] at e
    exact e.trans (bG_row m c t ht ⟨k.val - 4 * t.val, by omega⟩ k (by show k.val = 4 * t.val + (k.val - 4 * t.val); omega) d n)

theorem keep_k (c : Dev nD) (t : Fin cfg0.N) {b k xc xr s} (hI : Inv m c t.val b k xc xr s) (Ok : Vec Ideal S32x8x640 .f32)
    (hn : ((grid0.coords t) 0).val = 0 → ∀ (cc : Fin 4) (w : Fin 5) (n : Fin 640), Ok (ix3 (kk (grid0.coords t) cc) ⟨w.val, by omega⟩ n) = kG (iblk m c 4 t) (iblk m c 5 t) (iblk m c 6 t) (ix3 (kk (grid0.coords t) cc) ⟨w.val, by omega⟩ n))
    (ho : ∀ (k' : Fin 32) (w : Fin 8) (n : Fin 640), ((grid0.coords t) 0).val ≠ 0 ∨ k'.val / 4 ≠ ((grid0.coords t) 1).val → Ok (ix3 k' w n) = k (ix3 k' w n))
    (k' : Fin 32) (w : Fin 5) (n : Fin 640) (hk : k'.val < 4 * (t.val + 1)) :
    Ok (ix3 k' ⟨w.val, by have := w.isLt; omega⟩ n) = kE (WD m c k' n) (NR m c k' n) (OO m c k' n) w := by
  rw [crd0] at hn
  have h1 := crd1 t
  by_cases h : k'.val < 4 * t.val
  · rw [ho k' _ n (by rw [crd0, crd1]; omega)]; exact hI.cons k' w n h
  · have ht : t.val < 8 := by have := k'.isLt; omega
    have ek : k' = kk (grid0.coords t) ⟨k'.val - 4 * t.val, by omega⟩ := Fin.ext (by show k'.val = 4 * ((grid0.coords t) 1).val + (k'.val - 4 * t.val); rw [h1]; omega)
    have e := hn (by omega) ⟨k'.val - 4 * t.val, by omega⟩ w n
    rw [← ek] at e
    exact e.trans (kG_row m c t ht ⟨k'.val - 4 * t.val, by omega⟩ k' (by show k'.val = 4 * t.val + (k'.val - 4 * t.val); omega) w n)

/-- One step keeps the invariant and gives every output what is wanted of it. -/
theorem keep (c : Dev nD) (t : Fin cfg0.N) {y9 y10 y11 y12 y13 y14 xb xk xc xr xq xst xs O}
    (hI : Inv m c t.val xb xk xc xr xs)
    (hO : StepRel (grid0.coords t) (iblk m c 0 t) (iblk m c 1 t) (iblk m c 2 t) (iblk m c 3 t) (iblk m c 4 t) (iblk m c 5 t) (iblk m c 6 t) y9 y10 y11 y12 y13 y14 xb xk xc xr xq xst xs O)
    (f10 : ∀ t' : Fin cfg0.N, t.val % 8 ≠ 0 → t'.val = t.val - 1 → want10 m c t' y12)
    (f11 : ∀ t' : Fin cfg0.N, t.val % 8 ≠ 0 → t'.val = t.val - 1 → want11 m c t' y13)
    (f12 : ∀ t' : Fin cfg0.N, t.val % 8 ≠ 0 → t'.val = t.val - 1 → want12 m c t' y14) :
    Inv m c (t.val + 1) O.b O.k O.c O.r O.sl ∧ want7 m c t O.d ∧ want8 m c t O.bo ∧ want9 m c t O.ip ∧ want10 m c t O.co ∧ want11 m c t O.de ∧ want12 m c t O.vl := by
  have hN : t.val < 120 := t.isLt
  have hr := keep_r m c t hI O.r hO.r
  have hc := keep_c m c t hI O.c hO.c
  have hr' : ∀ (r : Fin 200) d, O.r (ix2 r d) = rotS (iblk m c 3 t) (fun j => (iblk m c 0 t : Vec Ideal S200x384 .f32) (ix2 r j)) d := fun r d => by
    rw [hr]; unfold RT Q; simp only [iblk0_at]; rw [iblk3_eq]
  have hc' : ∀ k d, O.c (ix2 k d) = rotS (iblk m c 3 t) (fun j => (iblk m c 2 t : Vec Ideal S32x384 .f32) (ix2 k j)) d := fun k d => by
    rw [hc]; unfold RT C; rw [iblk3_eq, iblk2_eq]
  have hq : ∀ r : Fin 200, (fun j => (iblk m c 0 t : Vec Ideal S200x384 .f32) (ix2 r j)) = Q m c (rowI t r) := fun r => by
    funext j; rw [iblk0_at]; rfl
  have hk : ∀ k : Fin 32, (fun j => (iblk m c 2 t : Vec Ideal S32x384 .f32) (ix2 k j)) = C m c k := fun k => by
    rw [iblk2_eq]; rfl
  have hR : (iblk m c 3 t : Vec Ideal S384x384 .f32) = RT m c := iblk3_eq m c t
  have hb := keep_b m c t hI O.b hO.bnew hO.bold
  have hkk := keep_k m c t hI O.k hO.knew hO.kold
  have hlt : ∀ cc : Fin 4, (kk (grid0.coords t) cc).val < 4 * (t.val + 1) := fun cc => by
    show 4 * ((grid0.coords t) 1).val + cc.val < _
    have := cc.isLt
    rw [crd1]; omega
  have hst : ∀ cc (r : Fin 200) w, stS (Dv O.r O.c (kk (grid0.coords t) cc)) (Nv (iblk m c 0 t) (iblk m c 2 t) (kk (grid0.coords t) cc)) w r = stE (RT m c) (Q m c (rowI t r)) (C m c (kk (grid0.coords t) cc)) w := fun cc r w => by
    rw [stS_row (iblk m c 0 t) O.r (iblk m c 2 t) O.c (iblk m c 3 t) r _ (hr' r) (hc' _) w, hq, hk, hR]
  have hcq : ∀ cc (r : Fin 200) d, cqS (iblk m c 1 t) (Dv O.r O.c (kk (grid0.coords t) cc)) (Nv (iblk m c 0 t) (iblk m c 2 t) (kk (grid0.coords t) cc)) r d = cS (RT m c) (Q m c (rowI t r)) (C m c (kk (grid0.coords t) cc)) (OF m c (rowI t r) d) d := fun cc r d => by
    rw [cqS_row (iblk m c 0 t) O.r (iblk m c 2 t) O.c (iblk m c 3 t) (iblk m c 1 t) r _ (hr' r) (hc' _) d, hq, hk, hR, iblk1_at]; rfl
  have hip : ∀ cc (r : Fin 200) n, ipS O.b O.k (kk (grid0.coords t) cc) (cqS (iblk m c 1 t) (Dv O.r O.c (kk (grid0.coords t) cc)) (Nv (iblk m c 0 t) (iblk m c 2 t) (kk (grid0.coords t) cc)) r) (stS (Dv O.r O.c (kk (grid0.coords t) cc)) (Nv (iblk m c 0 t) (iblk m c 2 t) (kk (grid0.coords t) cc)) 0 r) (stS (Dv O.r O.c (kk (grid0.coords t) cc)) (Nv (iblk m c 0 t) (iblk m c 2 t) (kk (grid0.coords t) cc)) 1 r) n
      = ipT (RT m c) (Q m c (rowI t r)) (C m c (kk (grid0.coords t) cc)) (OF m c (rowI t r)) (WD m c (kk (grid0.coords t) cc) n) (NR m c (kk (grid0.coords t) cc) n) (OO m c (kk (grid0.coords t) cc) n) := fun cc r n => by
    unfold ipS ipT
    rw [hst, hst, ← hkk _ 0 n (hlt cc), ← hkk _ 1 n (hlt cc)]
    simp only [hcq, hb _ _ n (hlt cc)]
    rfl
  refine ⟨⟨fun h r d hh => ?_, fun _ => hc, hb, hkk⟩, ?_, ?_, ?_, trivial, fun r k hk4 => ?_, fun r k hk4 => ?_⟩
  · rw [hr]
    congr 2
    apply Fin.ext
    show 200 * (t.val / 8) + r.val = 200 * ((t.val + 1) / 8) + r.val
    omega
  · unfold want7
    rw [hO.d]
    refine congrArg colG (funext fun cc => funext fun r => funext fun n => ?_)
    unfold diS hS diT
    rw [hip, hst, hst, ← hkk _ 2 n (hlt cc), ← hkk _ 3 n (hlt cc)]
    rfl
  · unfold want8
    rw [hO.bo]
    refine congrArg colG (funext fun cc => funext fun r => funext fun n => ?_)
    unfold boS hS boT
    rw [hst, ← hkk _ 2 n (hlt cc), ← hkk _ 4 n (hlt cc)]
    rfl
  · unfold want9
    rw [hO.ip]
    exact congrArg colG (funext fun cc => funext fun r => funext fun n => hip cc r n)
  · rw [hO.de, cols_at (grid0.coords t) (iblk m c 0 t) O.r (iblk m c 2 t) O.c (iblk m c 3 t) y13 r k (hr' r) hc', crd1, hq, hk, hR]
    split_ifs with h
    · rfl
    · rw [f11 ⟨t.val - 1, by show _ < 120; omega⟩ (by omega) rfl r k (by show k.val / 4 ≤ (t.val - 1) % 8; omega)]
      congr 2
      apply Fin.ext
      show 200 * ((t.val - 1) / 8) + r.val = 200 * (t.val / 8) + r.val
      omega
  · rw [hO.vl, colsv_at (grid0.coords t) (iblk m c 0 t) O.r (iblk m c 2 t) O.c (iblk m c 3 t) y14 r k (hr' r) hc', crd1, hq, hk, hR]
    split_ifs with h
    · rfl
    · rw [f12 ⟨t.val - 1, by show _ < 120; omega⟩ (by omega) rfl r k (by show k.val / 4 ≤ (t.val - 1) % 8; omega)]
      congr 2
      apply Fin.ext
      show 200 * ((t.val - 1) / 8) + r.val = 200 * (t.val / 8) + r.val
      omega

/-- The region's invariant before point `n`: the scratch buffers at contents the tracked facts allow. -/
def PhiV (c : Dev nD) (n : ℕ) : sProp 𝕄 :=
  iprop(∃ b, ∃ k, ∃ xc, ∃ xr, ∃ s, ⌜Inv m c n b k xc xr s⌝ ∗ (owns (c : Thread nD τ) scM0_0 fullShare b ∗ owns (c : Thread nD τ) scM0_1 fullShare k ∗ owns (c : Thread nD τ) scM0_2 fullShare xc ∗ owns (c : Thread nD τ) scM0_3 fullShare xr ∗ (∃ d, owns (c : Thread nD τ) scM0_4 fullShare d) ∗ (∃ d, owns (c : Thread nD τ) scM0_5 fullShare d) ∗ owns (c : Thread nD τ) scM0_6 fullShare s) ∗ ∃ r, prngReg c r)

/-- The windows held to a predicate: the outputs. -/
def held0 : Fin 13 → Bool := fun w => 7 ≤ w.val

/-- What the body leaves in each output's staging buffer at a point. -/
def Rl (c : Dev nD) : (w : Fin cfg0.W) → Fin cfg0.N → ((cfg0.win w).block.Idx → Elt Ideal (cfg0.win w).elt) → Prop
  | ⟨7, _⟩ => fun t X => want7 m c t X
  | ⟨8, _⟩ => fun t X => want8 m c t X
  | ⟨9, _⟩ => fun t X => want9 m c t X
  | ⟨10, _⟩ => fun t X => want10 m c t X
  | ⟨11, _⟩ => fun t X => want11 m c t X
  | ⟨12, _⟩ => fun t X => want12 m c t X
  | _ => fun _ _ => True

/-- The proof data: every input's buffer at its block after the body, the invariant `PhiV`, nothing owed. -/
def datv (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ n := PhiV m c n.val
  q _ := fullShare
  owed _ := 0

theorem datv_A (c : Dev nD) (w : Fin cfg0.W) : (datv m c).A w = V m c (Pipeline.arrRef spec0 w) := by
  dsimp only [datv]
theorem datv_after0 (c : Dev nD) (t : Fin cfg0.N) : (datv m c).after 0 t = iblk m c 0 t := by dsimp only [datv]
theorem datv_after1 (c : Dev nD) (t : Fin cfg0.N) : (datv m c).after 1 t = iblk m c 1 t := by dsimp only [datv]
theorem datv_after2 (c : Dev nD) (t : Fin cfg0.N) : (datv m c).after 2 t = iblk m c 2 t := by dsimp only [datv]
theorem datv_after3 (c : Dev nD) (t : Fin cfg0.N) : (datv m c).after 3 t = iblk m c 3 t := by dsimp only [datv]
theorem datv_after4 (c : Dev nD) (t : Fin cfg0.N) : (datv m c).after 4 t = iblk m c 4 t := by dsimp only [datv]
theorem datv_after5 (c : Dev nD) (t : Fin cfg0.N) : (datv m c).after 5 t = iblk m c 5 t := by dsimp only [datv]
theorem datv_after6 (c : Dev nD) (t : Fin cfg0.N) : (datv m c).after 6 t = iblk m c 6 t := by dsimp only [datv]
theorem datv_before0 (c : Dev nD) (t : Fin cfg0.N) (d) : (datv m c).before 0 t d = iblk m c 0 t :=
  before0_0_of m (datv m c) (datv_A m c 0) (datv_after0 m c) t d
theorem datv_before1 (c : Dev nD) (t : Fin cfg0.N) (d) : (datv m c).before 1 t d = iblk m c 1 t :=
  before0_1_of m (datv m c) (datv_A m c 1) (datv_after1 m c) t d
theorem datv_before2 (c : Dev nD) (t : Fin cfg0.N) (d) : (datv m c).before 2 t d = iblk m c 2 t :=
  before0_2_of m (datv m c) (datv_A m c 2) (datv_after2 m c) t d
theorem datv_before3 (c : Dev nD) (t : Fin cfg0.N) (d) : (datv m c).before 3 t d = iblk m c 3 t :=
  before0_3_of m (datv m c) (datv_A m c 3) (datv_after3 m c) t d
theorem datv_before4 (c : Dev nD) (t : Fin cfg0.N) (d) : (datv m c).before 4 t d = iblk m c 4 t :=
  before0_4_of m (datv m c) (datv_A m c 4) (datv_after4 m c) t d
theorem datv_before5 (c : Dev nD) (t : Fin cfg0.N) (d) : (datv m c).before 5 t d = iblk m c 5 t :=
  before0_5_of m (datv m c) (datv_A m c 5) (datv_after5 m c) t d
theorem datv_before6 (c : Dev nD) (t : Fin cfg0.N) (d) : (datv m c).before 6 t d = iblk m c 6 t :=
  before0_6_of m (datv m c) (datv_A m c 6) (datv_after6 m c) t d

/-- What the body finds in window 10's staging buffer inside a row block is what the previous point left there. -/
theorem finds10 (c : Dev nD) (t t' : Fin cfg0.N) (h : t.val % 8 ≠ 0) (ht : t'.val = t.val - 1) (Y) (hY : ((datv m c).toRRel held0 (Rl m c)).Finds 10 t Y) :
    want10 m c t' Y := by
  have hN : t.val < 120 := t.isLt
  rcases (Pipeline.RDat.finds_of_pos _ (w := 10) (t := t) rfl (by omega) Y).mp hY with hf | hl
  · exact absurd ((flush0_10 _).mp hf) (by show ¬ (t.val - 1) % 8 = 7; omega)
  · have e : (⟨t.val - 1, Nat.lt_of_le_of_lt (Nat.sub_le _ _) t.isLt⟩ : Fin cfg0.N) = t' := Fin.ext ht.symm
    rw [e] at hl
    exact (datv m c).toRRel_leaves (w := 10) rfl hl

/-- What the body finds in window 11's staging buffer inside a row block is what the previous point left there. -/
theorem finds11 (c : Dev nD) (t t' : Fin cfg0.N) (h : t.val % 8 ≠ 0) (ht : t'.val = t.val - 1) (Y) (hY : ((datv m c).toRRel held0 (Rl m c)).Finds 11 t Y) :
    want11 m c t' Y := by
  have hN : t.val < 120 := t.isLt
  rcases (Pipeline.RDat.finds_of_pos _ (w := 11) (t := t) rfl (by omega) Y).mp hY with hf | hl
  · exact absurd ((flush0_11 _).mp hf) (by show ¬ (t.val - 1) % 8 = 7; omega)
  · have e : (⟨t.val - 1, Nat.lt_of_le_of_lt (Nat.sub_le _ _) t.isLt⟩ : Fin cfg0.N) = t' := Fin.ext ht.symm
    rw [e] at hl
    exact (datv m c).toRRel_leaves (w := 11) rfl hl

/-- What the body finds in window 12's staging buffer inside a row block is what the previous point left there. -/
theorem finds12 (c : Dev nD) (t t' : Fin cfg0.N) (h : t.val % 8 ≠ 0) (ht : t'.val = t.val - 1) (Y) (hY : ((datv m c).toRRel held0 (Rl m c)).Finds 12 t Y) :
    want12 m c t' Y := by
  have hN : t.val < 120 := t.isLt
  rcases (Pipeline.RDat.finds_of_pos _ (w := 12) (t := t) rfl (by omega) Y).mp hY with hf | hl
  · exact absurd ((flush0_12 _).mp hf) (by show ¬ (t.val - 1) % 8 = 7; omega)
  · have e : (⟨t.val - 1, Nat.lt_of_le_of_lt (Nat.sub_le _ _) t.isLt⟩ : Fin cfg0.N) = t' := Fin.ext ht.symm
    rw [e] at hl
    exact (datv m c).toRRel_leaves (w := 12) rfl hl

def bodyPreV (c : Dev nD) (t : Fin cfg0.N) : sProp 𝕄 :=
  iprop((datv m c).Φ t.castSucc ∗ (datv m c).owesAt () t.castSucc
    ∗ (∃ d, owns (c : Thread nD τ) (ms0_0 t) fullShare ((datv m c).before 0 t d))
    ∗ (∃ d, owns (c : Thread nD τ) (ms0_1 t) fullShare ((datv m c).before 1 t d))
    ∗ (∃ d, owns (c : Thread nD τ) (ms0_2 t) fullShare ((datv m c).before 2 t d))
    ∗ (∃ d, owns (c : Thread nD τ) (ms0_3 t) fullShare ((datv m c).before 3 t d))
    ∗ (∃ d, owns (c : Thread nD τ) (ms0_4 t) fullShare ((datv m c).before 4 t d))
    ∗ (∃ d, owns (c : Thread nD τ) (ms0_5 t) fullShare ((datv m c).before 5 t d))
    ∗ (∃ d, owns (c : Thread nD τ) (ms0_6 t) fullShare ((datv m c).before 6 t d))
    ∗ (∃ Y, ⌜((datv m c).toRRel held0 (Rl m c)).Finds 7 t Y⌝ ∗ owns (c : Thread nD τ) (ms0_7 t) fullShare Y)
    ∗ (∃ Y, ⌜((datv m c).toRRel held0 (Rl m c)).Finds 8 t Y⌝ ∗ owns (c : Thread nD τ) (ms0_8 t) fullShare Y)
    ∗ (∃ Y, ⌜((datv m c).toRRel held0 (Rl m c)).Finds 9 t Y⌝ ∗ owns (c : Thread nD τ) (ms0_9 t) fullShare Y)
    ∗ (∃ Y, ⌜((datv m c).toRRel held0 (Rl m c)).Finds 10 t Y⌝ ∗ owns (c : Thread nD τ) (ms0_10 t) fullShare Y)
    ∗ (∃ Y, ⌜((datv m c).toRRel held0 (Rl m c)).Finds 11 t Y⌝ ∗ owns (c : Thread nD τ) (ms0_11 t) fullShare Y)
    ∗ (∃ Y, ⌜((datv m c).toRRel held0 (Rl m c)).Finds 12 t Y⌝ ∗ owns (c : Thread nD τ) (ms0_12 t) fullShare Y))

def bodyPostV (c : Dev nD) (t : Fin cfg0.N) : sProp 𝕄 :=
  iprop((datv m c).Φ t.succ ∗ (datv m c).owesAt () t.succ
    ∗ (datv m c).leavesExact 0 t
    ∗ (datv m c).leavesExact 1 t
    ∗ (datv m c).leavesExact 2 t
    ∗ (datv m c).leavesExact 3 t
    ∗ (datv m c).leavesExact 4 t
    ∗ (datv m c).leavesExact 5 t
    ∗ (datv m c).leavesExact 6 t
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X))

set_option maxHeartbeats 8000000 in
/-- The body at any point: it keeps the invariant and leaves in each output's staging buffer what is wanted there. -/
theorem sound_bodyV (c : Dev nD) (t : Fin cfg0.N) :
    bodyPreV m c t ⊢ wp frame (wpE (defs₀ (F := Ideal)) Variants.none c none) Set.univ (bodyAt0 t) (fun _ => bodyPostV m c t) := by
  unfold bodyPreV bodyPostV bodyAt0
  simp only [datv_before0, datv_before1, datv_before2, datv_before3, datv_before4, datv_before5, datv_before6]
  rw [show (datv m c).owesAt () t.succ = (datv m c).owesAt () t.castSucc from rfl]
  rw [show (datv m c).Φ t.succ = PhiV m c (t.val + 1) from rfl, show (datv m c).Φ t.castSucc = PhiV m c t.val from rfl]
  rw [show (datv m c).leavesExact 0 t = owns (c : Thread nD τ) (ms0_0 t) fullShare ((datv m c).after 0 t) from by
    unfold Dat.leavesExact; rw [liveAt0_0 t], datv_after0]
  rw [show (datv m c).leavesExact 1 t = owns (c : Thread nD τ) (ms0_1 t) fullShare ((datv m c).after 1 t) from by
    unfold Dat.leavesExact; rw [liveAt0_1 t], datv_after1]
  rw [show (datv m c).leavesExact 2 t = owns (c : Thread nD τ) (ms0_2 t) fullShare ((datv m c).after 2 t) from by
    unfold Dat.leavesExact; rw [liveAt0_2 t], datv_after2]
  rw [show (datv m c).leavesExact 3 t = owns (c : Thread nD τ) (ms0_3 t) fullShare ((datv m c).after 3 t) from by
    unfold Dat.leavesExact; rw [liveAt0_3 t], datv_after3]
  rw [show (datv m c).leavesExact 4 t = owns (c : Thread nD τ) (ms0_4 t) fullShare ((datv m c).after 4 t) from by
    unfold Dat.leavesExact; rw [liveAt0_4 t], datv_after4]
  rw [show (datv m c).leavesExact 5 t = owns (c : Thread nD τ) (ms0_5 t) fullShare ((datv m c).after 5 t) from by
    unfold Dat.leavesExact; rw [liveAt0_5 t], datv_after5]
  rw [show (datv m c).leavesExact 6 t = owns (c : Thread nD τ) (ms0_6 t) fullShare ((datv m c).after 6 t) from by
    unfold Dat.leavesExact; rw [liveAt0_6 t], datv_after6]
  unfold PhiV
  iintro ⟨⟨%xb, %xk, %xc, %xr, %xs, %hI, ⟨HS0, HS1, HS2, HS3, ⟨%xq, HS4⟩, ⟨%xst, HS5⟩, HS6⟩, Hg⟩, Ho, ⟨%d0, H0⟩, ⟨%d1, H1⟩, ⟨%d2, H2⟩, ⟨%d3, H3⟩, ⟨%d4, H4⟩, ⟨%d5, H5⟩, ⟨%d6, H6⟩, ⟨%Y7, %hY7, H7⟩, ⟨%Y8, %hY8, H8⟩, ⟨%Y9, %hY9, H9⟩, ⟨%Y10, %hY10, H10⟩, ⟨%Y11, %hY11, H11⟩, ⟨%Y12, %hY12, H12⟩⟩
  obtain ⟨O, hO, hrun⟩ := step c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) Y7 Y8 Y9 Y10 Y11 Y12 xb xk xc xr xq xst xs
  obtain ⟨hI', h7, h8, h9, h10, h11, h12⟩ := keep m c t hI hO (fun t' h e => finds10 m c t t' h e _ hY10) (fun t' h e => finds11 m c t t' h e _ hY11) (fun t' h e => finds12 m c t t' h e _ hY12)
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hg]
  · iexists O.b; iexists O.k; iexists O.c; iexists O.r; iexists O.sl
    isplitr; · ipureintro; exact hI'
    isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexists _; iexact HS4
      isplitl [HS5]; · iexists _; iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists O.d; isplitr; · ipureintro; exact h7
    iexact H7
  isplitl [H8]
  · iexists O.bo; isplitr; · ipureintro; exact h8
    iexact H8
  isplitl [H9]
  · iexists O.ip; isplitr; · ipureintro; exact h9
    iexact H9
  isplitl [H10]
  · iexists O.co; isplitr; · ipureintro; exact h10
    iexact H10
  isplitl [H11]
  · iexists O.de; isplitr; · ipureintro; exact h11
    iexact H11
  iexists O.vl; isplitr; · ipureintro; exact h12
  iexact H12

/-- The library's body obligation with the outputs held to what is wanted. -/
theorem body_obligationV (c : Dev nD) : Pipeline.BodyObligationRel (datv m c) (defs₀ (F := Ideal)) Variants.none () Set.univ held0 (Rl m c) := fun t => by
  rw [bigSep_W0, bigSep_W0, defs₀_row]
  exact triple_restated (sound_bodyV m c t) rfl .rfl fun _ => .rfl

theorem hin (c : Dev nD) : (Pipeline.ΦA spec0 c : sProp 𝕄) ⊢ PhiV m c 0 := by
  rw [PhiA0_eq]; unfold PhiV
  iintro ⟨⟨⟨%b, HS0⟩, ⟨%k, HS1⟩, ⟨%xc, HS2⟩, ⟨%xr, HS3⟩, HS4, HS5, ⟨%s, HS6⟩⟩, Hg⟩
  iexists b; iexists k; iexists xc; iexists xr; iexists s
  isplitr; · ipureintro; exact Inv.zero m c b k xc xr s
  isplitl [HS0 HS1 HS2 HS3 HS4 HS5 HS6]
  · isplitl [HS0]; · iexact HS0
    isplitl [HS1]; · iexact HS1
    isplitl [HS2]; · iexact HS2
    isplitl [HS3]; · iexact HS3
    isplitl [HS4]; · iexact HS4
    isplitl [HS5]; · iexact HS5
    iexact HS6
  iexact Hg

theorem hout (c : Dev nD) (n : ℕ) : PhiV m c n ⊢ (Pipeline.ΦA spec0 c : sProp 𝕄) := by
  rw [PhiA0_eq]; unfold PhiV
  iintro ⟨%b, %k, %xc, %xr, %s, %hI, ⟨HS0, HS1, HS2, HS3, HS4, HS5, HS6⟩, Hg⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexists _; iexact HS3
    isplitl [HS4]; · iexact HS4
    isplitl [HS5]; · iexact HS5
    iexists _; iexact HS6
  iexact Hg

set_option backward.isDefEq.respectTransparency.types false in
/-- The launch: every execution terminates without a fault, the arrays at what the tracked facts allow. -/
theorem run_mainV : θ_run defs (onTc (τ := τ) (main (F := Ideal))) (s₀ m ρ) (Pipeline.RDat.FramePost (cfgs 0) (fun c => (datv m c).toRRel held0 (Rl m c)) (V m)) :=
  Pipeline.RDat.θ_run_frame_track cfgs (0 : Fin 1) launch0 defs₀ Variants.none (fun c => (datv m c).toRRel held0 (Rl m c)) m ρ main
    (hbody := fun c => (body_obligationV m c).toRRel) (hshare := fun c => (datv m c).share_full fun _ => rfl)
    (howed := fun _ _ => rfl) (V := V m) (hmain := hmain m Variants.none) (hA := datv_A m) (hin := hin m) (hout := fun c => hout m c _)

end Cert.KernelIdeal.Val

end
-- ==== Proof.ValFinal.lean ====
/- What the kernel leaves in its result arrays. -/
module
public import proofs.«01_k».proof.Proof.ValLaunch
public import Idealize.ShloMosaic.Lib.Pipeline.ValueKit
@[expose] public section
noncomputable section
namespace Cert.KernelIdeal.Val
open Idealize.ShloMosaic Idealize.ShloMosaic.TcCoe Idealize.ShloMosaic.Tactic Idealize.SL.Sem
open Idealize.ShloMosaic.Pipeline
open Cert.KernelIdeal.Gen Cert.KernelIdeal.Run
variable (m : (ℓ : Loc nD τ sig) → Buf (Elt Ideal) ℓ) (ρ : Dev nD → PrngReg)

/-- The launch's final state, from some memory's arguments. -/
abbrev Post (r : (Unit) × MemSt nD τ sig (Elt Ideal)) : Prop :=
  Pipeline.RDat.FramePost (cfgs 0) (fun c => (datv m c).toRRel held0 (Rl m c)) (V m) r

/-- The cluster of a code and its place in the cluster. -/
def kO (J : Fin 20480) : Fin 32 := ⟨J.val / 640, by have := J.isLt; omega⟩
def nO (J : Fin 20480) : Fin 640 := ⟨J.val % 640, Nat.mod_lt _ (by decide)⟩

/-- The three estimates of a query against a code, from what the launch finds. -/
def ipM (c : Dev nD) (N : Fin 3000) (k : Fin 32) (n : Fin 640) : EReal := ipT (RT m c) (Q m c N) (C m c k) (OF m c N) (WD m c k n) (NR m c k n) (OO m c k n)
def boM (c : Dev nD) (N : Fin 3000) (k : Fin 32) (n : Fin 640) : EReal := boT (RT m c) (Q m c N) (C m c k) (WD m c k n) (NR m c k n) (OO m c k n)
def diM (c : Dev nD) (N : Fin 3000) (k : Fin 32) (n : Fin 640) : EReal := diT (RT m c) (Q m c N) (C m c k) (OF m c N) (WD m c k n) (NR m c k n) (OO m c k n)

/-- A block of columns at a point, as part of the whole. -/
theorem colG_at (f : Fin 3000 → Fin 32 → Fin 640 → EReal) (t : Fin cfg0.N) (r : Fin 200) (j : Fin 2560) (J : Fin 20480) (hJ : J.val = 2560 * (t.val % 8) + j.val) :
    colG (fun cc r n => f (rowI t r) (kk (grid0.coords t) cc) n) (ix2 r j) = f (rowI t r) (kO J) (nO J) := by
  have e : ∀ (k k' : Fin 32) (n n' : Fin 640), k = k' → n = n' → f (rowI t r) k n = f (rowI t r) k' n' := by rintro _ _ _ _ rfl rfl; rfl
  have hj := j.isLt
  refine e _ _ _ _ (Fin.ext ?_) (Fin.ext ?_)
  · show 4 * ((grid0.coords t) 1).val + j.val / 640 = J.val / 640
    rw [crd1]; omega
  · show j.val % 640 = J.val % 640
    omega

/-- The estimates' operands, in the arguments. -/
theorem V_main_v1 (c : Dev nD) (j : Fin 12) (J : Fin 20480) : (V m c main_v1 : Vec Ideal S12x20480 .i32) (ix2 j J) = (m ((c.tc : Thread nD τ).loc main_arg4) : Vec Ideal S20480x12 .i32) (ix2 J j) := by
  have e : (V m c main_v1 : Vec Ideal S12x20480 .i32) = transpose S12x20480 [1, 0] (m ((c.tc : Thread nD τ).loc main_arg4) : Vec Ideal S20480x12 .i32) transposes_S20480x12_S12x20480_1_0 := by
    show StableHlo.after hostOps0 _ (Proc.devRef .tc main_v1) = _
    after_results
    rfl
  rw [e]
  pointwise
theorem V_main_v2 (c : Dev nD) (k : Fin 32) (n : Fin 640) : (V m c main_v2 : Vec Ideal S32x640 .f32) (ix2 k n) = (m ((c.tc : Thread nD τ).loc main_arg5) : Vec Ideal S20480 .f32) (ix1 (colJ k n)) := by
  have e : (V m c main_v2 : Vec Ideal S32x640 .f32) = shapeCast S32x640 (m ((c.tc : Thread nD τ).loc main_arg5) : Vec Ideal S20480 .f32) shapeCasts_S20480_S32x640 := by
    show StableHlo.after hostOps0 _ (Proc.devRef .tc main_v2) = _
    after_results
    rfl
  rw [e]
  pointwise
  exact congrArg (m ((c.tc : Thread nD τ).loc main_arg5) : Vec Ideal S20480 .f32) (congrArg ix1 (Fin.ext (by show k.val * 640 + n.val = 640 * k.val + n.val; omega)))
theorem V_main_v3 (c : Dev nD) (k : Fin 32) (n : Fin 640) : (V m c main_v3 : Vec Ideal S32x640 .f32) (ix2 k n) = (m ((c.tc : Thread nD τ).loc main_arg6) : Vec Ideal S20480 .f32) (ix1 (colJ k n)) := by
  have e : (V m c main_v3 : Vec Ideal S32x640 .f32) = shapeCast S32x640 (m ((c.tc : Thread nD τ).loc main_arg6) : Vec Ideal S20480 .f32) shapeCasts_S20480_S32x640 := by
    show StableHlo.after hostOps0 _ (Proc.devRef .tc main_v3) = _
    after_results
    rfl
  rw [e]
  pointwise
  exact congrArg (m ((c.tc : Thread nD τ).loc main_arg6) : Vec Ideal S20480 .f32) (congrArg ix1 (Fin.ext (by show k.val * 640 + n.val = 640 * k.val + n.val; omega)))

theorem cov11 : (cfg0.win 11).Covers := by decide +kernel

/-- The steps of the quantiser. -/
theorem final11 (r) (h : Post m r) (c : Dev nD) :
    r.2.mem ((c.tc : Thread nD τ).loc main_v4_4) = (fun y => dlS (RT m c) (Q m c (y 0)) (C m c (y 1)) : Vec Ideal S3000x32 .f32) := by
  obtain ⟨after, ha, hm⟩ := Pipeline.RDat.FramePost.exists_exact h c
  refine (hm 11).trans ?_
  refine funext fun y => ?_
  refine Dat.arrAt_forall_of_covers (dat := ((datv m c).toRRel held0 (Rl m c)).withAfter after) 11
    (fun y v => (v : Elt Ideal (cfg0.win 11).elt) = (fun y => dlS (RT m c) (Q m c (y 0)) (C m c (y 1)) : Vec Ideal S3000x32 .f32) y) cov11 (fun t ht y => ?_) y
  have hl := (datv m c).toRRel_leaves (w := 11) rfl (ha 11 t ht)
  have ht' := (flush0_11 t).mp ht
  have hN : t.val < 120 := t.isLt
  have hb0 : (y 0).val < 200 := ((cfg0.win 11).xinj (cfg0.grid.coords t) y 0).isLt
  have hb1 : (y 1).val < 32 := ((cfg0.win 11).xinj (cfg0.grid.coords t) y 1).isLt
  have key := hl ⟨(y 0).val, hb0⟩ ⟨(y 1).val, hb1⟩ (by show (y 1).val / 4 ≤ t.val % 8; omega)
  have e : (win0_11.blk t).view.emb y = (ix2 (rowI t ⟨(y 0).val, hb0⟩) ⟨(y 1).val, hb1⟩ : S3000x32.Idx) := by
    blk_ext [widx11, rowI]
  refine Eq.trans ?_ ((key.trans ?_))
  · refine congrArg (after 11 t) ?_
    funext k; fin_cases k <;> rfl
  · exact (congrArg (fun z : S3000x32.Idx => dlS (RT m c) (Q m c (z 0)) (C m c (z 1))) e).symm

theorem cov12 : (cfg0.win 12).Covers := by decide +kernel

/-- The least coordinates. -/
theorem final12 (r) (h : Post m r) (c : Dev nD) :
    r.2.mem ((c.tc : Thread nD τ).loc main_v4_5) = (fun y => vlS (RT m c) (Q m c (y 0)) (C m c (y 1)) : Vec Ideal S3000x32 .f32) := by
  obtain ⟨after, ha, hm⟩ := Pipeline.RDat.FramePost.exists_exact h c
  refine (hm 12).trans ?_
  refine funext fun y => ?_
  refine Dat.arrAt_forall_of_covers (dat := ((datv m c).toRRel held0 (Rl m c)).withAfter after) 12
    (fun y v => (v : Elt Ideal (cfg0.win 12).elt) = (fun y => vlS (RT m c) (Q m c (y 0)) (C m c (y 1)) : Vec Ideal S3000x32 .f32) y) cov12 (fun t ht y => ?_) y
  have hl := (datv m c).toRRel_leaves (w := 12) rfl (ha 12 t ht)
  have ht' := (flush0_12 t).mp ht
  have hN : t.val < 120 := t.isLt
  have hb0 : (y 0).val < 200 := ((cfg0.win 12).xinj (cfg0.grid.coords t) y 0).isLt
  have hb1 : (y 1).val < 32 := ((cfg0.win 12).xinj (cfg0.grid.coords t) y 1).isLt
  have key := hl ⟨(y 0).val, hb0⟩ ⟨(y 1).val, hb1⟩ (by show (y 1).val / 4 ≤ t.val % 8; omega)
  have e : (win0_12.blk t).view.emb y = (ix2 (rowI t ⟨(y 0).val, hb0⟩) ⟨(y 1).val, hb1⟩ : S3000x32.Idx) := by
    blk_ext [widx12, rowI]
  refine Eq.trans ?_ ((key.trans ?_))
  · refine congrArg (after 12 t) ?_
    funext k; fin_cases k <;> rfl
  · exact (congrArg (fun z : S3000x32.Idx => vlS (RT m c) (Q m c (z 0)) (C m c (z 1))) e).symm

theorem cov7 : (cfg0.win 7).Covers := by decide +kernel

/-- The estimated squared distances. -/
theorem final7 (r) (h : Post m r) (c : Dev nD) :
    r.2.mem ((c.tc : Thread nD τ).loc main_v4_0) = (fun y => diM m c (y 0) (kO (y 1)) (nO (y 1)) : Vec Ideal S3000x20480 .f32) := by
  obtain ⟨after, ha, hm⟩ := Pipeline.RDat.FramePost.exists_exact h c
  refine (hm 7).trans ?_
  refine funext fun y => ?_
  refine Dat.arrAt_forall_of_covers (dat := ((datv m c).toRRel held0 (Rl m c)).withAfter after) 7
    (fun y v => (v : Elt Ideal (cfg0.win 7).elt) = (fun y => diM m c (y 0) (kO (y 1)) (nO (y 1)) : Vec Ideal S3000x20480 .f32) y) cov7 (fun t ht y => ?_) y
  have hl := (datv m c).toRRel_leaves (w := 7) rfl (ha 7 t ht)
  have ht' := flush0_7 t
  have hN : t.val < 120 := t.isLt
  have hb0 : (y 0).val < 200 := ((cfg0.win 7).xinj (cfg0.grid.coords t) y 0).isLt
  have hb1 : (y 1).val < 2560 := ((cfg0.win 7).xinj (cfg0.grid.coords t) y 1).isLt
  have key := (congrFun hl (ix2 ⟨(y 0).val, hb0⟩ ⟨(y 1).val, hb1⟩)).trans (colG_at (diM m c) t ⟨(y 0).val, hb0⟩ ⟨(y 1).val, hb1⟩ ⟨2560 * (t.val % 8) + (y 1).val, by omega⟩ rfl)
  have e : (win0_7.blk t).view.emb y = (ix2 (rowI t ⟨(y 0).val, hb0⟩) ⟨2560 * (t.val % 8) + (y 1).val, by omega⟩ : S3000x20480.Idx) := by
    blk_ext [widx7, rowI]
  refine Eq.trans ?_ ((key.trans ?_))
  · refine congrArg (after 7 t) ?_
    funext k; fin_cases k <;> rfl
  · exact (congrArg (fun z : S3000x20480.Idx => diM m c (z 0) (kO (z 1)) (nO (z 1))) e).symm

theorem cov8 : (cfg0.win 8).Covers := by decide +kernel

/-- The error bounds. -/
theorem final8 (r) (h : Post m r) (c : Dev nD) :
    r.2.mem ((c.tc : Thread nD τ).loc main_v4_1) = (fun y => boM m c (y 0) (kO (y 1)) (nO (y 1)) : Vec Ideal S3000x20480 .f32) := by
  obtain ⟨after, ha, hm⟩ := Pipeline.RDat.FramePost.exists_exact h c
  refine (hm 8).trans ?_
  refine funext fun y => ?_
  refine Dat.arrAt_forall_of_covers (dat := ((datv m c).toRRel held0 (Rl m c)).withAfter after) 8
    (fun y v => (v : Elt Ideal (cfg0.win 8).elt) = (fun y => boM m c (y 0) (kO (y 1)) (nO (y 1)) : Vec Ideal S3000x20480 .f32) y) cov8 (fun t ht y => ?_) y
  have hl := (datv m c).toRRel_leaves (w := 8) rfl (ha 8 t ht)
  have ht' := flush0_8 t
  have hN : t.val < 120 := t.isLt
  have hb0 : (y 0).val < 200 := ((cfg0.win 8).xinj (cfg0.grid.coords t) y 0).isLt
  have hb1 : (y 1).val < 2560 := ((cfg0.win 8).xinj (cfg0.grid.coords t) y 1).isLt
  have key := (congrFun hl (ix2 ⟨(y 0).val, hb0⟩ ⟨(y 1).val, hb1⟩)).trans (colG_at (boM m c) t ⟨(y 0).val, hb0⟩ ⟨(y 1).val, hb1⟩ ⟨2560 * (t.val % 8) + (y 1).val, by omega⟩ rfl)
  have e : (win0_8.blk t).view.emb y = (ix2 (rowI t ⟨(y 0).val, hb0⟩) ⟨2560 * (t.val % 8) + (y 1).val, by omega⟩ : S3000x20480.Idx) := by
    blk_ext [widx8, rowI]
  refine Eq.trans ?_ ((key.trans ?_))
  · refine congrArg (after 8 t) ?_
    funext k; fin_cases k <;> rfl
  · exact (congrArg (fun z : S3000x20480.Idx => boM m c (z 0) (kO (z 1)) (nO (z 1))) e).symm

theorem cov9 : (cfg0.win 9).Covers := by decide +kernel

/-- The estimated inner products. -/
theorem final9 (r) (h : Post m r) (c : Dev nD) :
    r.2.mem ((c.tc : Thread nD τ).loc main_v4_2) = (fun y => ipM m c (y 0) (kO (y 1)) (nO (y 1)) : Vec Ideal S3000x20480 .f32) := by
  obtain ⟨after, ha, hm⟩ := Pipeline.RDat.FramePost.exists_exact h c
  refine (hm 9).trans ?_
  refine funext fun y => ?_
  refine Dat.arrAt_forall_of_covers (dat := ((datv m c).toRRel held0 (Rl m c)).withAfter after) 9
    (fun y v => (v : Elt Ideal (cfg0.win 9).elt) = (fun y => ipM m c (y 0) (kO (y 1)) (nO (y 1)) : Vec Ideal S3000x20480 .f32) y) cov9 (fun t ht y => ?_) y
  have hl := (datv m c).toRRel_leaves (w := 9) rfl (ha 9 t ht)
  have ht' := flush0_9 t
  have hN : t.val < 120 := t.isLt
  have hb0 : (y 0).val < 200 := ((cfg0.win 9).xinj (cfg0.grid.coords t) y 0).isLt
  have hb1 : (y 1).val < 2560 := ((cfg0.win 9).xinj (cfg0.grid.coords t) y 1).isLt
  have key := (congrFun hl (ix2 ⟨(y 0).val, hb0⟩ ⟨(y 1).val, hb1⟩)).trans (colG_at (ipM m c) t ⟨(y 0).val, hb0⟩ ⟨(y 1).val, hb1⟩ ⟨2560 * (t.val % 8) + (y 1).val, by omega⟩ rfl)
  have e : (win0_9.blk t).view.emb y = (ix2 (rowI t ⟨(y 0).val, hb0⟩) ⟨2560 * (t.val % 8) + (y 1).val, by omega⟩ : S3000x20480.Idx) := by
    blk_ext [widx9, rowI]
  refine Eq.trans ?_ ((key.trans ?_))
  · refine congrArg (after 9 t) ?_
    funext k; fin_cases k <;> rfl
  · exact (congrArg (fun z : S3000x20480.Idx => ipM m c (z 0) (kO (z 1)) (nO (z 1))) e).symm
end Cert.KernelIdeal.Val
end
-- ==== Proof.ValAlg.lean ====
/- Arithmetic of finite extended reals: sums, least and greatest members, and the quotient by a positive norm. -/
module
public import Idealize.ShloMosaic.Lib.IdealHost
public import Mathlib.Data.EReal.Operations
public import Mathlib.Data.EReal.Inv
@[expose] public section
noncomputable section
namespace Cert.Val
open Idealize.ShloMosaic

/-- A sum of finite values is finite. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem div_coe (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

theorem div_eq_mul (x : EReal) (b : ℝ) (hb : b ≠ 0) : Ideal.div x (b : EReal) = x * ((1 / b : ℝ) : EReal) := by
  unfold Ideal.div
  rw [if_neg (by simpa using hb), ← EReal.coe_inv, one_div]

theorem sqrt_coe (a : ℝ) (ha : 0 ≤ a) : Ideal.sqrt (a : EReal) = ((Real.sqrt a : ℝ) : EReal) := by
  show (if a < 0 then (⊥ : EReal) else (Real.sqrt a : EReal)) = _
  rw [if_neg (not_lt.2 ha)]

/-- The least of finitely many finite values is finite. -/
theorem fold_min_coe {ι : Type} [Fintype ι] [Nonempty ι] (f : ι → ℝ) :
    ∃ r : ℝ, Finset.fold min (⊤ : EReal) (fun i => (f i : EReal)) Finset.univ = (r : EReal) ∧ (∀ i, r ≤ f i) ∧ ∃ i, f i = r := by
  obtain ⟨i, -, hi⟩ := Finset.exists_min_image Finset.univ f Finset.univ_nonempty
  refine ⟨f i, le_antisymm ?_ ?_, fun j => hi j (Finset.mem_univ j), i, rfl⟩
  · exact Finset.fold_min_le _ |>.2 (Or.inr ⟨i, Finset.mem_univ i, le_rfl⟩)
  · exact Finset.le_fold_min _ |>.2 ⟨le_top, fun j hj => EReal.coe_le_coe_iff.2 (hi j hj)⟩

/-- The greatest of finitely many finite values is finite. -/
theorem fold_max_coe {ι : Type} [Fintype ι] [Nonempty ι] (f : ι → ℝ) :
    ∃ r : ℝ, Finset.fold max (⊥ : EReal) (fun i => (f i : EReal)) Finset.univ = (r : EReal) ∧ (∀ i, f i ≤ r) ∧ ∃ i, f i = r := by
  obtain ⟨i, -, hi⟩ := Finset.exists_max_image Finset.univ f Finset.univ_nonempty
  refine ⟨f i, le_antisymm ?_ ?_, fun j => hi j (Finset.mem_univ j), i, rfl⟩
  · exact Finset.fold_max_le _ |>.2 ⟨bot_le, fun j hj => EReal.coe_le_coe_iff.2 (hi j hj)⟩
  · exact Finset.le_fold_max _ |>.2 (Or.inr ⟨i, Finset.mem_univ i, le_rfl⟩)

theorem ofBits_inf : Ideal.ofBits FTy.f32 2139095040#32 = ⊤ := by simp [Ideal.ofBits, Ideal.ieee]
theorem ofBits_neg_inf : Ideal.ofBits FTy.f32 4286578688#32 = ⊥ := by simp [Ideal.ofBits, Ideal.ieee]
theorem ofBits_fifteen : Ideal.ofBits FTy.f32 0x41700000#32 = ((15 : ℝ) : EReal) := by
  simp [Ideal.ofBits, Ideal.ieee]
  rw [← EReal.coe_mul]; norm_num
theorem ofBits_two : Ideal.ofBits FTy.f32 0x40000000#32 = ((2 : ℝ) : EReal) := by
  simp [Ideal.ofBits, Ideal.ieee]
  rw [← EReal.coe_mul]; norm_num

/-- Every value finite, and the squared distance of `p` and `q` positive: the query, the centroid and the rotation
    as real numbers. -/
theorem lift1 {ι : Type} (v : ι → EReal) (h : ∀ i, v i ≠ ⊤ ∧ v i ≠ ⊥) : ∃ f : ι → ℝ, v = fun i => (f i : EReal) :=
  ⟨fun i => (v i).toReal, funext fun i => (EReal.coe_toReal (h i).1 (h i).2).symm⟩

end Cert.Val
end
-- ==== Proof.ValReal.lean ====
/- A query against a centroid when every value is finite and they differ: the formulas of the kernel and those of the
   reference name the same real numbers. -/
module
public import proofs.«01_k».proof.Proof.ValPoint
public import proofs.«01_k».proof.Proof.ValAlg
@[expose] public section
noncomputable section
namespace Cert.KernelIdeal.Val
open Idealize.ShloMosaic Idealize.ShloMosaic.TcCoe Idealize.ShloMosaic.Tactic
open Cert.KernelIdeal.Gen Cert.Val

/-- The coordinate the reference computes: the normalised difference, rotated. -/
def zS (R : Vec Ideal S384x384 .f32) (p q : Fin 384 → EReal) (d : Fin 384) : EReal :=
  ∑ e, Ideal.div (p e - q e) (nS p q) * R (ix2 e d)

/-- What is known of a query and a centroid: the norm `s`, the coordinates `z` of the rotated normalised difference, and
    their least and greatest. -/
structure Reals (R : Vec Ideal S384x384 .f32) (p q : Fin 384 → EReal) (s vl vr : ℝ) (z : Fin 384 → ℝ) : Prop where
  pos : 0 < s
  norm : nS p q = (s : EReal)
  diff : ∀ d, dS R p q d = ((z d * s : ℝ) : EReal)
  coord : ∀ d, zS R p q d = (z d : EReal)
  least : vlS R p q = (vl : EReal)
  greatest : vrS R p q = (vr : EReal)
  refLeast : Finset.fold min (⊤ : EReal) (zS R p q) Finset.univ = (vl : EReal)
  refGreatest : Finset.fold max (⊥ : EReal) (zS R p q) Finset.univ = (vr : EReal)
  low : ∀ d, vl ≤ z d
  high : ∀ d, z d ≤ vr
  attained : ∃ d, z d = vl

theorem cancel (a s : ℝ) (h : s ≠ 0) : a * s * (1 / s) = a := by field_simp

theorem reals (R : Vec Ideal S384x384 .f32) (p q : Fin 384 → EReal) (hR : ∀ i, R i ≠ ⊤ ∧ R i ≠ ⊥)
    (hp : ∀ i, p i ≠ ⊤ ∧ p i ≠ ⊥) (hq : ∀ i, q i ≠ ⊤ ∧ q i ≠ ⊥) (hpos : 0 < ∑ d, (p d - q d) * (p d - q d)) :
    ∃ s vl vr z, Reals R p q s vl vr z := by
  obtain ⟨R, rfl⟩ := lift1 R hR
  obtain ⟨p, rfl⟩ := lift1 p hp
  obtain ⟨q, rfl⟩ := lift1 q hq
  have hn : (∑ d, ((p d : EReal) - (q d : EReal)) * ((p d : EReal) - (q d : EReal))) = ((∑ d, (p d - q d) * (p d - q d) : ℝ) : EReal) := by
    rw [← sum_coe]; exact Finset.sum_congr rfl fun d _ => by rw [← EReal.coe_sub, ← EReal.coe_mul]
  rw [hn, ← EReal.coe_zero, EReal.coe_lt_coe_iff] at hpos
  obtain ⟨s, hs⟩ : ∃ s, s = Real.sqrt (∑ d, (p d - q d) * (p d - q d)) := ⟨_, rfl⟩
  have hs0 : 0 < s := by rw [hs]; exact Real.sqrt_pos.2 hpos
  have hnorm : nS (fun d => (p d : EReal)) (fun d => (q d : EReal)) = (s : EReal) := by
    unfold nS; rw [hn, sqrt_coe _ hpos.le, hs]
  obtain ⟨z, hz⟩ : ∃ z : Fin 384 → ℝ, z = fun d => ∑ e, (p e - q e) / s * R (ix2 e d) := ⟨_, rfl⟩
  have hzS : ∀ d, zS (fun i => (R i : EReal)) (fun d => (p d : EReal)) (fun d => (q d : EReal)) d = (z d : EReal) := fun d => by
    unfold zS; rw [hnorm, hz, ← sum_coe]
    exact Finset.sum_congr rfl fun e _ => by rw [← EReal.coe_sub, div_coe _ _ hs0.ne', ← EReal.coe_mul]
  have hrot : ∀ (v : Fin 384 → ℝ) d, rotS (fun i => (R i : EReal)) (fun d => (v d : EReal)) d = ((∑ e, v e * R (ix2 e d) : ℝ) : EReal) := fun v d => by
    unfold rotS; rw [← sum_coe]; exact Finset.sum_congr rfl fun e _ => by rw [← EReal.coe_mul]
  have hd : ∀ d, dS (fun i => (R i : EReal)) (fun d => (p d : EReal)) (fun d => (q d : EReal)) d = ((z d * s : ℝ) : EReal) := fun d => by
    unfold dS; rw [hrot, hrot, ← EReal.coe_sub, hz, EReal.coe_eq_coe_iff, ← Finset.sum_sub_distrib, Finset.sum_mul]
    exact Finset.sum_congr rfl fun e _ => by field_simp
  obtain ⟨vl, h1, h2, h3⟩ := fold_min_coe z
  obtain ⟨vr, h4, h5, h6⟩ := fold_max_coe z
  obtain ⟨wl, g1, g2, g3⟩ := fold_min_coe (fun d => z d * s)
  obtain ⟨wr, g4, g5, g6⟩ := fold_max_coe (fun d => z d * s)
  have hwl : wl = vl * s := by
    obtain ⟨i, hi⟩ := h3; obtain ⟨j, hj⟩ := g3
    refine le_antisymm (hi ▸ g2 i) ?_
    rw [← hj]; exact mul_le_mul_of_nonneg_right (h2 j) hs0.le
  have hwr : wr = vr * s := by
    obtain ⟨i, hi⟩ := h6; obtain ⟨j, hj⟩ := g6
    refine le_antisymm ?_ (hi ▸ g5 i)
    rw [← hj]; exact mul_le_mul_of_nonneg_right (h5 j) hs0.le
  refine ⟨s, vl, vr, z, hs0, hnorm, hd, hzS, ?_, ?_, ?_, ?_, h2, h5, h3⟩
  · unfold vlS
    rw [ofBits_inf, funext hd, g1, hnorm, div_eq_mul _ _ hs0.ne', one_mul, ← EReal.coe_mul, hwl]; exact congrArg Real.toEReal (cancel _ _ hs0.ne')
  · unfold vrS
    rw [ofBits_neg_inf, funext hd, g4, hnorm, div_eq_mul _ _ hs0.ne', one_mul, ← EReal.coe_mul, hwr]; exact congrArg Real.toEReal (cancel _ _ hs0.ne')
  · rw [funext hzS, h1]
  · rw [funext hzS, h4]

theorem inv15_eq : (Named.named κ "inv15" 1032358025#32 : Ideal .f32) = ((1 / 15 : ℝ) : EReal) :=
  IdealRules.named_const.ideal_named_scalar _ _ _ _ rfl

/-- The step, as the reference computes it. -/
theorem Reals.delta {R p q s vl vr z} (h : Reals R p q s vl vr z) : dlS R p q = (((vr - vl) / 15 : ℝ) : EReal) := by
  unfold dlS; rw [h.least, h.greatest, inv15_eq, ← EReal.coe_sub, ← EReal.coe_mul]; congr 1; ring
end Cert.KernelIdeal.Val
end
-- ==== Proof.ValRef.lean ====
/- The reference's stages at an index, over the extended reals. -/
module
public import proofs.«01_k».proof.Proof.Gen.ReferenceIdeal.Read
public import Idealize.ShloMosaic.Lib.Pointwise
@[expose] public section
noncomputable section
namespace Cert.ReferenceIdeal.Val
open Idealize.ShloMosaic Idealize.ShloMosaic.TcCoe Idealize.ShloMosaic.Tactic
open Cert.ReferenceIdeal Cert.ReferenceIdeal.Gen Cert.ReferenceIdeal.Read

variable (x0 : Vec Ideal S3000x384 .f32) (x1 : Vec Ideal S32x384 .f32) (x2 : Vec Ideal S384x384 .f32)

/-- The distance of a query to a centroid. -/
theorem ref_norm (i : S3000x32.Idx) : val_main_v9 (F := Ideal) x0 x1 i =
    Ideal.sqrt (∑ e, (x0 (ix2 (i 0) e) - x1 (ix2 (i 1) e)) * (x0 (ix2 (i 0) e) - x1 (ix2 (i 1) e))) := by
  simp only [val_main_v9, val_main_v8, val_main_v7, val_main_v6, val_main_v5, val_main_v4, val_main_v3, val_main_v2, val_main_cst_1]
  pointwise

/-- One coordinate of the rotated, normalised difference. -/
theorem ref_rot (i : S3000x32x384.Idx) : val_main_v13 (F := Ideal) x0 x1 x2 i =
    ∑ e, Ideal.div (x0 (ix2 (i 0) e) - x1 (ix2 (i 1) e)) (val_main_v9 (F := Ideal) x0 x1 (ix2 (i 0) (i 1))) * x2 (ix2 e (i 2)) := by
  simp only [val_main_v13, val_main_v12, val_main_v11, val_main_v10, val_main_v6, val_main_v5, val_main_v4, val_main_v3, val_main_v2]
  pointwise

/-- The least coordinate. -/
theorem ref_vl (i : S3000x32.Idx) : val_main_v14 (F := Ideal) x0 x1 x2 i =
    Finset.fold min (Ideal.ofBits FTy.f32 2139095040#32) (fun d => val_main_v13 (F := Ideal) x0 x1 x2 (ix3 (i 0) (i 1) d)) Finset.univ := by
  unfold val_main_v14 val_main_cst_2
  generalize val_main_v13 (F := Ideal) x0 x1 x2 = v
  pointwise

/-- The greatest coordinate. -/
theorem ref_vr (i : S3000x32.Idx) : val_main_v15 (F := Ideal) x0 x1 x2 i =
    Finset.fold max (Ideal.ofBits FTy.f32 4286578688#32) (fun d => val_main_v13 (F := Ideal) x0 x1 x2 (ix3 (i 0) (i 1) d)) Finset.univ := by
  unfold val_main_v15 val_main_cst_3
  generalize val_main_v13 (F := Ideal) x0 x1 x2 = v
  pointwise

theorem dl_gen (v w : Vec Ideal S3000x32 .f32) (i : S3000x32.Idx) :
    (Host.divf (F := Ideal) (φ := .f32) (subf (F := Ideal) (φ := .f32) v w) (val_main_v17 (F := Ideal)) : Vec Ideal S3000x32 .f32) i = Ideal.div (v i - w i) (Ideal.ofBits FTy.f32 0x41700000#32) := by
  unfold val_main_v17 val_main_cst_4
  pointwise

/-- The step of the quantiser. -/
theorem ref_dl (i : S3000x32.Idx) : val_main_v18 (F := Ideal) x0 x1 x2 i =
    Ideal.div (val_main_v15 (F := Ideal) x0 x1 x2 i - val_main_v14 (F := Ideal) x0 x1 x2 i) (Ideal.ofBits FTy.f32 0x41700000#32) :=
  dl_gen _ _ i
end Cert.ReferenceIdeal.Val
end
-- ==== Proof.ValPre.lean ====
/- What the precondition says of the arguments. -/
module
public import proofs.«01_k».proof.Pre_well_posed
public import proofs.«01_k».proof.Proof.ValAlg
public import Idealize.ShloMosaic.Lib.Pointwise
@[expose] public section
noncomputable section
namespace Cert.Pre_well_posed
open Idealize.ShloMosaic Idealize.ShloMosaic.TcCoe Idealize.ShloMosaic.Tactic Cert.Val
variable [Facts] (a0 : Vec Ideal S3000x384 .f32) (a1 : Vec Ideal S32x384 .f32) (a2 : Vec Ideal S384x384 .f32) (a3 : Vec Ideal S3000x384 .f32) (a4 : IVec S20480x12 32) (a5 a6 : Vec Ideal S20480 .f32)

theorem bool_one (p : Prop) [Decidable p] (h : BitVec.ofBool (decide p) = 1#1) : p := by
  by_contra hp
  rw [decide_eq_false hp] at h
  exact absurd h (by decide)

/-- A value whose magnitude is below infinity is finite. -/
theorem fin_of (x : EReal) (h : BitVec.ofBool (decide ((FloatOps.absf (F := Ideal) (φ := .f32) x : EReal) < Ideal.ofBits FTy.f32 2139095040#32)) = 1#1) : x ≠ ⊤ ∧ x ≠ ⊥ := by
  have h := bool_one _ h
  rw [ofBits_inf] at h
  constructor <;> rintro rfl
  · exact absurd h (by simp [Ideal.absf_def])
  · exact absurd h (by simp [Ideal.absf_def])

/-- The conditions, as facts of the arrays' elements. -/
structure Holds : Prop where
  x : ∀ i, a0 i ≠ ⊤ ∧ a0 i ≠ ⊥
  cent : ∀ i, a1 i ≠ ⊤ ∧ a1 i ≠ ⊥
  rot : ∀ i, a2 i ≠ ⊤ ∧ a2 i ≠ ⊥
  norm : ∀ n k, 0 < ∑ e, (a0 (ix2 n e) - a1 (ix2 k e)) * (a0 (ix2 n e) - a1 (ix2 k e))
  off : ∀ i, a3 i < 1
  oo : ∀ i, a6 i ≠ 0

theorem holds (h : (fn (F := Ideal) a0 a1 a2 a3 a4 a5 a6).1 = (fun _ => 1#1)
    ∧ (fn (F := Ideal) a0 a1 a2 a3 a4 a5 a6).2.1 = (fun _ => 1#1)
    ∧ (fn (F := Ideal) a0 a1 a2 a3 a4 a5 a6).2.2.1 = (fun _ => 1#1)
    ∧ (fn (F := Ideal) a0 a1 a2 a3 a4 a5 a6).2.2.2.1 = (fun _ => 1#1)
    ∧ (fn (F := Ideal) a0 a1 a2 a3 a4 a5 a6).2.2.2.2.1 = (fun _ => 1#1)
    ∧ (fn (F := Ideal) a0 a1 a2 a3 a4 a5 a6).2.2.2.2.2 = (fun _ => 1#1)) : Holds a0 a1 a2 a3 a6 := by
  obtain ⟨h1, h2, h3, h4, h5, h6⟩ := h
  refine ⟨fun i => fin_of _ ?_, fun i => fin_of _ ?_, fun i => fin_of _ ?_, fun n k => bool_one _ ?_, fun i => bool_one _ ?_, fun i => bool_one _ ?_⟩
  · rw [← congrFun h1 i]; symm; dsimp only [fn, fn_part1]; pointwise
  · rw [← congrFun h2 i]; symm; dsimp only [fn, fn_part1]; pointwise
  · rw [← congrFun h3 i]; symm; dsimp only [fn, fn_part1]; pointwise
  · rw [← congrFun h4 (ix2 n k)]; symm; dsimp only [fn, fn_part1]; pointwise
  · rw [← congrFun h5 i]; symm; dsimp only [fn, fn_part1]; pointwise
  · rw [← congrFun h6 i]; symm; dsimp only [fn, fn_part1]; pointwise
end Cert.Pre_well_posed
end
-- ==== Proof.ValAgree.lean ====
/- The kernel's formulas and the reference's stages agree where the arguments are well posed. -/
module
public import proofs.«01_k».proof.Proof.ValReal
public import proofs.«01_k».proof.Proof.ValRef
public import proofs.«01_k».proof.Proof.ValPre
@[expose] public section
noncomputable section
namespace Cert.KernelIdeal.Val
open Idealize.ShloMosaic Idealize.ShloMosaic.TcCoe Idealize.ShloMosaic.Tactic
open Cert.Val Cert.ReferenceIdeal.Read Cert.ReferenceIdeal.Val

variable {x0 : Vec Ideal S3000x384 .f32} {x1 : Vec Ideal S32x384 .f32} {x2 : Vec Ideal S384x384 .f32} {x3 : Vec Ideal S3000x384 .f32} {x6 : Vec Ideal S20480 .f32}

/-- Row `n` of the queries; row `k` of the centroids. -/
abbrev rowQ (x0 : Vec Ideal S3000x384 .f32) (n : Fin 3000) : Fin 384 → EReal := fun d => x0 (ix2 n d)
abbrev rowC (x1 : Vec Ideal S32x384 .f32) (k : Fin 32) : Fin 384 → EReal := fun d => x1 (ix2 k d)

theorem ref_reals (h : Cert.Pre_well_posed.Holds x0 x1 x2 x3 x6) (n : Fin 3000) (k : Fin 32) :
    ∃ s vl vr z, Reals x2 (rowQ x0 n) (rowC x1 k) s vl vr z :=
  reals _ _ _ h.rot (fun i => h.x (ix2 n i)) (fun i => h.cent (ix2 k i)) (h.norm n k)

theorem ref_norm_eq (n : Fin 3000) (k : Fin 32) : val_main_v9 (F := Ideal) x0 x1 (ix2 n k) = nS (rowQ x0 n) (rowC x1 k) :=
  ref_norm x0 x1 (ix2 n k)

theorem ref_rot_eq (n : Fin 3000) (k : Fin 32) (d : Fin 384) : val_main_v13 (F := Ideal) x0 x1 x2 (ix3 n k d) = zS x2 (rowQ x0 n) (rowC x1 k) d := by
  rw [ref_rot]; unfold zS; rw [← ref_norm_eq]; rfl

theorem ref_vl_eq {n : Fin 3000} {k : Fin 32} {s vl vr z} (R : Reals x2 (rowQ x0 n) (rowC x1 k) s vl vr z) :
    val_main_v14 (F := Ideal) x0 x1 x2 (ix2 n k) = (vl : EReal) := by
  rw [ref_vl, ofBits_inf, ← R.refLeast]
  exact congrArg (fun f => Finset.fold min (⊤ : EReal) f Finset.univ) (funext fun d => ref_rot_eq n k d)

theorem ref_vr_eq {n : Fin 3000} {k : Fin 32} {s vl vr z} (R : Reals x2 (rowQ x0 n) (rowC x1 k) s vl vr z) :
    val_main_v15 (F := Ideal) x0 x1 x2 (ix2 n k) = (vr : EReal) := by
  rw [ref_vr, ofBits_neg_inf, ← R.refGreatest]
  exact congrArg (fun f => Finset.fold max (⊥ : EReal) f Finset.univ) (funext fun d => ref_rot_eq n k d)

theorem ref_dl_eq {n : Fin 3000} {k : Fin 32} {s vl vr z} (R : Reals x2 (rowQ x0 n) (rowC x1 k) s vl vr z) :
    val_main_v18 (F := Ideal) x0 x1 x2 (ix2 n k) = (((vr - vl) / 15 : ℝ) : EReal) := by
  rw [ref_dl, ref_vr_eq R, ref_vl_eq R, ofBits_fifteen, ← EReal.coe_sub, div_coe _ _ (by norm_num)]

/-- The least coordinates agree. -/
theorem vl_agree (h : Cert.Pre_well_posed.Holds x0 x1 x2 x3 x6) :
    (fun y => vlS x2 (rowQ x0 (y 0)) (rowC x1 (y 1)) : Vec Ideal S3000x32 .f32) = val_main_v14 (F := Ideal) x0 x1 x2 := by
  funext y
  obtain ⟨n, k, rfl⟩ : ∃ (n : Fin 3000) (k : Fin 32), y = ix2 n k := ⟨y 0, y 1, by funext i; fin_cases i <;> rfl⟩
  obtain ⟨s, vl, vr, z, R⟩ := ref_reals h n k
  exact R.least.trans (ref_vl_eq R).symm

/-- The steps agree. -/
theorem dl_agree (h : Cert.Pre_well_posed.Holds x0 x1 x2 x3 x6) :
    (fun y => dlS x2 (rowQ x0 (y 0)) (rowC x1 (y 1)) : Vec Ideal S3000x32 .f32) = val_main_v18 (F := Ideal) x0 x1 x2 := by
  funext y
  obtain ⟨n, k, rfl⟩ : ∃ (n : Fin 3000) (k : Fin 32), y = ix2 n k := ⟨y 0, y 1, by funext i; fin_cases i <;> rfl⟩
  obtain ⟨s, vl, vr, z, R⟩ := ref_reals h n k
  exact R.delta.trans (ref_dl_eq R).symm
end Cert.KernelIdeal.Val
end
-- ==== Proof.ValInt.lean ====
/- Integer facts the estimates rest on: bits and their signs, sums of words that do not overflow, and levels as integers. -/
module
public import proofs.«01_k».proof.Proof.ValAlg
public import proofs.«01_k».proof.Proof.ValPrepB
@[expose] public section
noncomputable section
namespace Cert.Val
open Idealize.ShloMosaic Idealize.ShloMosaic.TcCoe

/-- A sum of words whose values sum below the range is the word of the sum. -/
theorem fold_addi {ι : Type} [DecidableEq ι] (s : Finset ι) (f : ι → BitVec 32) :
    Finset.fold IntOp.addi (0#32) f s = BitVec.ofNat 32 (∑ i ∈ s, (f i).toNat) := by
  induction s using Finset.induction_on with
  | empty => rfl
  | insert a s ha ih =>
    rw [Finset.fold_insert ha, Finset.sum_insert ha, ih]
    apply BitVec.eq_of_toNat_eq
    show (f a + BitVec.ofNat 32 _).toNat = _
    simp [BitVec.toNat_add]

theorem toInt_ofNat (n : ℕ) (h : n < 2 ^ 31) : (BitVec.ofNat 32 n).toInt = n := by
  rw [BitVec.toInt_eq_toNat_cond, BitVec.toNat_ofNat, Nat.mod_eq_of_lt (by omega), if_pos (by omega)]

theorem ctpop_le (x : BitVec 32) : (IntOp.ctpop x).toNat ≤ 32 := by
  unfold IntOp.ctpop
  rw [BitVec.toNat_ofNat]
  exact le_trans (Nat.mod_le _ _) ((List.length_filter_le _ _).trans (by simp))

/-- The values of a fold of small words. -/
theorem sitofp_fold {n : ℕ} (f : Fin n → BitVec 32) (B : ℕ) (hB : ∀ i, (f i).toNat ≤ B) (hn : n * B < 2 ^ 31) :
    (FloatOps.sitofp (F := Ideal) FTy.f32 (Finset.fold IntOp.addi (0#32) f Finset.univ) : EReal) = ((∑ i, ((f i).toNat : ℝ) : ℝ) : EReal) := by
  show (((Finset.fold IntOp.addi (0#32) f Finset.univ).toInt : ℝ) : EReal) = _
  have h : ∑ i, (f i).toNat < 2 ^ 31 := lt_of_le_of_lt ((Finset.sum_le_sum fun i _ => hB i).trans (by simp)) hn
  rw [fold_addi, toInt_ofNat _ h]
  push_cast
  rfl

theorem sitofp_small (x : BitVec 32) (h : x.toNat < 2 ^ 31) : (FloatOps.sitofp (F := Ideal) FTy.f32 x : EReal) = ((x.toNat : ℝ) : EReal) := by
  show ((x.toInt : ℝ) : EReal) = _
  rw [BitVec.toInt_eq_toNat_cond, if_pos (by omega)]; norm_cast

/-- A small integer, converted to a word. -/
theorem fptosi_nat (c : ℕ) (h : c ≤ 15) : FloatOps.fptosi (F := Ideal) (φ := .f32) 32 (((c : ℝ) : EReal) : Ideal .f32) = BitVec.ofNat 32 c := by
  show BitVec.ofInt 32 (max (-(2 ^ 31 : ℕ)) (min ((2 ^ 31 : ℕ) - 1) (if 0 ≤ (c : ℝ) then ⌊(c : ℝ)⌋ else ⌈(c : ℝ)⌉))) = _
  rw [if_pos (Nat.cast_nonneg c), Int.floor_natCast]
  rw [min_eq_right (by push_cast; omega), max_eq_right (by push_cast; omega)]
  rfl

/-- A clipped floor is an integer from zero to fifteen. -/
theorem level_nat (x : EReal) : ∃ c : ℕ, c ≤ 15 ∧ min (Ideal.ofBits FTy.f32 1097859072#32) (max 0 (Ideal.liftRound Int.floor x)) = ((c : ℝ) : EReal) := by
  rw [show Ideal.ofBits FTy.f32 1097859072#32 = ((15 : ℝ) : EReal) from ofBits_fifteen]
  induction x with
  | bot => exact ⟨0, by norm_num, by show min _ (max 0 ⊥) = _; simp⟩
  | top => exact ⟨15, le_refl _, by show min _ (max 0 ⊤) = _; simp⟩
  | coe r =>
    refine ⟨(min 15 (max 0 ⌊r⌋)).toNat, by omega, ?_⟩
    show min ((15 : ℝ) : EReal) (max 0 (((⌊r⌋ : ℝ)) : EReal)) = _
    rw [← EReal.coe_zero, ← Monotone.map_max EReal.coe_strictMono.monotone, ← Monotone.map_min EReal.coe_strictMono.monotone]
    congr 1
    have : (((min 15 (max 0 ⌊r⌋)).toNat : ℤ) : ℝ) = ((min 15 (max 0 ⌊r⌋) : ℤ) : ℝ) := by
      congr 1; exact Int.toNat_of_nonneg (by omega)
    push_cast at this
    rw [← this]

/-- A bit of a word. -/
def bitN (a : BitVec 32) (t : ℕ) : ℕ := (a.getLsbD t).toNat

theorem shrui_bit (a : BitVec 32) (t : ℕ) (ht : t < 32) :
    IntOp.andi (IntOp.shrui ArithUnit.host a (BitVec.ofNat 32 t)) 1#32 = BitVec.ofNat 32 (bitN a t) := by
  have e : (BitVec.ofNat 32 t).toNat = t := by rw [BitVec.toNat_ofNat]; omega
  unfold IntOp.shrui IntOp.andi bitN
  rw [if_pos (by omega)]
  apply BitVec.eq_of_getLsbD_eq
  intro i hi
  rw [BitVec.getLsbD_and, BitVec.ushiftRight_eq', BitVec.getLsbD_ushiftRight, e]
  cases h : a.getLsbD t <;> cases i <;> simp_all [BitVec.getLsbD_one]

theorem ofBits_one : Ideal.ofBits FTy.f32 0x3F800000#32 = ((1 : ℝ) : EReal) := by
  simp [Ideal.ofBits, Ideal.ieee]; rw [← EReal.coe_mul]; norm_num
theorem ofBits_neg_one : Ideal.ofBits FTy.f32 0xBF800000#32 = ((-1 : ℝ) : EReal) := by
  simp [Ideal.ofBits, Ideal.ieee]; rw [← EReal.coe_mul]; norm_num

open Cert.KernelIdeal.Val in
/-- A stored bit is minus one or one. -/
theorem bitE_eq (a : BitVec 32) (t : ℕ) (ht : t < 32) : bitE a t = ((2 * (bitN a t : ℝ) - 1 : ℝ) : EReal) := by
  unfold bitE bitN
  have e : (IntOp.subi (31#32) (BitVec.ofNat 32 t)).toNat = 31 - t := by
    unfold IntOp.subi; rw [BitVec.toNat_sub, BitVec.toNat_ofNat]; simp; omega
  have w : IntOp.ori (IntOp.andi (IntOp.shli ArithUnit.vector (IntOp.xori a 4294967295#32) (IntOp.subi (31#32) (BitVec.ofNat 32 t))) 2147483648#32) 1065353216#32
      = if a.getLsbD t then 0x3F800000#32 else 0xBF800000#32 := by
    unfold IntOp.shli
    rw [if_pos (by omega)]
    have hm : IntOp.andi ((IntOp.xori a 4294967295#32) <<< (IntOp.subi (31#32) (BitVec.ofNat 32 t))) 2147483648#32 = if a.getLsbD t then 0#32 else 0x80000000#32 := by
      unfold IntOp.andi IntOp.xori
      apply BitVec.eq_of_getLsbD_eq
      intro i hi
      rw [BitVec.getLsbD_and, BitVec.shiftLeft_eq', BitVec.getLsbD_shiftLeft, e, BitVec.getLsbD_xor]
      by_cases h31 : i = 31
      · subst h31
        rw [show 31 - (31 - t) = t by omega]
        have h1 : (4294967295#32).getLsbD t = true := by
          have : ∀ t : Fin 32, (4294967295#32).getLsbD t.val = true := by decide
          exact this ⟨t, ht⟩
        rw [h1]
        cases a.getLsbD t <;> simp
      · have h2 : (2147483648#32).getLsbD i = false := by
          have : ∀ i : Fin 32, i.val ≠ 31 → (2147483648#32).getLsbD i.val = false := by decide
          exact this ⟨i, hi⟩ h31
        rw [h2]
        cases a.getLsbD t <;> simp [h2]
    rw [hm]
    cases a.getLsbD t <;> rfl
  rw [w]
  cases a.getLsbD t
  · rw [if_neg (by simp), ofBits_neg_one]; norm_num
  · rw [if_pos rfl, ofBits_one]; norm_num
end Cert.Val
end
-- ==== Proof.ValRefB.lean ====
/- The reference's estimates at an index, over the extended reals. -/
module
public import proofs.«01_k».proof.Proof.ValRef
@[expose] public section
noncomputable section
namespace Cert.ReferenceIdeal.Val
open Idealize.ShloMosaic Idealize.ShloMosaic.TcCoe Idealize.ShloMosaic.Tactic
open Cert.ReferenceIdeal Cert.ReferenceIdeal.Gen Cert.ReferenceIdeal.Read

variable (x0 : Vec Ideal S3000x384 .f32) (x1 : Vec Ideal S32x384 .f32) (x2 : Vec Ideal S384x384 .f32) (x3 : Vec Ideal S3000x384 .f32) (x4 : Vec Ideal S20480x12 .i32) (x5 x6 : Vec Ideal S20480 .f32)

/-- The place of a cluster's code among all codes. -/
def colR (k : Fin 32) (n : Fin 640) : Fin 20480 := ⟨k.val * 640 + n.val, by have := k.isLt; have := n.isLt; omega⟩

/-- One quantised coordinate. -/
theorem ref_level (n : Fin 3000) (k : Fin 32) (d : Fin 384) : val_main_v29 (F := Ideal) x0 x1 x2 x3 (ix3 n k d) =
    min (Ideal.ofBits FTy.f32 1097859072#32) (max 0 (Ideal.liftRound Int.floor (Ideal.div (val_main_v13 (F := Ideal) x0 x1 x2 (ix3 n k d) - val_main_v14 (F := Ideal) x0 x1 x2 (ix2 n k)) (val_main_v18 (F := Ideal) x0 x1 x2 (ix2 n k)) + x3 (ix2 n d)))) := by
  simp only [val_main_v29, val_main_call0_v4, val_main_call0_v3, val_main_cst_6, val_main_call0_v2, val_main_call0_v1, val_main_call0_v0, val_main_cst_5, val_main_v28, val_main_v27, val_main_v26, val_main_v25, val_main_v24, val_main_v23, val_main_v22, val_main_v21, val_main_v20, val_main_v19, id_eq]
  generalize val_main_v13 (F := Ideal) x0 x1 x2 = z
  generalize val_main_v14 (F := Ideal) x0 x1 x2 = vl
  generalize val_main_v18 (F := Ideal) x0 x1 x2 = de
  pointwise

/-- One bit of a code. -/
theorem ref_bit (k : Fin 32) (n : Fin 640) (d : Fin 384) : val_main_v42 (F := Ideal) x4 (ix3 k n d) =
    FloatOps.uitofp (F := Ideal) FTy.bf16 (IntOp.andi (IntOp.shrui ArithUnit.host (x4 (ix2 (colR k n) ⟨d.val / 32, by have := d.isLt; omega⟩)) (BitVec.ofNat 32 (d.val % 32))) 1#32) := by
  simp only [val_main_v42, val_main_v41, val_main_v40, val_main_v39, val_main_v38, val_main_c, val_main_v37, val_main_v36, val_main_v35, val_main_v34, val_main_v33, val_main_v32]
  pointwise
  try rfl

/-- The number of one bits of a code. -/
theorem ref_pop (k : Fin 32) (n : Fin 640) : val_main_v51 (F := Ideal) x4 (ix2 k n) =
    FloatOps.sitofp (F := Ideal) FTy.f32 (Finset.fold IntOp.addi (0#32) (fun j : Fin 12 => IntOp.ctpop (x4 (ix2 (colR k n) j))) Finset.univ) := by
  simp only [val_main_v51, val_main_v50, val_main_v49, val_main_v48, val_main_v47, val_main_c_7, id_eq]
  pointwise
  try rfl

/-- The sum of a query's quantised coordinates. -/
theorem ref_sumq (n : Fin 3000) (k : Fin 32) : val_main_v53 (F := Ideal) x0 x1 x2 x3 (ix2 n k) =
    FloatOps.sitofp (F := Ideal) FTy.f32 (Finset.fold IntOp.addi (0#32) (fun d : Fin 384 => FloatOps.fptosi (F := Ideal) (φ := .f32) 32 (val_main_v29 (F := Ideal) x0 x1 x2 x3 (ix3 n k d))) Finset.univ) := by
  simp only [val_main_v53, val_main_v52, val_main_c_8, val_main_v30]
  generalize val_main_v29 (F := Ideal) x0 x1 x2 x3 = q
  pointwise

/-- The inner product of the quantised query and the bits. -/
theorem ref_ipbin (n : Fin 3000) (k : Fin 32) (j : Fin 640) : val_main_v46 (F := Ideal) x0 x1 x2 x3 x4 (ix3 n k j) =
    ∑ d : Fin 384, (val_main_v42 (F := Ideal) x4 (ix3 k j d) : EReal) * FloatOps.sitofp (F := Ideal) FTy.f32 (FloatOps.fptosi (F := Ideal) (φ := .f32) 32 (val_main_v29 (F := Ideal) x0 x1 x2 x3 (ix3 n k d))) := by
  simp only [val_main_v46, val_main_v45, val_main_v44, val_main_v43, val_main_v30]
  generalize val_main_v29 (F := Ideal) x0 x1 x2 x3 = q
  generalize val_main_v42 (F := Ideal) x4 = b
  pointwise

/-- The four terms of the estimate. -/
theorem ref_59 (n : Fin 3000) (k : Fin 32) (j : Fin 640) : val_main_v59 (F := Ideal) x0 x1 x2 (ix3 n k j) =
    Ideal.div (Ideal.ofBits FTy.f32 1073741824#32 * val_main_v18 (F := Ideal) x0 x1 x2 (ix2 n k)) (Ideal.sqrt (Ideal.ofBits FTy.f32 1136656384#32)) := by
  simp only [val_main_v59, val_main_v58, val_main_v57, val_main_v56, val_main_v55, val_main_v54, val_main_cst_9, val_main_v0, val_main_cst]
  generalize val_main_v18 (F := Ideal) x0 x1 x2 = de
  pointwise
theorem ref_60 (n : Fin 3000) (k : Fin 32) (j : Fin 640) : val_main_v60 (F := Ideal) x0 x1 x2 x3 x4 (ix3 n k j) =
    Ideal.div (Ideal.ofBits FTy.f32 1073741824#32 * val_main_v18 (F := Ideal) x0 x1 x2 (ix2 n k)) (Ideal.sqrt (Ideal.ofBits FTy.f32 1136656384#32)) * val_main_v46 (F := Ideal) x0 x1 x2 x3 x4 (ix3 n k j) := by
  rw [val_main_v60_apply, ref_59]
  generalize val_main_v46 (F := Ideal) x0 x1 x2 x3 x4 (ix3 n k j) = b
  rfl
theorem ref_67 (n : Fin 3000) (k : Fin 32) (j : Fin 640) : val_main_v67 (F := Ideal) x0 x1 x2 (ix3 n k j) =
    Ideal.div (Ideal.ofBits FTy.f32 1073741824#32 * val_main_v14 (F := Ideal) x0 x1 x2 (ix2 n k)) (Ideal.sqrt (Ideal.ofBits FTy.f32 1136656384#32)) := by
  have e : idx_main_v65 (idx_main_v67 (ix3 n k j)) = ix2 n k := by funext i; fin_cases i <;> rfl
  rw [val_main_v67_apply, val_main_v65_apply, val_main_v64_apply, e, val_main_v62_apply, val_main_v61_apply, val_main_v63_apply, val_main_v0_apply]
  generalize val_main_v14 (F := Ideal) x0 x1 x2 (ix2 n k) = a
  rfl
theorem ref_68 (n : Fin 3000) (k : Fin 32) (j : Fin 640) : val_main_v68 (F := Ideal) x4 (ix3 n k j) = val_main_v51 (F := Ideal) x4 (ix2 k j) := by
  simp only [val_main_v68, val_main_v66]
  generalize val_main_v51 (F := Ideal) x4 = pc
  pointwise
theorem ref_69 (n : Fin 3000) (k : Fin 32) (j : Fin 640) : val_main_v69 (F := Ideal) x0 x1 x2 x4 (ix3 n k j) =
    Ideal.div (Ideal.ofBits FTy.f32 1073741824#32 * val_main_v14 (F := Ideal) x0 x1 x2 (ix2 n k)) (Ideal.sqrt (Ideal.ofBits FTy.f32 1136656384#32)) * val_main_v51 (F := Ideal) x4 (ix2 k j) := by
  rw [val_main_v69_apply, ref_67, ref_68]
  generalize val_main_v51 (F := Ideal) x4 (ix2 k j) = b
  rfl
theorem ref_75 (n : Fin 3000) (k : Fin 32) (j : Fin 640) : val_main_v75 (F := Ideal) x0 x1 x2 x3 (ix3 n k j) =
    Ideal.div (val_main_v18 (F := Ideal) x0 x1 x2 (ix2 n k)) (Ideal.sqrt (Ideal.ofBits FTy.f32 1136656384#32)) * val_main_v53 (F := Ideal) x0 x1 x2 x3 (ix2 n k) := by
  simp only [val_main_v75, val_main_v74, val_main_v73, val_main_v72, val_main_v71, val_main_v0, val_main_cst]
  generalize val_main_v18 (F := Ideal) x0 x1 x2 = de
  generalize val_main_v53 (F := Ideal) x0 x1 x2 x3 = sq
  pointwise
theorem ref_80 (n : Fin 3000) (k : Fin 32) (j : Fin 640) : val_main_v80 (F := Ideal) x0 x1 x2 (ix3 n k j) =
    Ideal.sqrt (Ideal.ofBits FTy.f32 1136656384#32) * val_main_v14 (F := Ideal) x0 x1 x2 (ix2 n k) := by
  simp only [val_main_v80, val_main_v79, val_main_v78, val_main_v77, val_main_v0, val_main_cst]
  generalize val_main_v14 (F := Ideal) x0 x1 x2 = vl
  pointwise
theorem ref_87 (n : Fin 3000) (k : Fin 32) (j : Fin 640) : val_main_v87 (F := Ideal) x6 (ix3 n k j) = x6 (ix1 (colR k j)) := by
  simp only [val_main_v87, val_main_v83, val_main_v82]
  pointwise
  try rfl

/-- The estimated inner product. -/
theorem ref_ip (n : Fin 3000) (k : Fin 32) (j : Fin 640) : val_main_v88 (F := Ideal) x0 x1 x2 x3 x4 x6 (ix3 n k j) =
    Ideal.div (val_main_v60 (F := Ideal) x0 x1 x2 x3 x4 (ix3 n k j) + val_main_v69 (F := Ideal) x0 x1 x2 x4 (ix3 n k j) - val_main_v75 (F := Ideal) x0 x1 x2 x3 (ix3 n k j) - val_main_v80 (F := Ideal) x0 x1 x2 (ix3 n k j)) (val_main_v87 (F := Ideal) x6 (ix3 n k j)) := by
  rw [val_main_v88_apply, val_main_v81_apply, val_main_v76_apply, val_main_v70_apply]
  rfl

/-- The error bound. -/
theorem ref_bound (n : Fin 3000) (k : Fin 32) (j : Fin 640) : val_main_v118 (F := Ideal) x0 x1 x5 x6 (ix3 n k j) =
    Ideal.div (Ideal.div (Ideal.ofBits FTy.f32 1073741824#32 * x5 (ix1 (colR k j)) * val_main_v9 (F := Ideal) x0 x1 (ix2 n k) * Ideal.sqrt (1 - x6 (ix1 (colR k j)) * x6 (ix1 (colR k j)))) (x6 (ix1 (colR k j)))
      * Ideal.div (Ideal.ofBits FTy.f32 0x41980000#32) (Ideal.ofBits FTy.f32 0x41200000#32)) (Ideal.sqrt (Ideal.ofBits FTy.f32 1136623616#32)) := by
  simp only [val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v86, val_main_v85, val_main_v84, val_main_v83, val_main_v82, val_main_cst_12, val_main_cst_13, val_main_cst_14, val_main_cst_15, val_main_v1, val_main_cst_0]
  generalize val_main_v9 (F := Ideal) x0 x1 = nq
  pointwise
  try rfl

/-- The estimated squared distance. -/
theorem ref_dist (n : Fin 3000) (k : Fin 32) (j : Fin 640) : val_main_v100 (F := Ideal) x0 x1 x2 x3 x4 x5 x6 (ix3 n k j) =
    x5 (ix1 (colR k j)) * x5 (ix1 (colR k j)) + val_main_v9 (F := Ideal) x0 x1 (ix2 n k) * val_main_v9 (F := Ideal) x0 x1 (ix2 n k)
      - Ideal.ofBits FTy.f32 1073741824#32 * x5 (ix1 (colR k j)) * val_main_v9 (F := Ideal) x0 x1 (ix2 n k) * val_main_v88 (F := Ideal) x0 x1 x2 x3 x4 x6 (ix3 n k j) := by
  simp only [val_main_v100, val_main_v99, val_main_v98, val_main_v97, val_main_v96, val_main_v95, val_main_v94, val_main_v93, val_main_v92, val_main_v91, val_main_v90, val_main_v89, val_main_v86, val_main_v85, val_main_v84, val_main_cst_11]
  generalize val_main_v9 (F := Ideal) x0 x1 = nq
  generalize val_main_v88 (F := Ideal) x0 x1 x2 x3 x4 x6 = ip
  pointwise
  try rfl

/-- The tables, with a query's estimates for all codes in one row. -/
theorem flat (v : Vec Ideal S3000x32x640 .f32) (n : Fin 3000) (J : Fin 20480) : shapeCast S3000x20480 v shapeCasts_S3000x32x640_S3000x20480 (ix2 n J) =
    v (ix3 n ⟨J.val / 640, by have := J.isLt; omega⟩ ⟨J.val % 640, Nat.mod_lt _ (by decide)⟩) := by
  pointwise
end Cert.ReferenceIdeal.Val
end
-- ==== Proof.ValAgreeB.lean ====
/- The kernel's estimates and the reference's agree where the arguments are well posed. -/
module
public import proofs.«01_k».proof.Proof.ValAgree
public import proofs.«01_k».proof.Proof.ValInt
public import proofs.«01_k».proof.Proof.ValWant
public import proofs.«01_k».proof.Proof.ValRefB
@[expose] public section
noncomputable section
namespace Cert.KernelIdeal.Val
open Idealize.ShloMosaic Idealize.ShloMosaic.TcCoe Idealize.ShloMosaic.Tactic
open Cert.Val Cert.ReferenceIdeal.Read Cert.ReferenceIdeal.Val

theorem inv_sd_eq : (Named.named κ "inv_sd" 1028720108#32 : Ideal .f32) = (((Real.sqrt 384)⁻¹ : ℝ) : EReal) :=
  IdealRules.named_const.ideal_named_scalar _ _ _ _ rfl
theorem two_inv_sd_eq : (Named.named κ "two_inv_sd" 1037108716#32 : Ideal .f32) = ((2 * (Real.sqrt 384)⁻¹ : ℝ) : EReal) :=
  IdealRules.named_const.ideal_named_scalar _ _ _ _ rfl
theorem sd_eq : (Named.named κ "sd" 1100792945#32 : Ideal .f32) = ((Real.sqrt 384 : ℝ) : EReal) :=
  IdealRules.named_const.ideal_named_scalar _ _ _ _ rfl
theorem eps_eq : (Named.named κ "eps_inv_sdm1" 1036440767#32 : Ideal .f32) = (((19 / 10) * (Real.sqrt 383)⁻¹ : ℝ) : EReal) :=
  IdealRules.named_const.ideal_named_scalar _ _ _ _ rfl

theorem ofBits_dim : Ideal.ofBits FTy.f32 1136656384#32 = ((384 : ℝ) : EReal) := by
  simp [Ideal.ofBits, Ideal.ieee]; rw [← EReal.coe_mul]; norm_num
theorem ofBits_dim1 : Ideal.ofBits FTy.f32 1136623616#32 = ((383 : ℝ) : EReal) := by
  simp [Ideal.ofBits, Ideal.ieee]; rw [← EReal.coe_mul]; norm_num
theorem ofBits_19 : Ideal.ofBits FTy.f32 0x41980000#32 = ((19 : ℝ) : EReal) := by
  simp [Ideal.ofBits, Ideal.ieee]; rw [← EReal.coe_mul]; norm_num
theorem ofBits_10 : Ideal.ofBits FTy.f32 0x41200000#32 = ((10 : ℝ) : EReal) := by
  simp [Ideal.ofBits, Ideal.ieee]; rw [← EReal.coe_mul]; norm_num

theorem sd_pos : Real.sqrt 384 ≠ 0 := (Real.sqrt_pos.2 (by norm_num)).ne'
theorem sd1_pos : Real.sqrt 383 ≠ 0 := (Real.sqrt_pos.2 (by norm_num)).ne'

theorem div_as_mul (x y : EReal) (h : y ≠ 0) : Ideal.div x y = x * Ideal.div 1 y := by
  unfold Ideal.div; rw [if_neg h, if_neg h, one_mul]

/-- With a level width of zero every coordinate is quantised to zero, by the kernel as by the reference. -/
theorem level_zero (o : EReal) (ho : o < 1) :
    max (0 : EReal) (Ideal.liftRound Int.floor ((0 : EReal) * Ideal.div 1 0 + o)) = max (0 : EReal) (Ideal.liftRound Int.floor (Ideal.div 0 0 + o)) := by
  have e : Ideal.div 0 0 = ⊥ := by unfold Ideal.div; simp
  rw [e, zero_mul, zero_add, EReal.bot_add]
  have r : max (0 : EReal) (Ideal.liftRound Int.floor ⊥) = 0 := max_eq_left bot_le
  rw [r]
  induction o with
  | bot => exact r
  | top => exact absurd ho (by simp)
  | coe x =>
    have hx : x < 1 := by exact_mod_cast ho
    refine max_eq_left ?_
    show ((⌊x⌋ : ℝ) : EReal) ≤ 0
    have : ⌊x⌋ ≤ 0 := by have := Int.floor_lt.2 (show x < ((1 : ℤ) : ℝ) by simpa using hx); omega
    have h2 : (⌊x⌋ : ℝ) ≤ 0 := by exact_mod_cast this
    exact_mod_cast h2

/-- The quantised coordinates agree. -/
theorem Reals.level {R p q s vl vr z} (h : Reals R p q s vl vr z) (o : EReal) (ho : o < 1) (d : Fin 384) :
    cS R p q o d = min (Ideal.ofBits FTy.f32 1097859072#32) (max 0 (Ideal.liftRound Int.floor
      (Ideal.div ((z d : EReal) - (vl : EReal)) (((vr - vl) / 15 : ℝ) : EReal) + o))) := by
  unfold cS
  rw [h.diff, h.norm, h.least, h.delta, div_eq_mul _ _ h.pos.ne', one_mul, ← EReal.coe_mul, cancel _ _ h.pos.ne', ← EReal.coe_sub]
  congr 1
  by_cases hd : (vr - vl) / 15 = 0
  · have hz : z d - vl = 0 := by have := h.low d; have := h.high d; linarith
    rw [hd, hz, EReal.coe_zero]; exact level_zero o ho
  · rw [div_eq_mul _ _ hd, div_eq_mul _ _ hd, one_mul]

variable {x0 : Vec Ideal S3000x384 .f32} {x1 : Vec Ideal S32x384 .f32} {x2 : Vec Ideal S384x384 .f32} {x3 : Vec Ideal S3000x384 .f32} {x4 : Vec Ideal S20480x12 .i32} {x5 x6 : Vec Ideal S20480 .f32}

theorem level_agree (h : Cert.Pre_well_posed.Holds x0 x1 x2 x3 x6) (n : Fin 3000) (k : Fin 32) (d : Fin 384) :
    cS x2 (rowQ x0 n) (rowC x1 k) (x3 (ix2 n d)) d = val_main_v29 (F := Ideal) x0 x1 x2 x3 (ix3 n k d) := by
  obtain ⟨s, vl, vr, z, R⟩ := ref_reals h n k
  rw [ref_level, ref_vl_eq R, ref_dl_eq R, ref_rot_eq, R.coord]
  exact R.level _ (h.off _) d

/-- The inner product in real numbers: the kernel's signs against the reference's bits. -/
theorem real_ip (δ vl P sd : ℝ) (hs : sd ≠ 0) (c b : Fin 384 → ℝ) :
    δ * sd⁻¹ * ∑ d, c d * (2 * b d - 1) + vl * (P * (2 * sd⁻¹) - sd) = 2 * δ / sd * ∑ d, b d * c d + 2 * vl / sd * P - δ / sd * ∑ d, c d - sd * vl := by
  have e : ∑ d, c d * (2 * b d - 1) = 2 * ∑ d, b d * c d - ∑ d, c d := by
    rw [Finset.mul_sum, ← Finset.sum_sub_distrib]; exact Finset.sum_congr rfl fun d _ => by ring
  rw [e]; field_simp; ring

/-- The words of a code. -/
abbrev words (x4 : Vec Ideal S20480x12 .i32) (J : Fin 20480) : Fin 12 → BitVec 32 := fun j => x4 (ix2 J j)

/-- The estimated inner products agree. -/
theorem ip_agree (h : Cert.Pre_well_posed.Holds x0 x1 x2 x3 x6) (n : Fin 3000) (k : Fin 32) (j : Fin 640) (a : EReal) :
    ipT x2 (rowQ x0 n) (rowC x1 k) (fun d => x3 (ix2 n d)) (words x4 (colR k j)) a (x6 (ix1 (colR k j))) = val_main_v88 (F := Ideal) x0 x1 x2 x3 x4 x6 (ix3 n k j) := by
  obtain ⟨s, vl, vr, z, R⟩ := ref_reals h n k
  have hl : ∀ d : Fin 384, ∃ c : ℕ, c ≤ 15 ∧ val_main_v29 (F := Ideal) x0 x1 x2 x3 (ix3 n k d) = ((c : ℝ) : EReal) := fun d => by
    rw [ref_level]; exact level_nat _
  choose c hc15 hc using hl
  have hi : ∀ d, FloatOps.fptosi (F := Ideal) (φ := .f32) 32 (val_main_v29 (F := Ideal) x0 x1 x2 x3 (ix3 n k d)) = BitVec.ofNat 32 (c d) := fun d => by
    rw [hc]; exact fptosi_nat _ (hc15 d)
  have hn : ∀ d, (BitVec.ofNat 32 (c d)).toNat = c d := fun d => by
    rw [BitVec.toNat_ofNat]; exact Nat.mod_eq_of_lt (by have := hc15 d; omega)
  have hsi : ∀ d, (FloatOps.sitofp (F := Ideal) FTy.f32 (BitVec.ofNat 32 (c d)) : EReal) = ((c d : ℝ) : EReal) := fun d => by
    rw [sitofp_small _ (by rw [hn]; have := hc15 d; omega), hn]
  obtain ⟨b, hb⟩ : ∃ b : Fin 384 → ℝ, b = fun d => (bitN (words x4 (colR k j) ⟨d.val / 32, by have := d.isLt; omega⟩) (d.val % 32) : ℝ) := ⟨_, rfl⟩
  obtain ⟨P, hP⟩ : ∃ P : ℝ, P = ∑ i, ((IntOp.ctpop (words x4 (colR k j) i)).toNat : ℝ) := ⟨_, rfl⟩
  have m32 : ∀ d : Fin 384, d.val % 32 < 32 := fun d => Nat.mod_lt _ (by decide)
  -- the reference
  have r1 : val_main_v46 (F := Ideal) x0 x1 x2 x3 x4 (ix3 n k j) = ((∑ d, b d * (c d : ℝ) : ℝ) : EReal) := by
    rw [ref_ipbin, ← sum_coe]
    refine Finset.sum_congr rfl fun d _ => ?_
    rw [hi, hsi, ref_bit, shrui_bit _ _ (m32 d), hb, EReal.coe_mul]
    congr 1
    show (((BitVec.ofNat 32 (bitN _ _)).toNat : ℝ) : EReal) = _
    rw [BitVec.toNat_ofNat, Nat.mod_eq_of_lt (by unfold bitN; exact lt_of_le_of_lt (Bool.toNat_le _) (by norm_num))]
  have r2 : val_main_v51 (F := Ideal) x4 (ix2 k j) = (P : EReal) := by
    rw [ref_pop, sitofp_fold _ 32 (fun i => ctpop_le _) (by norm_num), hP]
  have r3 : val_main_v53 (F := Ideal) x0 x1 x2 x3 (ix2 n k) = ((∑ d, (c d : ℝ) : ℝ) : EReal) := by
    rw [ref_sumq, funext hi, sitofp_fold _ 15 (fun d => by rw [hn]; exact hc15 d) (by norm_num)]
    exact congrArg Real.toEReal (Finset.sum_congr rfl fun d _ => by rw [hn])
  rw [ref_ip, ref_60, ref_69, ref_75, ref_80, ref_87, ref_vl_eq R, ref_dl_eq R, r1, r2, r3, ofBits_dim, sqrt_coe _ (by norm_num), show Ideal.ofBits FTy.f32 1073741824#32 = ((2 : ℝ) : EReal) from ofBits_two]
  rw [← EReal.coe_mul, ← EReal.coe_mul, div_coe _ _ sd_pos, div_coe _ _ sd_pos, div_coe _ _ sd_pos, ← EReal.coe_mul, ← EReal.coe_mul, ← EReal.coe_mul, ← EReal.coe_mul, ← EReal.coe_add, ← EReal.coe_sub, ← EReal.coe_sub,
    div_as_mul _ _ (h.oo _)]
  -- the kernel
  unfold ipT
  have k1 : (∑ d : Fin 384, cS x2 (rowQ x0 n) (rowC x1 k) (x3 (ix2 n d)) d * bitE (words x4 (colR k j) ⟨d.val / 32, by have := d.isLt; omega⟩) (d.val % 32)) = ((∑ d, (c d : ℝ) * (2 * b d - 1) : ℝ) : EReal) := by
    rw [← sum_coe]
    refine Finset.sum_congr rfl fun d _ => ?_
    rw [level_agree h, hc, bitE_eq _ _ (m32 d), ← EReal.coe_mul, hb]
  have k2 : kE (words x4 (colR k j)) a (x6 (ix1 (colR k j))) 1 = ((P * (2 * (Real.sqrt 384)⁻¹) - Real.sqrt 384 : ℝ) : EReal) := by
    show (∑ i : Fin 12, (FloatOps.sitofp (F := Ideal) FTy.f32 (IntOp.ctpop (words x4 (colR k j) i)) : EReal)) * _ - _ = _
    rw [two_inv_sd_eq, sd_eq, Finset.sum_congr rfl fun i _ => sitofp_small (IntOp.ctpop (words x4 (colR k j) i)) (lt_of_le_of_lt (ctpop_le _) (by norm_num)),
      sum_coe, ← hP, ← EReal.coe_mul, ← EReal.coe_sub]
  have k3 : stE x2 (rowQ x0 n) (rowC x1 k) 0 = (((vr - vl) / 15 * (Real.sqrt 384)⁻¹ : ℝ) : EReal) := by
    show dlS _ _ _ * _ = _
    rw [R.delta, inv_sd_eq, ← EReal.coe_mul]
  have k4 : stE x2 (rowQ x0 n) (rowC x1 k) 1 = (vl : EReal) := R.least
  rw [k1, k2, k3, k4, ← EReal.coe_mul, ← EReal.coe_mul, ← EReal.coe_add]
  show _ * Ideal.div 1 _ = _
  rw [real_ip _ _ _ _ sd_pos]

/-- The error bounds agree. -/
theorem bo_agree (h : Cert.Pre_well_posed.Holds x0 x1 x2 x3 x6) (n : Fin 3000) (k : Fin 32) (j : Fin 640) (w : Fin 12 → BitVec 32) :
    boT x2 (rowQ x0 n) (rowC x1 k) w (x5 (ix1 (colR k j))) (x6 (ix1 (colR k j))) = val_main_v118 (F := Ideal) x0 x1 x5 x6 (ix3 n k j) := by
  rw [ref_bound, ref_norm_eq]
  show (Ideal.ofBits FTy.f32 1073741824#32 * _) * nS _ _ * (Ideal.div (Ideal.sqrt (1 - _)) _ * _) = _
  rw [eps_eq, ofBits_19, ofBits_10, ofBits_dim1, sqrt_coe _ (by norm_num), div_coe _ _ (by norm_num), div_eq_mul _ _ sd1_pos,
    div_as_mul _ _ (h.oo _), div_as_mul (Ideal.ofBits FTy.f32 1073741824#32 * _ * _ * _) _ (h.oo _), EReal.coe_mul, one_div]
  simp only [mul_assoc]

/-- The estimated squared distances agree. -/
theorem di_agree (h : Cert.Pre_well_posed.Holds x0 x1 x2 x3 x6) (n : Fin 3000) (k : Fin 32) (j : Fin 640) :
    diT x2 (rowQ x0 n) (rowC x1 k) (fun d => x3 (ix2 n d)) (words x4 (colR k j)) (x5 (ix1 (colR k j))) (x6 (ix1 (colR k j))) = val_main_v100 (F := Ideal) x0 x1 x2 x3 x4 x5 x6 (ix3 n k j) := by
  unfold diT
  rw [ip_agree h, ref_dist, ref_norm_eq]
  rfl
end Cert.KernelIdeal.Val
end
-- ==== Proof.ValClaim.lean ====
/- The results: the kernel's run and the reference's run leave the same values. -/
module
public import proofs.«01_k».proof.Defs
public import proofs.«01_k».proof.Proof.ValFinal
public import proofs.«01_k».proof.Proof.ValAgreeB
public import proofs.«01_k».proof.Proof.Gen.ReferenceIdeal.Run
public import proofs.«01_k».proof.Proof.KernelIdealFrame
public import Idealize.ShloMosaic.Lib.Claim
public import proofs.«01_k».proof.Proof.Gen.Pre_well_posed
public import proofs.«01_k».proof.Proof.Gen.On_covered
@[expose] public section
noncomputable section
namespace Cert.KernelIdeal.Val
open Idealize.ShloMosaic Idealize.ShloMosaic.TcCoe Idealize.ShloMosaic.Tactic Idealize.SL.Sem
open Idealize.ShloMosaic.Pipeline
open Cert.KernelIdeal.Gen Cert.KernelIdeal.Run

variable (m : (ℓ : Loc nD τ sig) → Buf (Elt Ideal) ℓ) (ρ : Dev nD → PrngReg)

theorem Q_eq (c : Dev nD) (n : Fin 3000) : Q m c n = rowQ (m ((c.tc : Thread nD τ).loc main_arg0) : Vec Ideal S3000x384 .f32) n := by
  unfold Q rowQ; rw [V_main_arg0]
theorem C_eq (c : Dev nD) (k : Fin 32) : C m c k = rowC (m ((c.tc : Thread nD τ).loc main_arg1) : Vec Ideal S32x384 .f32) k := by
  unfold C rowC; rw [V_main_arg1]
theorem RT_eq (c : Dev nD) : RT m c = (m ((c.tc : Thread nD τ).loc main_arg2) : Vec Ideal S384x384 .f32) := by
  unfold RT; rw [V_main_arg2]

theorem dlS_eq (c : Dev nD) (n : Fin 3000) (k : Fin 32) : dlS (RT m c) (Q m c n) (C m c k) =
    dlS (m ((c.tc : Thread nD τ).loc main_arg2) : Vec Ideal S384x384 .f32) (rowQ (m ((c.tc : Thread nD τ).loc main_arg0) : Vec Ideal S3000x384 .f32) n)
      (rowC (m ((c.tc : Thread nD τ).loc main_arg1) : Vec Ideal S32x384 .f32) k) := by rw [Q_eq, C_eq, RT_eq]
theorem vlS_eq (c : Dev nD) (n : Fin 3000) (k : Fin 32) : vlS (RT m c) (Q m c n) (C m c k) =
    vlS (m ((c.tc : Thread nD τ).loc main_arg2) : Vec Ideal S384x384 .f32) (rowQ (m ((c.tc : Thread nD τ).loc main_arg0) : Vec Ideal S3000x384 .f32) n)
      (rowC (m ((c.tc : Thread nD τ).loc main_arg1) : Vec Ideal S32x384 .f32) k) := by rw [Q_eq, C_eq, RT_eq]

/-- The precondition, on one device. -/
theorem pre_holds [Cert.Pre_well_posed.Facts] (h : Cert.Pre_KernelIdeal_well_posed m) (c : Dev nD) :
    Cert.Pre_well_posed.Holds (m ((c.tc : Thread nD τ).loc main_arg0) : Vec Ideal S3000x384 .f32)
      (m ((c.tc : Thread nD τ).loc main_arg1) : Vec Ideal S32x384 .f32) (m ((c.tc : Thread nD τ).loc main_arg2) : Vec Ideal S384x384 .f32)
      (m ((c.tc : Thread nD τ).loc main_arg3) : Vec Ideal S3000x384 .f32) (m ((c.tc : Thread nD τ).loc main_arg6) : Vec Ideal S20480 .f32) :=
  Cert.Pre_well_posed.holds _ _ _ _ _ _ _ (h c)

theorem colJ_eq (k : Fin 32) (n : Fin 640) : colJ k n = Cert.ReferenceIdeal.Val.colR k n :=
  Fin.ext (by show 640 * k.val + n.val = k.val * 640 + n.val; omega)
theorem OF_eq (c : Dev nD) (n : Fin 3000) : OF m c n = fun d => (m ((c.tc : Thread nD τ).loc main_arg3) : Vec Ideal S3000x384 .f32) (ix2 n d) := by
  unfold OF; rw [V_main_arg3]
theorem WD_eq (c : Dev nD) (k : Fin 32) (n : Fin 640) : WD m c k n = words (m ((c.tc : Thread nD τ).loc main_arg4) : Vec Ideal S20480x12 .i32) (Cert.ReferenceIdeal.Val.colR k n) := by
  funext j; unfold WD; rw [V_main_v1, colJ_eq]
theorem NR_eq (c : Dev nD) (k : Fin 32) (n : Fin 640) : NR m c k n = (m ((c.tc : Thread nD τ).loc main_arg5) : Vec Ideal S20480 .f32) (ix1 (Cert.ReferenceIdeal.Val.colR k n)) := by
  unfold NR; rw [V_main_v2, colJ_eq]
theorem OO_eq (c : Dev nD) (k : Fin 32) (n : Fin 640) : OO m c k n = (m ((c.tc : Thread nD τ).loc main_arg6) : Vec Ideal S20480 .f32) (ix1 (Cert.ReferenceIdeal.Val.colR k n)) := by
  unfold OO; rw [V_main_v3, colJ_eq]

open Cert.ReferenceIdeal.Read Cert.ReferenceIdeal.Val in
/-- The estimated squared distances are the reference's. -/
theorem di_values [Cert.Pre_well_posed.Facts] (h : Cert.Pre_KernelIdeal_well_posed m) (c : Dev nD) :
    (fun y => diM m c (y 0) (kO (y 1)) (nO (y 1)) : Vec Ideal S3000x20480 .f32) = val_main_v119 (F := Ideal) (m ((c.tc : Thread nD τ).loc main_arg0) : Vec Ideal S3000x384 .f32) (m ((c.tc : Thread nD τ).loc main_arg1) : Vec Ideal S32x384 .f32) (m ((c.tc : Thread nD τ).loc main_arg2) : Vec Ideal S384x384 .f32) (m ((c.tc : Thread nD τ).loc main_arg3) : Vec Ideal S3000x384 .f32) (m ((c.tc : Thread nD τ).loc main_arg4) : Vec Ideal S20480x12 .i32) (m ((c.tc : Thread nD τ).loc main_arg5) : Vec Ideal S20480 .f32) (m ((c.tc : Thread nD τ).loc main_arg6) : Vec Ideal S20480 .f32) := by
  funext y
  obtain ⟨n, J, rfl⟩ : ∃ (n : Fin 3000) (J : Fin 20480), y = ix2 n J := ⟨y 0, y 1, by funext i; fin_cases i <;> rfl⟩
  unfold val_main_v119
  rw [flat, ← di_agree (pre_holds m h c)]
  show diM m c n (kO J) (nO J) = _
  unfold diM
  rw [RT_eq, Q_eq, C_eq, OF_eq, WD_eq, NR_eq, OO_eq]
  rfl
open Cert.ReferenceIdeal.Read Cert.ReferenceIdeal.Val in
/-- The error bounds are the reference's. -/
theorem bo_values [Cert.Pre_well_posed.Facts] (h : Cert.Pre_KernelIdeal_well_posed m) (c : Dev nD) :
    (fun y => boM m c (y 0) (kO (y 1)) (nO (y 1)) : Vec Ideal S3000x20480 .f32) = val_main_v120 (F := Ideal) (m ((c.tc : Thread nD τ).loc main_arg0) : Vec Ideal S3000x384 .f32) (m ((c.tc : Thread nD τ).loc main_arg1) : Vec Ideal S32x384 .f32) (m ((c.tc : Thread nD τ).loc main_arg5) : Vec Ideal S20480 .f32) (m ((c.tc : Thread nD τ).loc main_arg6) : Vec Ideal S20480 .f32) := by
  funext y
  obtain ⟨n, J, rfl⟩ : ∃ (n : Fin 3000) (J : Fin 20480), y = ix2 n J := ⟨y 0, y 1, by funext i; fin_cases i <;> rfl⟩
  unfold val_main_v120
  rw [flat, ← bo_agree (pre_holds m h c) _ _ _ (WD m c (kO J) (nO J))]
  show boM m c n (kO J) (nO J) = _
  unfold boM
  rw [RT_eq, Q_eq, C_eq, NR_eq, OO_eq]
  rfl
open Cert.ReferenceIdeal.Read Cert.ReferenceIdeal.Val in
/-- The estimated inner products are the reference's. -/
theorem ip_values [Cert.Pre_well_posed.Facts] (h : Cert.Pre_KernelIdeal_well_posed m) (c : Dev nD) :
    (fun y => ipM m c (y 0) (kO (y 1)) (nO (y 1)) : Vec Ideal S3000x20480 .f32) = val_main_v121 (F := Ideal) (m ((c.tc : Thread nD τ).loc main_arg0) : Vec Ideal S3000x384 .f32) (m ((c.tc : Thread nD τ).loc main_arg1) : Vec Ideal S32x384 .f32) (m ((c.tc : Thread nD τ).loc main_arg2) : Vec Ideal S384x384 .f32) (m ((c.tc : Thread nD τ).loc main_arg3) : Vec Ideal S3000x384 .f32) (m ((c.tc : Thread nD τ).loc main_arg4) : Vec Ideal S20480x12 .i32) (m ((c.tc : Thread nD τ).loc main_arg6) : Vec Ideal S20480 .f32) := by
  funext y
  obtain ⟨n, J, rfl⟩ : ∃ (n : Fin 3000) (J : Fin 20480), y = ix2 n J := ⟨y 0, y 1, by funext i; fin_cases i <;> rfl⟩
  unfold val_main_v121
  rw [flat, ← ip_agree (pre_holds m h c) _ _ _ (NR m c (kO J) (nO J))]
  show ipM m c n (kO J) (nO J) = _
  unfold ipM
  rw [RT_eq, Q_eq, C_eq, OF_eq, WD_eq, OO_eq]
  rfl

open Cert.ReferenceIdeal.Read in
/-- After the kernel's run the estimates, the steps and the least coordinates are the reference's. -/
theorem run_values [Cert.Pre_well_posed.Facts] (h : Cert.Pre_KernelIdeal_well_posed m) :
    θ_run defs (onTc (τ := τ) (main (F := Ideal))) ⟨m, fun _ => 0, ρ⟩ (fun r => ∀ c : Dev nD,
      r.2.mem ((c.tc : Thread nD τ).loc main_v4_0) = val_main_v119 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v4_1) = val_main_v120 (F := Ideal) (m ((c.tc : Thread nD τ).loc main_arg0)) (m ((c.tc : Thread nD τ).loc main_arg1)) (m ((c.tc : Thread nD τ).loc main_arg5)) (m ((c.tc : Thread nD τ).loc main_arg6))
      ∧ r.2.mem ((c.tc : Thread nD τ).loc main_v4_2) = val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6))
      ∧ r.2.mem ((c.tc : Thread nD τ).loc main_v4_4) = val_main_v18 (F := Ideal) (m ((c.tc : Thread nD τ).loc main_arg0)) (m ((c.tc : Thread nD τ).loc main_arg1)) (m ((c.tc : Thread nD τ).loc main_arg2))
      ∧ r.2.mem ((c.tc : Thread nD τ).loc main_v4_5) = val_main_v14 (F := Ideal) (m ((c.tc : Thread nD τ).loc main_arg0)) (m ((c.tc : Thread nD τ).loc main_arg1)) (m ((c.tc : Thread nD τ).loc main_arg2))) :=
  (θ_run defs _ _).mono (fun r hr c => by
    refine ⟨(final7 m r hr c).trans (di_values m h c), (final8 m r hr c).trans (bo_values m h c), (final9 m r hr c).trans (ip_values m h c),
      (final11 m r hr c).trans ?_, (final12 m r hr c).trans ?_⟩
    · refine Eq.trans ?_ (dl_agree (pre_holds m h c))
      exact funext fun y => dlS_eq m c (y 0) (y 1)
    · refine Eq.trans ?_ (vl_agree (pre_holds m h c))
      exact funext fun y => vlS_eq m c (y 0) (y 1)) (run_mainV m ρ)

open Cert.ReferenceIdeal.Read in
/-- The value claim. -/
theorem algebraic : Cert.algebraic_KernelIdeal_ReferenceIdeal_on_covered_pre_well_posed := by
  intro m g m' g' hpre hag
  refine ⟨fun c => val_main_v119 (F := Ideal) (m' ((c.tc : Thread nD τ).loc Cert.ReferenceIdeal.main_arg0)) (m' ((c.tc : Thread nD τ).loc Cert.ReferenceIdeal.main_arg1)) (m' ((c.tc : Thread nD τ).loc Cert.ReferenceIdeal.main_arg2)) (m' ((c.tc : Thread nD τ).loc Cert.ReferenceIdeal.main_arg3)) (m' ((c.tc : Thread nD τ).loc Cert.ReferenceIdeal.main_arg4)) (m' ((c.tc : Thread nD τ).loc Cert.ReferenceIdeal.main_arg5)) (m' ((c.tc : Thread nD τ).loc Cert.ReferenceIdeal.main_arg6)),
    fun c => val_main_v120 (F := Ideal) (m' ((c.tc : Thread nD τ).loc Cert.ReferenceIdeal.main_arg0)) (m' ((c.tc : Thread nD τ).loc Cert.ReferenceIdeal.main_arg1)) (m' ((c.tc : Thread nD τ).loc Cert.ReferenceIdeal.main_arg5)) (m' ((c.tc : Thread nD τ).loc Cert.ReferenceIdeal.main_arg6)),
    fun c => val_main_v121 (F := Ideal) (m' ((c.tc : Thread nD τ).loc Cert.ReferenceIdeal.main_arg0)) (m' ((c.tc : Thread nD τ).loc Cert.ReferenceIdeal.main_arg1)) (m' ((c.tc : Thread nD τ).loc Cert.ReferenceIdeal.main_arg2)) (m' ((c.tc : Thread nD τ).loc Cert.ReferenceIdeal.main_arg3)) (m' ((c.tc : Thread nD τ).loc Cert.ReferenceIdeal.main_arg4)) (m' ((c.tc : Thread nD τ).loc Cert.ReferenceIdeal.main_arg6)),
    fun c => Cert.ReferenceIdeal.Value.res_main_v31 m' c,
    fun c => val_main_v18 (F := Ideal) (m' ((c.tc : Thread nD τ).loc Cert.ReferenceIdeal.main_arg0)) (m' ((c.tc : Thread nD τ).loc Cert.ReferenceIdeal.main_arg1)) (m' ((c.tc : Thread nD τ).loc Cert.ReferenceIdeal.main_arg2)),
    fun c => val_main_v14 (F := Ideal) (m' ((c.tc : Thread nD τ).loc Cert.ReferenceIdeal.main_arg0)) (m' ((c.tc : Thread nD τ).loc Cert.ReferenceIdeal.main_arg1)) (m' ((c.tc : Thread nD τ).loc Cert.ReferenceIdeal.main_arg2)), ?_, ?_⟩
  · refine (θ_run defs _ _).mono (fun r hr c => ?_) (θ_run_and (run_values m g hpre) (Cert.KernelIdeal.Run.frame m g))
    obtain ⟨a0, a1, a2, a3, a4, a5, a6⟩ := hag c
    obtain ⟨v1, v2, v3, v5, v6⟩ := hr.1 c
    refine ⟨fun i _ => ?_, fun i _ => ?_, fun i _ => ?_, fun i h => absurd (show (0#1 : BitVec 1) = 1#1 from h) (by decide),
      fun i _ => ?_, fun i _ => ?_, hr.2.1 c⟩
    · beta_reduce; rw [a0, a1, a2, a3, a4, a5, a6]; exact congrFun v1 i
    · beta_reduce; rw [a0, a1, a5, a6]; exact congrFun v2 i
    · beta_reduce; rw [a0, a1, a2, a3, a4, a6]; exact congrFun v3 i
    · beta_reduce; rw [a0, a1, a2]; exact congrFun v5 i
    · beta_reduce; rw [a0, a1, a2]; exact congrFun v6 i
  · refine (θ_run Cert.ReferenceIdeal.defs _ _).mono (fun r hr c => ?_) (Cert.ReferenceIdeal.Value.run (F := Ideal) m' g')
    obtain ⟨h0, h1, h2, h3, h4, h5, hargs⟩ := hr c
    exact ⟨fun i _ => congrFun (h0.trans (val_main_v119_eq m' c)) i, fun i _ => congrFun (h1.trans (val_main_v120_eq _ _ _ _)) i,
      fun i _ => congrFun (h2.trans (val_main_v121_eq m' c)) i, fun i _ => congrFun h3 i,
      fun i _ => congrFun (h4.trans (val_main_v18_eq _ _ _)) i, fun i _ => congrFun (h5.trans (val_main_v14_eq _ _ _)) i, hargs⟩

end Cert.KernelIdeal.Val
end
-- ==== Proof.lean ====
/- The proof of the claim: the frames, the idealization's constants, and the values of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelFrame
public import proofs.«01_k».proof.Proof.KernelIdealFrame
public import proofs.«01_k».proof.Proof.Gen.ReferenceIdeal
public import proofs.«01_k».proof.Proof.Gen.ReferenceIdeal.Run
public import proofs.«01_k».proof.Proof.Gen.ReferenceIdeal.Read
public import proofs.«01_k».proof.Proof.ValClaim
public import proofs.«01_k».proof.Proof.Gen.Pre_well_posed
public import proofs.«01_k».proof.Proof.Gen.On_covered
public import Idealize.ShloMosaic.Adequacy
public import Idealize.ShloMosaic.Init

@[expose] public section

noncomputable section

namespace Cert.Proof

open Idealize.ShloMosaic Idealize.SL.Sem Cert.Kernel

/-- The constants the idealized kernel names are the f32 roundings the kernel prints. -/
theorem preserves : Cert.preserves_Kernel_KernelIdeal :=
  ⟨IdealRules.named_const.statement Cert.KernelIdeal.κ "two_inv_sd" .f32 0x3DD105EC#32 _ rfl,
    IdealRules.named_const.statement Cert.KernelIdeal.κ "sd" .f32 0x419CC471#32 _ rfl,
    IdealRules.named_const.statement Cert.KernelIdeal.κ "eps_inv_sdm1" .f32 0x3DC6D4BF#32 _ rfl,
    IdealRules.named_const.statement Cert.KernelIdeal.κ "inv15" .f32 0x3D888889#32 _ rfl,
    IdealRules.named_const.statement Cert.KernelIdeal.κ "inv_sd" .f32 0x3D5105EC#32 _ rfl⟩

/-- The reference's frame: its run leaves the arguments as they were, and it has no semaphore. -/
theorem frame_ReferenceIdeal : Cert.quiescent_ReferenceIdeal := by
  intro m ρ _
  exact (θ_run Cert.ReferenceIdeal.defs _ _).mono (fun r h => ⟨fun c => (h c).2.2.2.2.2.2,
    Idealize.ShloMosaic.sem_eq_zero_of_no_sems (by decide) r.2⟩) (Cert.ReferenceIdeal.Value.run m ρ)

/-- The reference's frame where the arguments are well posed. -/
theorem frame_ReferenceIdeal_pre [Cert.Pre_well_posed.Facts] : Cert.quiescent_ReferenceIdeal_pre_well_posed := by
  intro m ρ _
  exact (θ_run Cert.ReferenceIdeal.defs _ _).mono (fun r h => ⟨fun c => (h c).2.2.2.2.2.2,
    Idealize.ShloMosaic.sem_eq_zero_of_no_sems (by decide) r.2⟩) (Cert.ReferenceIdeal.Value.run m ρ)

/-- The certificate's claim. -/
theorem claim : Cert.Claim :=
  ⟨Cert.Kernel.Gen.facts, Cert.KernelIdeal.Gen.facts, Cert.ReferenceIdeal.Gen.facts, Cert.Pre_well_posed.Gen.facts,
    Cert.On_covered.Gen.facts,
    fun m ρ _ => Cert.Kernel.Run.frame m ρ, fun m ρ _ => Cert.KernelIdeal.Run.frame m ρ,
    fun m ρ _ => Cert.KernelIdeal.Run.frame m ρ,
    frame_ReferenceIdeal, frame_ReferenceIdeal_pre, preserves, Cert.KernelIdeal.Val.algebraic⟩

end Cert.Proof

end
